-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v442) = v0 c
          ∧ r.2.mem ((c.tc : Thread Cert.ReferenceIdeal.nD Cert.ReferenceIdeal.τ).loc Cert.ReferenceIdeal.main_v446) = v1 c
          ∧ r.2.mem ((c.tc : Thread Cert.ReferenceIdeal.nD Cert.ReferenceIdeal.τ).loc Cert.ReferenceIdeal.main_v449) = v2 c
          ∧ r.2.mem ((c.tc : Thread Cert.ReferenceIdeal.nD Cert.ReferenceIdeal.τ).loc Cert.ReferenceIdeal.main_v453) = v3 c
          ∧ r.2.mem ((c.tc : Thread Cert.ReferenceIdeal.nD Cert.ReferenceIdeal.τ).loc Cert.ReferenceIdeal.main_v456) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x640x2048 : Shape := ⟨3, ![3, 640, 2048]⟩
abbrev S3x640x5632 : Shape := ⟨3, ![3, 640, 5632]⟩
abbrev S32 : Shape := ⟨1, ![32]⟩
abbrev S_ : Shape := ⟨0, ![]⟩

class Facts : Prop where
  bitsLt_bf16_f32 : FTy.bits .bf16 < FTy.bits .f32
  bcast_S_S3x640x2048 : S_.BroadcastsInDim S3x640x2048 (![] : Fin 0 → Fin S3x640x2048.rank)
  reducesTo_S3x640x2048_S_d0_1_2 : S3x640x2048.ReducesTo [0, 1, 2] S_
  h_S_ : 0 < S_.numel
  bcast_S_S3x640x5632 : S_.BroadcastsInDim S3x640x5632 (![] : Fin 0 → Fin S3x640x5632.rank)
  reducesTo_S3x640x5632_S_d0_1_2 : S3x640x5632.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S3x640x2048 .bf16) (main_arg1 : FVec F S3x640x5632 .bf16) (main_arg2 : FVec F S32 .f32) (main_arg3 : IVec S3x640x5632 8) : IVec S_ 1 :=
  let main_v0 : FVec F S3x640x2048 .f32 := (extf .f32 · bitsLt_bf16_f32) main_arg0
  let main_v1 : FVec F S3x640x2048 .f32 := Host.absf main_v0
  let main_cst : FVec F S_ .f32 := constant S_ .f32 0x5D800000#32
  let main_v2 : FVec F S3x640x2048 .f32 := broadcastInDim S3x640x2048 ![] bcast_S_S3x640x2048 main_cst
  let main_v3 : IVec S3x640x2048 1 := cmpf .ole main_v1 main_v2
  let main_c : IVec S_ 1 := constantI S_ 1 1#1
  let main_v4 : IVec S_ 1 := (fun x v => Host.reduce IntOp.andi x v reducesTo_S3x640x2048_S_d0_1_2 h_S_) main_v3 main_c
  let main_v5 : FVec F S3x640x5632 .f32 := (extf .f32 · bitsLt_bf16_f32) main_arg1
  let main_v6 : FVec F S3x640x5632 .f32 := Host.absf main_v5
  let main_cst_0 : FVec F S_ .f32 := constant S_ .f32 0x5D800000#32
  let main_v7 : FVec F S3x640x5632 .f32 := broadcastInDim S3x640x5632 ![] bcast_S_S3x640x5632 main_cst_0
  let main_v8 : IVec S3x640x5632 1 := cmpf .ole main_v6 main_v7
  let main_c_1 : IVec S_ 1 := constantI S_ 1 1#1
  let main_v9 : IVec S_ 1 := (fun x v => Host.reduce IntOp.andi x v reducesTo_S3x640x5632_S_d0_1_2 h_S_) main_v8 main_c_1
  let main_v10 : IVec S_ 1 := andi main_v4 main_v9
  let main_v11 : FVec F S32 .f32 := Host.absf main_arg2
  let main_cst_2 : FVec F S_ .f32 := constant S_ .f32 0x5D800000#32
  let main_v12 : FVec F S32 .f32 := broadcastInDim S32 ![] bcast_S_S32 main_cst_2
  let main_v13 : IVec S32 1 := cmpf .ole main_v11 main_v12
  let main_c_3 : IVec S_ 1 := constantI S_ 1 1#1
  let main_v14 : IVec S_ 1 := (fun x v => Host.reduce IntOp.andi x v reducesTo_S32_S_d0 h_S_) main_v13 main_c_3
  let main_v15 : IVec S_ 1 := andi main_v10 main_v14
  main_v15
-- ==== Kernel.lean ====
abbrev S3x640x2048 : Shape := ⟨3, ![3, 640, 2048]⟩
abbrev S3x640x5632 : Shape := ⟨3, ![3, 640, 5632]⟩
abbrev S32 : Shape := ⟨1, ![32]⟩
abbrev S1920x2048 : Shape := ⟨2, ![1920, 2048]⟩
abbrev S1920x5632 : Shape := ⟨2, ![1920, 5632]⟩
abbrev S1x32 : Shape := ⟨2, ![1, 32]⟩
abbrev S5632x2048 : Shape := ⟨2, ![5632, 2048]⟩
abbrev S2048x960 : Shape := ⟨2, ![2048, 960]⟩
abbrev S2048x60 : Shape := ⟨2, ![2048, 60]⟩
abbrev S5632x960 : Shape := ⟨2, ![5632, 960]⟩
abbrev S5632x60 : Shape := ⟨2, ![5632, 60]⟩
abbrev S1920x256 : Shape := ⟨2, ![1920, 256]⟩
abbrev S256x2048 : Shape := ⟨2, ![256, 2048]⟩
abbrev S256x960 : Shape := ⟨2, ![256, 960]⟩
abbrev S256x60 : Shape := ⟨2, ![256, 60]⟩
abbrev S128x128 : Shape := ⟨2, ![128, 128]⟩
abbrev S8x1920x256 : Shape := ⟨3, ![8, 1920, 256]⟩
abbrev S256x1920 : Shape := ⟨2, ![256, 1920]⟩
abbrev S2x480x128 : Shape := ⟨3, ![2, 480, 128]⟩
abbrev S2x240x128 : Shape := ⟨3, ![2, 240, 128]⟩
abbrev S2x120x128 : Shape := ⟨3, ![2, 120, 128]⟩
abbrev S1x128 : Shape := ⟨2, ![1, 128]⟩
abbrev S128x256 : Shape := ⟨2, ![128, 256]⟩
abbrev S8x128 : Shape := ⟨2, ![8, 128]⟩
abbrev S255x8x128 : Shape := ⟨3, ![255, 8, 128]⟩
abbrev S1x8x128 : Shape := ⟨3, ![1, 8, 128]⟩
abbrev S16x128 : Shape := ⟨2, ![16, 128]⟩
abbrev S1x128x128 : Shape := ⟨3, ![1, 128, 128]⟩
abbrev S1x240x128 : Shape := ⟨3, ![1, 240, 128]⟩
abbrev S240x128 : Shape := ⟨2, ![240, 128]⟩
abbrev S960x128 : Shape := ⟨2, ![960, 128]⟩
abbrev S128x960 : Shape := ⟨2, ![128, 960]⟩
abbrev S1x60x128 : Shape := ⟨3, ![1, 60, 128]⟩
abbrev S60x128 : Shape := ⟨2, ![60, 128]⟩
abbrev S128x60 : Shape := ⟨2, ![128, 60]⟩
abbrev S1920x128 : Shape := ⟨2, ![1920, 128]⟩
abbrev S480x128 : Shape := ⟨2, ![480, 128]⟩
abbrev S1x480x128 : Shape := ⟨3, ![1, 480, 128]⟩
abbrev S1x1920x256 : Shape := ⟨3, ![1, 1920, 256]⟩
abbrev S256x256 : Shape := ⟨2, ![256, 256]⟩

abbrev nBuf : Space → Nat
  | .hbm => 13
  | .vmem => 23
  | .smem => 0
  | _ => 0

abbrev bufTy : (tb : Table) → Fin (tcTables nBuf tb) → BufTy
  | .hbm, ⟨0, _⟩ => ⟨S3x640x2048, .bf16⟩
  | .hbm, ⟨1, _⟩ => ⟨S3x640x5632, .bf16⟩
  | .hbm, ⟨2, _⟩ => ⟨S32, .f32⟩
  | .hbm, ⟨3, _⟩ => ⟨S3x640x5632, .i8⟩
  | .hbm, ⟨4, _⟩ => ⟨S1920x2048, .bf16⟩
  | .hbm, ⟨5, _⟩ => ⟨S1920x5632, .bf16⟩
  | .hbm, ⟨6, _⟩ => ⟨S1920x5632, .i8⟩
  | .hbm, ⟨7, _⟩ => ⟨S1x32, .f32⟩
  | .hbm, ⟨8, _⟩ => ⟨S5632x2048, .f32⟩
  | .hbm, ⟨9, _⟩ => ⟨S2048x960, .i8⟩
  | .hbm, ⟨10, _⟩ => ⟨S2048x60, .i8⟩
  | .hbm, ⟨11, _⟩ => ⟨S5632x960, .i8⟩
  | .hbm, ⟨12, _⟩ => ⟨S5632x60, .i8⟩
  | .local _ .vmem, ⟨0, _⟩ => ⟨S1920x256, .bf16⟩
  | .local _ .vmem, ⟨1, _⟩ => ⟨S1920x256, .bf16⟩
  | .local _ .vmem, ⟨2, _⟩ => ⟨S1920x256, .bf16⟩
  | .local _ .vmem, ⟨3, _⟩ => ⟨S1920x256, .bf16⟩
  | .local _ .vmem, ⟨4, _⟩ => ⟨S1x32, .f32⟩
  | .local _ .vmem, ⟨5, _⟩ => ⟨S1920x256, .i8⟩
  | .local _ .vmem, ⟨6, _⟩ => ⟨S1920x256, .i8⟩
  | .local _ .vmem, ⟨7, _⟩ => ⟨S256x2048, .f32⟩
  | .local _ .vmem, ⟨8, _⟩ => ⟨S256x2048, .f32⟩
  | .local _ .vmem, ⟨9, _⟩ => ⟨S256x960, .i8⟩
  | .local _ .vmem, ⟨10, _⟩ => ⟨S256x960, .i8⟩
  | .local _ .vmem, ⟨11, _⟩ => ⟨S256x60, .i8⟩
  | .local _ .vmem, ⟨12, _⟩ => ⟨S256x60, .i8⟩
  | .local _ .vmem, ⟨13, _⟩ => ⟨S256x960, .i8⟩
  | .local _ .vmem, ⟨14, _⟩ => ⟨S256x960, .i8⟩
  | .local _ .vmem, ⟨15, _⟩ => ⟨S256x60, .i8⟩
  | .local _ .vmem, ⟨16, _⟩ => ⟨S256x60, .i8⟩
  | .local _ .vmem, ⟨17, _⟩ => ⟨S128x128, .bf16⟩
  | .local _ .vmem, ⟨18, _⟩ => ⟨S8x1920x256, .bf16⟩
  | .local _ .vmem, ⟨19, _⟩ => ⟨S256x1920, .bf16⟩
  | .local _ .vmem, ⟨20, _⟩ => ⟨S2x480x128, .i32⟩
  | .local _ .vmem, ⟨21, _⟩ => ⟨S2x240x128, .i32⟩
  | .local _ .vmem, ⟨22, _⟩ => ⟨S2x120x128, .i32⟩
  | _, _ => ⟨S3x640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![30], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v896 : Index := Scalar.indexCast arg0
  let c0_265 : Index := 0#32
  let c0_266 : Index := 0#32
  ![v896.toNat, 0, 0]
def k0_off2 (i : grid0.Coords) : Fin 3 → Nat :=
  let arg0 : BitVec 32 := BitVec.ofNat 32 (i 0).val
  let v1783 : Index := Scalar.indexCast arg0
  let c0_548 : Index := 0#32
  let c128 : Index := 128#32
  ![v1783.toNat, 0, 128]
def k0_off3 (i : grid0.Coords) : Fin 3 → Nat :=
  let arg0 : BitVec 32 := BitVec.ofNat 32 (i 0).val
  let v2673 : Index := Scalar.indexCast arg0
  let c128_830 : Index := 128#32
  let c0_831 : Index := 0#32
  ![v2673.toNat, 128, 0]
def k0_off4 (i : grid0.Coords) : Fin 3 → Nat :=
  let arg0 : BitVec 32 := BitVec.ofNat 32 (i 0).val
  let v3560 : Index := Scalar.indexCast arg0
  let c128_1113 : Index := 128#32
  let c128_1114 : Index := 128#32
  ![v3560.toNat, 128, 128]
def k0_off5 (i : grid0.Coords) : Fin 3 → Nat :=
  let arg0 : BitVec 32 := BitVec.ofNat 32 (i 0).val
  let v4450 : Index := Scalar.indexCast arg0
  let c256_1396 : Index := 256#32
  let c0_1397 : Index := 0#32
  ![v4450.toNat, 256, 0]
def k0_off6 (i : grid0.Coords) : Fin 3 → Nat :=
  let arg0 : BitVec 32 := BitVec.ofNat 32 (i 0).val
  let v5337 : Index := Scalar.indexCast arg0
  let c256_1679 : Index := 256#32
  let c128_1680 : Index := 128#32
  ![v5337.toNat, 256, 128]
def k0_off7 (i : grid0.Coords) : Fin 3 → Nat :=
  let arg0 : BitVec 32 := BitVec.ofNat 32 (i 0).val
  let v6227 : Index := Scalar.indexCast arg0
  let c384_1961 : Index := 384#32
  let c0_1962 : Index := 0#32
  ![v6227.toNat, 384, 0]
def k0_off8 (i : grid0.Coords) : Fin 3 → Nat :=
  let arg0 : BitVec 32 := BitVec.ofNat 32 (i 0).val
  let v7114 : Index := Scalar.indexCast arg0
  let c384_2244 : Index := 384#32
  let c128_2245 : Index := 128#32
  ![v7114.toNat, 384, 128]
def k0_off9 (i : grid0.Coords) : Fin 3 → Nat :=
  let arg0 : BitVec 32 := BitVec.ofNat 32 (i 0).val
  let v8004 : Index := Scalar.indexCast arg0
  let c512_2527 : Index := 512#32
  let c0_2528 : Index := 0#32
  ![v8004.toNat, 512, 0]
def k0_off10 (i : grid0.Coords) : Fin 3 → Nat :=
  let arg0 : BitVec 32 := BitVec.ofNat 32 (i 0).val
  let v8891 : Index := Scalar.indexCast arg0
  let c512_2810 : Index := 512#32
  let c128_2811 : Index := 128#32
  ![v8891.toNat, 512, 128]
def k0_off11 (i : grid0.Coords) : Fin 3 → Nat :=
  let arg0 : BitVec 32 := BitVec.ofNat 32 (i 0).val
  let v9781 : Index := Scalar.indexCast arg0
  let c640_3092 : Index := 640#32
  let c0_3093 : Index := 0#32
  ![v9781.toNat, 640, 0]
def k0_off12 (i : grid0.Coords) : Fin 3 → Nat :=
  let arg0 : BitVec 32 := BitVec.ofNat 32 (i 0).val
  let v10668 : Index := Scalar.indexCast arg0
  let c640_3375 : Index := 640#32
  let c128_3376 : Index := 128#32
  ![v10668.toNat, 640, 128]
def k0_off13 (i : grid0.Coords) : Fin 3 → Nat :=
  let arg0 : BitVec 32 := BitVec.ofNat 32 (i 0).val
  let v11558 : Index := Scalar.indexCast arg0
  let c768_3658 : Index := 768#32
  let c0_3659 : Index := 0#32
  ![v11558.toNat, 768, 0]
def k0_off14 (i : grid0.Coords) : Fin 3 → Nat :=
  let arg0 : BitVec 32 := BitVec.ofNat 32 (i 0).val
  let v12445 : Index := Scalar.indexCast arg0
  let c768_3941 : Index := 768#32
  let c128_3942 : Index := 128#32
  ![v12445.toNat, 768, 128]
def k0_off15 (i : grid0.Coords) : Fin 3 → Nat :=
  let arg0 : BitVec 32 := BitVec.ofNat 32 (i 0).val
  let v13335 : Index := Scalar.indexCast arg0
  let c896_4223 : Index := 896#32
  let c0_4224 : Index := 0#32
  ![v13335.toNat, 896, 0]
def k0_off16 (i : grid0.Coords) : Fin 3 → Nat :=
  let arg0 : BitVec 32 := BitVec.ofNat 32 (i 0).val
  let v14222 : Index := Scalar.indexCast arg0
  let c896_4506 : Index := 896#32
  let c128_4507 : Index := 128#32
  ![v14222.toNat, 896, 128]
def k0_off17 (i : grid0.Coords) : Fin 3 → Nat :=
  let arg0 : BitVec 32 := BitVec.ofNat 32 (i 0).val
  let v15112 : Index := Scalar.indexCast arg0
  let c1024_4790 : Index := 1024#32
  let c0_4791 : Index := 0#32
  ![v15112.toNat, 1024, 0]
def k0_off18 (i : grid0.Coords) : Fin 3 → Nat :=
  let arg0 : BitVec 32 := BitVec.ofNat 32 (i 0).val
  let v15999 : Index := Scalar.indexCast arg0
  let c1024_5073 : Index := 1024#32
  let c128_5074 : Index := 128#32
  ![v15999.toNat, 1024, 128]
def k0_off19 (i : grid0.Coords) : Fin 3 → Nat :=
  let arg0 : BitVec 32 := BitVec.ofNat 32 (i 0).val
  let v16889 : Index := Scalar.indexCast arg0
  let c1152_5355 : Index := 1152#32
  let c0_5356 : Index := 0#32
  ![v16889.toNat, 1152, 0]
def k0_off20 (i : grid0.Coords) : Fin 3 → Nat :=
  let arg0 : BitVec 32 := BitVec.ofNat 32 (i 0).val
  let v17776 : Index := Scalar.indexCast arg0
  let c1152_5638 : Index := 1152#32
  let c128_5639 : Index := 128#32
  ![v17776.toNat, 1152, 128]
def k0_off21 (i : grid0.Coords) : Fin 3 → Nat :=
  let arg0 : BitVec 32 := BitVec.ofNat 32 (i 0).val
  let v18666 : Index := Scalar.indexCast arg0
  let c1280_5921 : Index := 1280#32
  let c0_5922 : Index := 0#32
  ![v18666.toNat, 1280, 0]
def k0_off22 (i : grid0.Coords) : Fin 3 → Nat :=
  let arg0 : BitVec 32 := BitVec.ofNat 32 (i 0).val
  let v19553 : Index := Scalar.indexCast arg0
  let c1280_6204 : Index := 1280#32
  let c128_6205 : Index := 128#32
  ![v19553.toNat, 1280, 128]
def k0_off23 (i : grid0.Coords) : Fin 3 → Nat :=
  let arg0 : BitVec 32 := BitVec.ofNat 32 (i 0).val
  let v20443 : Index := Scalar.indexCast arg0
  let c1408_6486 : Index := 1408#32
  let c0_6487 : Index := 0#32
  ![v20443.toNat, 1408, 0]
def k0_off24 (i : grid0.Coords) : Fin 3 → Nat :=
  let arg0 : BitVec 32 := BitVec.ofNat 32 (i 0).val
  let v21330 : Index := Scalar.indexCast arg0
  let c1408_6769 : Index := 1408#32
  let c128_6770 : Index := 128#32
  ![v21330.toNat, 1408, 128]
def k0_off25 (i : grid0.Coords) : Fin 3 → Nat :=
  let arg0 : BitVec 32 := BitVec.ofNat 32 (i 0).val
  let v22220 : Index := Scalar.indexCast arg0
  let c1536_7052 : Index := 1536#32
  let c0_7053 : Index := 0#32
  ![v22220.toNat, 1536, 0]
def k0_off26 (i : grid0.Coords) : Fin 3 → Nat :=
  let arg0 : BitVec 32 := BitVec.ofNat 32 (i 0).val
  let v23107 : Index := Scalar.indexCast arg0
  let c1536_7335 : Index := 1536#32
  let c128_7336 : Index := 128#32
  ![v23107.toNat, 1536, 128]
def k0_off27 (i : grid0.Coords) : Fin 3 → Nat :=
  let arg0 : BitVec 32 := BitVec.ofNat 32 (i 0).val
  let v23997 : Index := Scalar.indexCast arg0
  let c1664_7617 : Index := 1664#32
  let c0_7618 : Index := 0#32
  ![v23997.toNat, 1664, 0]
def k0_off28 (i : grid0.Coords) : Fin 3 → Nat :=
  let arg0 : BitVec 32 := BitVec.ofNat 32 (i 0).val
  let v24884 : Index := Scalar.indexCast arg0
  let c1664_7900 : Index := 1664#32
  let c128_7901 : Index := 128#32
  ![v24884.toNat, 1664, 128]
def k0_off29 (i : grid0.Coords) : Fin 3 → Nat :=
  let arg0 : BitVec 32 := BitVec.ofNat 32 (i 0).val
  let v25774 : Index := Scalar.indexCast arg0
  let c1792_8183 : Index := 1792#32
  let c0_8184 : Index := 0#32
  ![v25774.toNat, 1792, 0]
def k0_off30 (i : grid0.Coords) : Fin 3 → Nat :=
  let arg0 : BitVec 32 := BitVec.ofNat 32 (i 0).val
  let v26661 : Index := Scalar.indexCast arg0
  let c1792_8466 : Index := 1792#32
  let c128_8467 : Index := 128#32
  ![v26661.toNat, 1792, 128]
def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1920x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1920x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1920x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x960 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x60 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x960 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x60 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S3x640x2048 : Shape := ⟨3, ![3, 640, 2048]⟩
abbrev S3x640x5632 : Shape := ⟨3, ![3, 640, 5632]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S60x32x2048 : Shape := ⟨3, ![60, 32, 2048]⟩
abbrev S60x2048x32 : Shape := ⟨3, ![60, 2048, 32]⟩
abbrev S2048x60x32 : Shape := ⟨3, ![2048, 60, 32]⟩
abbrev S2048x60 : Shape := ⟨2, ![2048, 60]⟩
abbrev S254 : Shape := ⟨1, ![254]⟩
abbrev S2048x60x1 : Shape := ⟨3, ![2048, 60, 1]⟩
abbrev S1x1x254 : Shape := ⟨3, ![1, 1, 254]⟩
abbrev S2048x60x254 : Shape := ⟨3, ![2048, 60, 254]⟩
abbrev S2048x960x2 : Shape := ⟨3, ![2048, 960, 2]⟩
abbrev S2048x960x1 : Shape := ⟨3, ![2048, 960, 1]⟩
abbrev S2048x960 : Shape := ⟨2, ![2048, 960]⟩
abbrev S60x32x5632 : Shape := ⟨3, ![60, 32, 5632]⟩
abbrev S5632x60x32 : Shape := ⟨3, ![5632, 60, 32]⟩
abbrev S60x5632x32 : Shape := ⟨3, ![60, 5632, 32]⟩
abbrev S5632x60 : Shape := ⟨2, ![5632, 60]⟩
abbrev S5632x60x1 : Shape := ⟨3, ![5632, 60, 1]⟩
abbrev S5632x60x254 : Shape := ⟨3, ![5632, 60, 254]⟩
abbrev S5632x960x2 : Shape := ⟨3, ![5632, 960, 2]⟩
abbrev S5632x960x1 : Shape := ⟨3, ![5632, 960, 1]⟩
abbrev S5632x960 : Shape := ⟨2, ![5632, 960]⟩
abbrev S5632x60x16 : Shape := ⟨3, ![5632, 60, 16]⟩
abbrev S2048x60x16 : Shape := ⟨3, ![2048, 60, 16]⟩
abbrev S5632x2048 : Shape := ⟨2, ![5632, 2048]⟩

abbrev nBuf : Space → Nat
  | .hbm => 708
  | .vmem => 0
  | .smem => 0
  | _ => 0

abbrev hbmTy0_0 (i : Nat) : BufTy := match i % 128 with
  | 0 => ⟨S3x640x2048, .bf16⟩
  | 1 => ⟨S3x640x5632, .bf16⟩
  | 2 => ⟨S32, .f32⟩
  | 3 => ⟨S3x640x5632, .i8⟩
  | 4 => ⟨S32, .i32⟩
  | 5 => ⟨S32x1, .i32⟩
  | 6 => ⟨S1x32, .i32⟩
  | 7 => ⟨S32x32, .i32⟩
  | 8 => ⟨S32x32, .i32⟩
  | 9 => ⟨S32x32, .i32⟩
  | 10 => ⟨S32x32, .i32⟩
  | 11 => ⟨S_, .i32⟩
  | 12 => ⟨S32x32, .i32⟩
  | 13 => ⟨S32x32, .i32⟩
  | 14 => ⟨S_, .i32⟩
  | 15 => ⟨S32x32, .i32⟩
  | 16 => ⟨S32x32, .i32⟩
  | 17 => ⟨S_, .i32⟩
  | 18 => ⟨S32x32, .i32⟩
  | 19 => ⟨S32x32, .i32⟩
  | 20 => ⟨S32x32, .f32⟩
  | 21 => ⟨S1x32, .f32⟩
  | 22 => ⟨S32x32, .f32⟩
  | 23 => ⟨S32x32, .f32⟩
  | 24 => ⟨S_, .f32⟩
  | 25 => ⟨S32x32, .f32⟩
  | 26 => ⟨S32x32, .f32⟩
  | 27 => ⟨S3x640x2048, .f32⟩
  | 28 => ⟨S60x32x2048, .f32⟩
  | 29 => ⟨S60x2048x32, .f32⟩
  | 30 => ⟨S2048x60x32, .f32⟩
  | 31 => ⟨S2048x60x32, .f32⟩
  | 32 => ⟨S_, .f32⟩
  | 33 => ⟨S2048x60, .f32⟩
  | 34 => ⟨S_, .f32⟩
  | 35 => ⟨S2048x60, .f32⟩
  | 36 => ⟨S2048x60, .f32⟩
  | 37 => ⟨S254, .i32⟩
  | 38 => ⟨S_, .i32⟩
  | 39 => ⟨S254, .i32⟩
  | 40 => ⟨S254, .i32⟩
  | 41 => ⟨S254, .f32⟩
  | 42 => ⟨S_, .f32⟩
  | 43 => ⟨S254, .f32⟩
  | 44 => ⟨S254, .f32⟩
  | 45 => ⟨S2048x60x1, .f32⟩
  | 46 => ⟨S1x1x254, .f32⟩
  | 47 => ⟨S2048x60x254, .f32⟩
  | 48 => ⟨S2048x60x254, .f32⟩
  | 49 => ⟨S2048x60x254, .i1⟩
  | 50 => ⟨S2048x60x254, .i32⟩
  | 51 => ⟨S_, .i32⟩
  | 52 => ⟨S2048x60, .i32⟩
  | 53 => ⟨S_, .i32⟩
  | 54 => ⟨S2048x60, .i32⟩
  | 55 => ⟨S2048x60, .i32⟩
  | 56 => ⟨S_, .f32⟩
  | 57 => ⟨S2048x60, .f32⟩
  | 58 => ⟨S2048x60, .i1⟩
  | 59 => ⟨S_, .i32⟩
  | 60 => ⟨S_, .i32⟩
  | 61 => ⟨S2048x60, .i32⟩
  | 62 => ⟨S2048x60, .i32⟩
  | 63 => ⟨S2048x60, .i32⟩
  | 64 => ⟨S2048x60, .f32⟩
  | 65 => ⟨S_, .f32⟩
  | 66 => ⟨S2048x60, .f32⟩
  | 67 => ⟨S2048x60, .f32⟩
  | 68 => ⟨S2048x60x1, .f32⟩
  | 69 => ⟨S2048x60x32, .f32⟩
  | 70 => ⟨S2048x60x32, .f32⟩
  | 71 => ⟨S2048x60x32, .f32⟩
  | 72 => ⟨S_, .f32⟩
  | 73 => ⟨S2048x60x32, .f32⟩
  | 74 => ⟨S2048x60x32, .f32⟩
  | 75 => ⟨S_, .f32⟩
  | 76 => ⟨S2048x60x32, .f32⟩
  | 77 => ⟨S2048x60x32, .i1⟩
  | 78 => ⟨S2048x60x32, .i32⟩
  | 79 => ⟨S_, .f32⟩
  | 80 => ⟨S2048x60x32, .f32⟩
  | 81 => ⟨S2048x60x32, .i1⟩
  | 82 => ⟨S2048x60x32, .i32⟩
  | 83 => ⟨S2048x60x32, .i32⟩
  | 84 => ⟨S_, .f32⟩
  | 85 => ⟨S2048x60x32, .f32⟩
  | 86 => ⟨S2048x60x32, .i1⟩
  | 87 => ⟨S2048x60x32, .i32⟩
  | 88 => ⟨S2048x60x32, .i32⟩
  | 89 => ⟨S_, .f32⟩
  | 90 => ⟨S2048x60x32, .f32⟩
  | 91 => ⟨S2048x60x32, .i1⟩
  | 92 => ⟨S2048x60x32, .i32⟩
  | 93 => ⟨S2048x60x32, .i32⟩
  | 94 => ⟨S_, .f32⟩
  | 95 => ⟨S2048x60x32, .f32⟩
  | 96 => ⟨S2048x60x32, .i1⟩
  | 97 => ⟨S2048x60x32, .i32⟩
  | 98 => ⟨S2048x60x32, .i32⟩
  | 99 => ⟨S_, .f32⟩
  | 100 => ⟨S2048x60x32, .f32⟩
  | 101 => ⟨S2048x60x32, .i1⟩
  | 102 => ⟨S2048x60x32, .i32⟩
  | 103 => ⟨S2048x60x32, .i32⟩
  | 104 => ⟨S_, .f32⟩
  | 105 => ⟨S2048x60x32, .f32⟩
  | 106 => ⟨S2048x60x32, .i1⟩
  | 107 => ⟨S2048x60x32, .i32⟩
  | 108 => ⟨S2048x60x32, .i32⟩
  | 109 => ⟨S_, .f32⟩
  | 110 => ⟨S2048x60x32, .f32⟩
  | 111 => ⟨S2048x60x32, .i1⟩
  | 112 => ⟨S_, .i32⟩
  | 113 => ⟨S2048x60x32, .i32⟩
  | 114 => ⟨S2048x60x32, .i1⟩
  | 115 => ⟨S2048x60x32, .i1⟩
  | 116 => ⟨S2048x60x32, .i32⟩
  | 117 => ⟨S_, .i32⟩
  | 118 => ⟨S2048x60x32, .i32⟩
  | 119 => ⟨S2048x60x32, .i32⟩
  | 120 => ⟨S2048x60x32, .i32⟩
  | 121 => ⟨S2048x960x2, .i32⟩
  | 122 => ⟨S2048x960x1, .i32⟩
  | 123 => ⟨S2048x960, .i32⟩
  | 124 => ⟨S2048x960x1, .i32⟩
  | 125 => ⟨S2048x960, .i32⟩
  | 126 => ⟨S60x32x5632, .i8⟩
  | 127 => ⟨S5632x60x32, .i8⟩
  | _ => ⟨S3x640x2048, .bf16⟩

abbrev hbmTy0_1 (i : Nat) : BufTy := match i % 128 with
  | 0 => ⟨S3x640x5632, .f32⟩
  | 1 => ⟨S60x32x5632, .f32⟩
  | 2 => ⟨S60x5632x32, .f32⟩
  | 3 => ⟨S5632x60x32, .f32⟩
  | 4 => ⟨S5632x60x32, .f32⟩
  | 5 => ⟨S_, .f32⟩
  | 6 => ⟨S5632x60, .f32⟩
  | 7 => ⟨S_, .f32⟩
  | 8 => ⟨S5632x60, .f32⟩
  | 9 => ⟨S5632x60, .f32⟩
  | 10 => ⟨S254, .i32⟩
  | 11 => ⟨S_, .i32⟩
  | 12 => ⟨S254, .i32⟩
  | 13 => ⟨S254, .i32⟩
  | 14 => ⟨S254, .f32⟩
  | 15 => ⟨S_, .f32⟩
  | 16 => ⟨S254, .f32⟩
  | 17 => ⟨S254, .f32⟩
  | 18 => ⟨S5632x60x1, .f32⟩
  | 19 => ⟨S1x1x254, .f32⟩
  | 20 => ⟨S5632x60x254, .f32⟩
  | 21 => ⟨S5632x60x254, .f32⟩
  | 22 => ⟨S5632x60x254, .i1⟩
  | 23 => ⟨S5632x60x254, .i32⟩
  | 24 => ⟨S_, .i32⟩
  | 25 => ⟨S5632x60, .i32⟩
  | 26 => ⟨S_, .i32⟩
  | 27 => ⟨S5632x60, .i32⟩
  | 28 => ⟨S5632x60, .i32⟩
  | 29 => ⟨S_, .f32⟩
  | 30 => ⟨S5632x60, .f32⟩
  | 31 => ⟨S5632x60, .i1⟩
  | 32 => ⟨S_, .i32⟩
  | 33 => ⟨S_, .i32⟩
  | 34 => ⟨S5632x60, .i32⟩
  | 35 => ⟨S5632x60, .i32⟩
  | 36 => ⟨S5632x60, .i32⟩
  | 37 => ⟨S5632x60, .f32⟩
  | 38 => ⟨S_, .f32⟩
  | 39 => ⟨S5632x60, .f32⟩
  | 40 => ⟨S5632x60, .f32⟩
  | 41 => ⟨S5632x60x1, .f32⟩
  | 42 => ⟨S5632x60x32, .f32⟩
  | 43 => ⟨S5632x60x32, .f32⟩
  | 44 => ⟨S5632x60x32, .f32⟩
  | 45 => ⟨S_, .f32⟩
  | 46 => ⟨S5632x60x32, .f32⟩
  | 47 => ⟨S5632x60x32, .f32⟩
  | 48 => ⟨S_, .f32⟩
  | 49 => ⟨S5632x60x32, .f32⟩
  | 50 => ⟨S5632x60x32, .i1⟩
  | 51 => ⟨S5632x60x32, .i32⟩
  | 52 => ⟨S_, .i32⟩
  | 53 => ⟨S5632x60x32, .i32⟩
  | 54 => ⟨S5632x60x32, .i32⟩
  | 55 => ⟨S_, .f32⟩
  | 56 => ⟨S5632x60x32, .f32⟩
  | 57 => ⟨S5632x60x32, .i1⟩
  | 58 => ⟨S5632x60x32, .i32⟩
  | 59 => ⟨S5632x60x32, .i32⟩
  | 60 => ⟨S_, .f32⟩
  | 61 => ⟨S5632x60x32, .f32⟩
  | 62 => ⟨S5632x60x32, .i1⟩
  | 63 => ⟨S5632x60x32, .i32⟩
  | 64 => ⟨S5632x60x32, .i32⟩
  | 65 => ⟨S_, .f32⟩
  | 66 => ⟨S5632x60x32, .f32⟩
  | 67 => ⟨S5632x60x32, .i1⟩
  | 68 => ⟨S5632x60x32, .i32⟩
  | 69 => ⟨S5632x60x32, .i32⟩
  | 70 => ⟨S_, .f32⟩
  | 71 => ⟨S5632x60x32, .f32⟩
  | 72 => ⟨S5632x60x32, .i1⟩
  | 73 => ⟨S5632x60x32, .i32⟩
  | 74 => ⟨S5632x60x32, .i32⟩
  | 75 => ⟨S_, .f32⟩
  | 76 => ⟨S5632x60x32, .f32⟩
  | 77 => ⟨S5632x60x32, .i1⟩
  | 78 => ⟨S5632x60x32, .i32⟩
  | 79 => ⟨S5632x60x32, .i32⟩
  | 80 => ⟨S_, .f32⟩
  | 81 => ⟨S5632x60x32, .f32⟩
  | 82 => ⟨S5632x60x32, .i1⟩
  | 83 => ⟨S5632x60x32, .i32⟩
  | 84 => ⟨S5632x60x32, .i32⟩
  | 85 => ⟨S_, .f32⟩
  | 86 => ⟨S5632x60x32, .f32⟩
  | 87 => ⟨S_, .f32⟩
  | 88 => ⟨S5632x60x32, .f32⟩
  | 89 => ⟨S_, .f32⟩
  | 90 => ⟨S5632x60x32, .f32⟩
  | 91 => ⟨S5632x60x32, .i1⟩
  | 92 => ⟨S_, .f32⟩
  | 93 => ⟨S_, .f32⟩
  | 94 => ⟨S5632x60x32, .f32⟩
  | 95 => ⟨S5632x60x32, .f32⟩
  | 96 => ⟨S_, .f32⟩
  | 97 => ⟨S5632x60x32, .f32⟩
  | 98 => ⟨S5632x60x32, .i1⟩
  | 99 => ⟨S_, .f32⟩
  | 100 => ⟨S_, .f32⟩
  | 101 => ⟨S5632x60x32, .f32⟩
  | 102 => ⟨S5632x60x32, .f32⟩
  | 103 => ⟨S_, .f32⟩
  | 104 => ⟨S5632x60x32, .f32⟩
  | 105 => ⟨S5632x60x32, .i1⟩
  | 106 => ⟨S_, .f32⟩
  | 107 => ⟨S_, .f32⟩
  | 108 => ⟨S5632x60x32, .f32⟩
  | 109 => ⟨S5632x60x32, .f32⟩
  | 110 => ⟨S_, .f32⟩
  | 111 => ⟨S5632x60x32, .f32⟩
  | 112 => ⟨S5632x60x32, .i1⟩
  | 113 => ⟨S_, .f32⟩
  | 114 => ⟨S_, .f32⟩
  | 115 => ⟨S5632x60x32, .f32⟩
  | 116 => ⟨S5632x60x32, .f32⟩
  | 117 => ⟨S_, .f32⟩
  | 118 => ⟨S5632x60x32, .f32⟩
  | 119 => ⟨S5632x60x32, .i1⟩
  | 120 => ⟨S_, .f32⟩
  | 121 => ⟨S_, .f32⟩
  | 122 => ⟨S5632x60x32, .f32⟩
  | 123 => ⟨S5632x60x32, .f32⟩
  | 124 => ⟨S_, .f32⟩
  | 125 => ⟨S5632x60x32, .f32⟩
  | 126 => ⟨S5632x60x32, .i1⟩
  | 127 => ⟨S_, .f32⟩
  | _ => ⟨S3x640x2048, .bf16⟩

abbrev hbmTy0_2 (i : Nat) : BufTy := match i % 128 with
  | 0 => ⟨S_, .f32⟩
  | 1 => ⟨S5632x60x32, .f32⟩
  | 2 => ⟨S5632x60x32, .f32⟩
  | 3 => ⟨S_, .f32⟩
  | 4 => ⟨S5632x60x32, .f32⟩
  | 5 => ⟨S5632x60x32, .i1⟩
  | 6 => ⟨S_, .f32⟩
  | 7 => ⟨S_, .f32⟩
  | 8 => ⟨S5632x60x32, .f32⟩
  | 9 => ⟨S5632x60x32, .f32⟩
  | 10 => ⟨S_, .f32⟩
  | 11 => ⟨S5632x60x32, .f32⟩
  | 12 => ⟨S5632x60x32, .i1⟩
  | 13 => ⟨S_, .f32⟩
  | 14 => ⟨S_, .f32⟩
  | 15 => ⟨S5632x60x32, .f32⟩
  | 16 => ⟨S5632x60x32, .f32⟩
  | 17 => ⟨S_, .f32⟩
  | 18 => ⟨S5632x60x32, .f32⟩
  | 19 => ⟨S5632x60x32, .i1⟩
  | 20 => ⟨S_, .f32⟩
  | 21 => ⟨S_, .f32⟩
  | 22 => ⟨S5632x60x32, .f32⟩
  | 23 => ⟨S5632x60x32, .f32⟩
  | 24 => ⟨S_, .f32⟩
  | 25 => ⟨S5632x60x32, .f32⟩
  | 26 => ⟨S5632x60x32, .i1⟩
  | 27 => ⟨S_, .f32⟩
  | 28 => ⟨S_, .f32⟩
  | 29 => ⟨S5632x60x32, .f32⟩
  | 30 => ⟨S5632x60x32, .f32⟩
  | 31 => ⟨S_, .f32⟩
  | 32 => ⟨S5632x60x32, .f32⟩
  | 33 => ⟨S5632x60x32, .i1⟩
  | 34 => ⟨S_, .f32⟩
  | 35 => ⟨S_, .f32⟩
  | 36 => ⟨S5632x60x32, .f32⟩
  | 37 => ⟨S5632x60x32, .f32⟩
  | 38 => ⟨S_, .f32⟩
  | 39 => ⟨S5632x60x32, .f32⟩
  | 40 => ⟨S5632x60x32, .i1⟩
  | 41 => ⟨S_, .f32⟩
  | 42 => ⟨S_, .f32⟩
  | 43 => ⟨S5632x60x32, .f32⟩
  | 44 => ⟨S5632x60x32, .f32⟩
  | 45 => ⟨S_, .f32⟩
  | 46 => ⟨S5632x60x32, .f32⟩
  | 47 => ⟨S5632x60x32, .i1⟩
  | 48 => ⟨S_, .f32⟩
  | 49 => ⟨S_, .f32⟩
  | 50 => ⟨S5632x60x32, .f32⟩
  | 51 => ⟨S5632x60x32, .f32⟩
  | 52 => ⟨S_, .f32⟩
  | 53 => ⟨S5632x60x32, .f32⟩
  | 54 => ⟨S5632x60x32, .i1⟩
  | 55 => ⟨S_, .f32⟩
  | 56 => ⟨S_, .f32⟩
  | 57 => ⟨S5632x60x32, .f32⟩
  | 58 => ⟨S5632x60x32, .f32⟩
  | 59 => ⟨S5632x60x32, .i1⟩
  | 60 => ⟨S5632x60x32, .f32⟩
  | 61 => ⟨S5632x60x32, .f32⟩
  | 62 => ⟨S_, .f32⟩
  | 63 => ⟨S_, .f32⟩
  | 64 => ⟨S5632x60x32, .f32⟩
  | 65 => ⟨S5632x60x32, .f32⟩
  | 66 => ⟨S5632x60x32, .f32⟩
  | 67 => ⟨S_, .f32⟩
  | 68 => ⟨S_, .f32⟩
  | 69 => ⟨S5632x60x32, .f32⟩
  | 70 => ⟨S5632x60x32, .f32⟩
  | 71 => ⟨S5632x60x32, .i32⟩
  | 72 => ⟨S5632x60x32, .f32⟩
  | 73 => ⟨S_, .f32⟩
  | 74 => ⟨S5632x60x32, .f32⟩
  | 75 => ⟨S5632x60x32, .f32⟩
  | 76 => ⟨S_, .f32⟩
  | 77 => ⟨S5632x60x32, .f32⟩
  | 78 => ⟨S5632x60x32, .f32⟩
  | 79 => ⟨S5632x60x32, .i1⟩
  | 80 => ⟨S5632x60x32, .i32⟩
  | 81 => ⟨S5632x60x32, .i32⟩
  | 82 => ⟨S_, .f32⟩
  | 83 => ⟨S5632x60x32, .f32⟩
  | 84 => ⟨S5632x60x32, .i1⟩
  | 85 => ⟨S_, .i32⟩
  | 86 => ⟨S5632x60x32, .i32⟩
  | 87 => ⟨S5632x60x32, .i1⟩
  | 88 => ⟨S5632x60x32, .i1⟩
  | 89 => ⟨S5632x60x32, .i32⟩
  | 90 => ⟨S_, .i32⟩
  | 91 => ⟨S5632x60x32, .i32⟩
  | 92 => ⟨S5632x60x32, .i32⟩
  | 93 => ⟨S5632x60x32, .i32⟩
  | 94 => ⟨S5632x960x2, .i32⟩
  | 95 => ⟨S5632x960x1, .i32⟩
  | 96 => ⟨S5632x960, .i32⟩
  | 97 => ⟨S5632x960x1, .i32⟩
  | 98 => ⟨S5632x960, .i32⟩
  | 99 => ⟨S5632x60, .f32⟩
  | 100 => ⟨S_, .f32⟩
  | 101 => ⟨S5632x60, .f32⟩
  | 102 => ⟨S5632x60, .f32⟩
  | 103 => ⟨S5632x60, .bf16⟩
  | 104 => ⟨S_, .bf16⟩
  | 105 => ⟨S5632x960, .bf16⟩
  | 106 => ⟨S_, .i32⟩
  | 107 => ⟨S5632x960, .i32⟩
  | 108 => ⟨S5632x960, .i32⟩
  | 109 => ⟨S_, .i32⟩
  | 110 => ⟨S5632x960, .i32⟩
  | 111 => ⟨S5632x960, .i1⟩
  | 112 => ⟨S_, .bf16⟩
  | 113 => ⟨S5632x960, .bf16⟩
  | 114 => ⟨S5632x960, .bf16⟩
  | 115 => ⟨S_, .i32⟩
  | 116 => ⟨S5632x960, .i32⟩
  | 117 => ⟨S5632x960, .i32⟩
  | 118 => ⟨S_, .i32⟩
  | 119 => ⟨S5632x960, .i32⟩
  | 120 => ⟨S5632x960, .i1⟩
  | 121 => ⟨S_, .bf16⟩
  | 122 => ⟨S5632x960, .bf16⟩
  | 123 => ⟨S5632x960, .bf16⟩
  | 124 => ⟨S_, .i32⟩
  | 125 => ⟨S5632x960, .i32⟩
  | 126 => ⟨S5632x960, .i32⟩
  | 127 => ⟨S_, .i32⟩
  | _ => ⟨S3x640x2048, .bf16⟩

abbrev hbmTy0_3 (i : Nat) : BufTy := match i % 128 with
  | 0 => ⟨S5632x960, .i32⟩
  | 1 => ⟨S5632x960, .i1⟩
  | 2 => ⟨S_, .bf16⟩
  | 3 => ⟨S5632x960, .bf16⟩
  | 4 => ⟨S5632x960, .bf16⟩
  | 5 => ⟨S_, .i32⟩
  | 6 => ⟨S5632x960, .i32⟩
  | 7 => ⟨S5632x960, .i32⟩
  | 8 => ⟨S_, .i32⟩
  | 9 => ⟨S5632x960, .i32⟩
  | 10 => ⟨S5632x960, .i1⟩
  | 11 => ⟨S_, .bf16⟩
  | 12 => ⟨S5632x960, .bf16⟩
  | 13 => ⟨S5632x960, .bf16⟩
  | 14 => ⟨S_, .i32⟩
  | 15 => ⟨S5632x960, .i32⟩
  | 16 => ⟨S5632x960, .i32⟩
  | 17 => ⟨S_, .i32⟩
  | 18 => ⟨S5632x960, .i32⟩
  | 19 => ⟨S5632x960, .i1⟩
  | 20 => ⟨S_, .bf16⟩
  | 21 => ⟨S5632x960, .bf16⟩
  | 22 => ⟨S5632x960, .bf16⟩
  | 23 => ⟨S_, .i32⟩
  | 24 => ⟨S5632x960, .i32⟩
  | 25 => ⟨S5632x960, .i32⟩
  | 26 => ⟨S_, .i32⟩
  | 27 => ⟨S5632x960, .i32⟩
  | 28 => ⟨S5632x960, .i1⟩
  | 29 => ⟨S_, .bf16⟩
  | 30 => ⟨S5632x960, .bf16⟩
  | 31 => ⟨S5632x960, .bf16⟩
  | 32 => ⟨S_, .i32⟩
  | 33 => ⟨S5632x960, .i32⟩
  | 34 => ⟨S5632x960, .i32⟩
  | 35 => ⟨S_, .i32⟩
  | 36 => ⟨S5632x960, .i32⟩
  | 37 => ⟨S5632x960, .i1⟩
  | 38 => ⟨S_, .bf16⟩
  | 39 => ⟨S5632x960, .bf16⟩
  | 40 => ⟨S5632x960, .bf16⟩
  | 41 => ⟨S_, .i32⟩
  | 42 => ⟨S5632x960, .i32⟩
  | 43 => ⟨S5632x960, .i32⟩
  | 44 => ⟨S_, .i32⟩
  | 45 => ⟨S5632x960, .i32⟩
  | 46 => ⟨S5632x960, .i1⟩
  | 47 => ⟨S5632x960, .bf16⟩
  | 48 => ⟨S5632x960, .bf16⟩
  | 49 => ⟨S5632x60x16, .bf16⟩
  | 50 => ⟨S5632x60x1, .bf16⟩
  | 51 => ⟨S5632x60x16, .bf16⟩
  | 52 => ⟨S5632x60x16, .bf16⟩
  | 53 => ⟨S5632x960, .bf16⟩
  | 54 => ⟨S2048x60, .f32⟩
  | 55 => ⟨S_, .f32⟩
  | 56 => ⟨S2048x60, .f32⟩
  | 57 => ⟨S2048x60, .f32⟩
  | 58 => ⟨S2048x60, .bf16⟩
  | 59 => ⟨S_, .bf16⟩
  | 60 => ⟨S2048x960, .bf16⟩
  | 61 => ⟨S_, .i32⟩
  | 62 => ⟨S2048x960, .i32⟩
  | 63 => ⟨S2048x960, .i32⟩
  | 64 => ⟨S_, .i32⟩
  | 65 => ⟨S2048x960, .i32⟩
  | 66 => ⟨S2048x960, .i1⟩
  | 67 => ⟨S_, .bf16⟩
  | 68 => ⟨S2048x960, .bf16⟩
  | 69 => ⟨S2048x960, .bf16⟩
  | 70 => ⟨S_, .i32⟩
  | 71 => ⟨S2048x960, .i32⟩
  | 72 => ⟨S2048x960, .i32⟩
  | 73 => ⟨S_, .i32⟩
  | 74 => ⟨S2048x960, .i32⟩
  | 75 => ⟨S2048x960, .i1⟩
  | 76 => ⟨S_, .bf16⟩
  | 77 => ⟨S2048x960, .bf16⟩
  | 78 => ⟨S2048x960, .bf16⟩
  | 79 => ⟨S_, .i32⟩
  | 80 => ⟨S2048x960, .i32⟩
  | 81 => ⟨S2048x960, .i32⟩
  | 82 => ⟨S_, .i32⟩
  | 83 => ⟨S2048x960, .i32⟩
  | 84 => ⟨S2048x960, .i1⟩
  | 85 => ⟨S_, .bf16⟩
  | 86 => ⟨S2048x960, .bf16⟩
  | 87 => ⟨S2048x960, .bf16⟩
  | 88 => ⟨S_, .i32⟩
  | 89 => ⟨S2048x960, .i32⟩
  | 90 => ⟨S2048x960, .i32⟩
  | 91 => ⟨S_, .i32⟩
  | 92 => ⟨S2048x960, .i32⟩
  | 93 => ⟨S2048x960, .i1⟩
  | 94 => ⟨S_, .bf16⟩
  | 95 => ⟨S2048x960, .bf16⟩
  | 96 => ⟨S2048x960, .bf16⟩
  | 97 => ⟨S_, .i32⟩
  | 98 => ⟨S2048x960, .i32⟩
  | 99 => ⟨S2048x960, .i32⟩
  | 100 => ⟨S_, .i32⟩
  | 101 => ⟨S2048x960, .i32⟩
  | 102 => ⟨S2048x960, .i1⟩
  | 103 => ⟨S_, .bf16⟩
  | 104 => ⟨S2048x960, .bf16⟩
  | 105 => ⟨S2048x960, .bf16⟩
  | 106 => ⟨S_, .i32⟩
  | 107 => ⟨S2048x960, .i32⟩
  | 108 => ⟨S2048x960, .i32⟩
  | 109 => ⟨S_, .i32⟩
  | 110 => ⟨S2048x960, .i32⟩
  | 111 => ⟨S2048x960, .i1⟩
  | 112 => ⟨S_, .bf16⟩
  | 113 => ⟨S2048x960, .bf16⟩
  | 114 => ⟨S2048x960, .bf16⟩
  | 115 => ⟨S_, .i32⟩
  | 116 => ⟨S2048x960, .i32⟩
  | 117 => ⟨S2048x960, .i32⟩
  | 118 => ⟨S_, .i32⟩
  | 119 => ⟨S2048x960, .i32⟩
  | 120 => ⟨S2048x960, .i1⟩
  | 121 => ⟨S_, .bf16⟩
  | 122 => ⟨S2048x960, .bf16⟩
  | 123 => ⟨S2048x960, .bf16⟩
  | 124 => ⟨S_, .i32⟩
  | 125 => ⟨S2048x960, .i32⟩
  | 126 => ⟨S2048x960, .i32⟩
  | 127 => ⟨S_, .i32⟩
  | _ => ⟨S3x640x2048, .bf16⟩

abbrev hbmTy0_4 (i : Nat) : BufTy := match i % 128 with
  | 0 => ⟨S2048x960, .i32⟩
  | 1 => ⟨S2048x960, .i1⟩
  | 2 => ⟨S2048x960, .bf16⟩
  | 3 => ⟨S2048x960, .bf16⟩
  | 4 => ⟨S2048x60x16, .bf16⟩
  | 5 => ⟨S2048x60x1, .bf16⟩
  | 6 => ⟨S2048x60x16, .bf16⟩
  | 7 => ⟨S2048x60x16, .bf16⟩
  | 8 => ⟨S2048x960, .bf16⟩
  | 9 => ⟨S5632x2048, .f32⟩
  | 10 => ⟨S5632x60, .f32⟩
  | 11 => ⟨S_, .f32⟩
  | 12 => ⟨S5632x60, .f32⟩
  | 13 => ⟨S5632x60, .f32⟩
  | 14 => ⟨S5632x60, .bf16⟩
  | 15 => ⟨S_, .bf16⟩
  | 16 => ⟨S5632x960, .bf16⟩
  | 17 => ⟨S_, .i32⟩
  | 18 => ⟨S5632x960, .i32⟩
  | 19 => ⟨S5632x960, .i32⟩
  | 20 => ⟨S_, .i32⟩
  | 21 => ⟨S5632x960, .i32⟩
  | 22 => ⟨S5632x960, .i1⟩
  | 23 => ⟨S_, .bf16⟩
  | 24 => ⟨S5632x960, .bf16⟩
  | 25 => ⟨S5632x960, .bf16⟩
  | 26 => ⟨S_, .i32⟩
  | 27 => ⟨S5632x960, .i32⟩
  | 28 => ⟨S5632x960, .i32⟩
  | 29 => ⟨S_, .i32⟩
  | 30 => ⟨S5632x960, .i32⟩
  | 31 => ⟨S5632x960, .i1⟩
  | 32 => ⟨S_, .bf16⟩
  | 33 => ⟨S5632x960, .bf16⟩
  | 34 => ⟨S5632x960, .bf16⟩
  | 35 => ⟨S_, .i32⟩
  | 36 => ⟨S5632x960, .i32⟩
  | 37 => ⟨S5632x960, .i32⟩
  | 38 => ⟨S_, .i32⟩
  | 39 => ⟨S5632x960, .i32⟩
  | 40 => ⟨S5632x960, .i1⟩
  | 41 => ⟨S_, .bf16⟩
  | 42 => ⟨S5632x960, .bf16⟩
  | 43 => ⟨S5632x960, .bf16⟩
  | 44 => ⟨S_, .i32⟩
  | 45 => ⟨S5632x960, .i32⟩
  | 46 => ⟨S5632x960, .i32⟩
  | 47 => ⟨S_, .i32⟩
  | 48 => ⟨S5632x960, .i32⟩
  | 49 => ⟨S5632x960, .i1⟩
  | 50 => ⟨S_, .bf16⟩
  | 51 => ⟨S5632x960, .bf16⟩
  | 52 => ⟨S5632x960, .bf16⟩
  | 53 => ⟨S_, .i32⟩
  | 54 => ⟨S5632x960, .i32⟩
  | 55 => ⟨S5632x960, .i32⟩
  | 56 => ⟨S_, .i32⟩
  | 57 => ⟨S5632x960, .i32⟩
  | 58 => ⟨S5632x960, .i1⟩
  | 59 => ⟨S_, .bf16⟩
  | 60 => ⟨S5632x960, .bf16⟩
  | 61 => ⟨S5632x960, .bf16⟩
  | 62 => ⟨S_, .i32⟩
  | 63 => ⟨S5632x960, .i32⟩
  | 64 => ⟨S5632x960, .i32⟩
  | 65 => ⟨S_, .i32⟩
  | 66 => ⟨S5632x960, .i32⟩
  | 67 => ⟨S5632x960, .i1⟩
  | 68 => ⟨S_, .bf16⟩
  | 69 => ⟨S5632x960, .bf16⟩
  | 70 => ⟨S5632x960, .bf16⟩
  | 71 => ⟨S_, .i32⟩
  | 72 => ⟨S5632x960, .i32⟩
  | 73 => ⟨S5632x960, .i32⟩
  | 74 => ⟨S_, .i32⟩
  | 75 => ⟨S5632x960, .i32⟩
  | 76 => ⟨S5632x960, .i1⟩
  | 77 => ⟨S_, .bf16⟩
  | 78 => ⟨S5632x960, .bf16⟩
  | 79 => ⟨S5632x960, .bf16⟩
  | 80 => ⟨S_, .i32⟩
  | 81 => ⟨S5632x960, .i32⟩
  | 82 => ⟨S5632x960, .i32⟩
  | 83 => ⟨S_, .i32⟩
  | 84 => ⟨S5632x960, .i32⟩
  | 85 => ⟨S5632x960, .i1⟩
  | 86 => ⟨S5632x960, .bf16⟩
  | 87 => ⟨S5632x960, .bf16⟩
  | 88 => ⟨S5632x60x16, .bf16⟩
  | 89 => ⟨S5632x60x1, .bf16⟩
  | 90 => ⟨S5632x60x16, .bf16⟩
  | 91 => ⟨S5632x60x16, .bf16⟩
  | 92 => ⟨S5632x960, .bf16⟩
  | 93 => ⟨S2048x60, .f32⟩
  | 94 => ⟨S_, .f32⟩
  | 95 => ⟨S2048x60, .f32⟩
  | 96 => ⟨S2048x60, .f32⟩
  | 97 => ⟨S2048x60, .bf16⟩
  | 98 => ⟨S_, .bf16⟩
  | 99 => ⟨S2048x960, .bf16⟩
  | 100 => ⟨S_, .i32⟩
  | 101 => ⟨S2048x960, .i32⟩
  | 102 => ⟨S2048x960, .i32⟩
  | 103 => ⟨S_, .i32⟩
  | 104 => ⟨S2048x960, .i32⟩
  | 105 => ⟨S2048x960, .i1⟩
  | 106 => ⟨S_, .bf16⟩
  | 107 => ⟨S2048x960, .bf16⟩
  | 108 => ⟨S2048x960, .bf16⟩
  | 109 => ⟨S_, .i32⟩
  | 110 => ⟨S2048x960, .i32⟩
  | 111 => ⟨S2048x960, .i32⟩
  | 112 => ⟨S_, .i32⟩
  | 113 => ⟨S2048x960, .i32⟩
  | 114 => ⟨S2048x960, .i1⟩
  | 115 => ⟨S_, .bf16⟩
  | 116 => ⟨S2048x960, .bf16⟩
  | 117 => ⟨S2048x960, .bf16⟩
  | 118 => ⟨S_, .i32⟩
  | 119 => ⟨S2048x960, .i32⟩
  | 120 => ⟨S2048x960, .i32⟩
  | 121 => ⟨S_, .i32⟩
  | 122 => ⟨S2048x960, .i32⟩
  | 123 => ⟨S2048x960, .i1⟩
  | 124 => ⟨S_, .bf16⟩
  | 125 => ⟨S2048x960, .bf16⟩
  | 126 => ⟨S2048x960, .bf16⟩
  | 127 => ⟨S_, .i32⟩
  | _ => ⟨S3x640x2048, .bf16⟩

abbrev hbmTy0_5 (i : Nat) : BufTy := match i % 128 with
  | 0 => ⟨S2048x960, .i32⟩
  | 1 => ⟨S2048x960, .i32⟩
  | 2 => ⟨S_, .i32⟩
  | 3 => ⟨S2048x960, .i32⟩
  | 4 => ⟨S2048x960, .i1⟩
  | 5 => ⟨S_, .bf16⟩
  | 6 => ⟨S2048x960, .bf16⟩
  | 7 => ⟨S2048x960, .bf16⟩
  | 8 => ⟨S_, .i32⟩
  | 9 => ⟨S2048x960, .i32⟩
  | 10 => ⟨S2048x960, .i32⟩
  | 11 => ⟨S_, .i32⟩
  | 12 => ⟨S2048x960, .i32⟩
  | 13 => ⟨S2048x960, .i1⟩
  | 14 => ⟨S_, .bf16⟩
  | 15 => ⟨S2048x960, .bf16⟩
  | 16 => ⟨S2048x960, .bf16⟩
  | 17 => ⟨S_, .i32⟩
  | 18 => ⟨S2048x960, .i32⟩
  | 19 => ⟨S2048x960, .i32⟩
  | 20 => ⟨S_, .i32⟩
  | 21 => ⟨S2048x960, .i32⟩
  | 22 => ⟨S2048x960, .i1⟩
  | 23 => ⟨S_, .bf16⟩
  | 24 => ⟨S2048x960, .bf16⟩
  | 25 => ⟨S2048x960, .bf16⟩
  | 26 => ⟨S_, .i32⟩
  | 27 => ⟨S2048x960, .i32⟩
  | 28 => ⟨S2048x960, .i32⟩
  | 29 => ⟨S_, .i32⟩
  | 30 => ⟨S2048x960, .i32⟩
  | 31 => ⟨S2048x960, .i1⟩
  | 32 => ⟨S_, .bf16⟩
  | 33 => ⟨S2048x960, .bf16⟩
  | 34 => ⟨S2048x960, .bf16⟩
  | 35 => ⟨S_, .i32⟩
  | 36 => ⟨S2048x960, .i32⟩
  | 37 => ⟨S2048x960, .i32⟩
  | 38 => ⟨S_, .i32⟩
  | 39 => ⟨S2048x960, .i32⟩
  | 40 => ⟨S2048x960, .i1⟩
  | 41 => ⟨S2048x960, .bf16⟩
  | 42 => ⟨S2048x960, .bf16⟩
  | 43 => ⟨S2048x60x16, .bf16⟩
  | 44 => ⟨S2048x60x1, .bf16⟩
  | 45 => ⟨S2048x60x16, .bf16⟩
  | 46 => ⟨S2048x60x16, .bf16⟩
  | 47 => ⟨S2048x960, .bf16⟩
  | 48 => ⟨S5632x2048, .f32⟩
  | 49 => ⟨S5632x2048, .f32⟩
  | 50 => ⟨S_, .i32⟩
  | 51 => ⟨S2048x960, .i32⟩
  | 52 => ⟨S2048x960, .i32⟩
  | 53 => ⟨S2048x960, .i32⟩
  | 54 => ⟨S2048x960, .i8⟩
  | 55 => ⟨S_, .i32⟩
  | 56 => ⟨S2048x60, .i32⟩
  | 57 => ⟨S2048x60, .i32⟩
  | 58 => ⟨S2048x60, .i8⟩
  | 59 => ⟨S_, .i32⟩
  | 60 => ⟨S5632x960, .i32⟩
  | 61 => ⟨S5632x960, .i32⟩
  | 62 => ⟨S5632x960, .i32⟩
  | 63 => ⟨S5632x960, .i8⟩
  | 64 => ⟨S_, .i32⟩
  | 65 => ⟨S5632x60, .i32⟩
  | 66 => ⟨S5632x60, .i32⟩
  | 67 => ⟨S5632x60, .i8⟩
  | _ => ⟨S3x640x2048, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S3x640x2048, .bf16⟩

abbrev bufTy : (tb : Table) → Fin (tcTables nBuf tb) → BufTy
  | .hbm, ⟨i, _⟩ => hbmTy i
  | _, _ => ⟨S3x640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_c_9 : Ref sig .tc := ⟨.hbm, 59, rfl⟩
abbrev main_call0_v0 : Ref sig .tc := ⟨.hbm, 60, rfl⟩
abbrev main_call0_v1 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_15 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_18 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_19 : Ref sig .tc := ⟨.hbm, 109, rfl⟩
abbrev main_v82 : Ref sig .tc := ⟨.hbm, 110, rfl⟩
abbrev main_v83 : Ref sig .tc := ⟨.hbm, 111, rfl⟩
abbrev main_c_20 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_21 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_22 : Ref sig .tc := ⟨.hbm, 133, rfl⟩
abbrev main_v103 : Ref sig .tc := ⟨.hbm, 134, rfl⟩
abbrev main_cst_23 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c_24 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_25 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_26 : Ref sig .tc := ⟨.hbm, 152, rfl⟩
abbrev main_v118 : Ref sig .tc := ⟨.hbm, 153, rfl⟩
abbrev main_c_27 : Ref sig .tc := ⟨.hbm, 154, rfl⟩
abbrev main_v119 : Ref sig .tc := ⟨.hbm, 155, rfl⟩
abbrev main_v120 : Ref sig .tc := ⟨.hbm, 156, rfl⟩
abbrev main_cst_28 : Ref sig .tc := ⟨.hbm, 157, rfl⟩
abbrev main_v121 : Ref sig .tc := ⟨.hbm, 158, rfl⟩
abbrev main_v122 : Ref sig .tc := ⟨.hbm, 159, rfl⟩
abbrev main_c_29 : Ref sig .tc := ⟨.hbm, 160, rfl⟩
abbrev main_call1_v0 : Ref sig .tc := ⟨.hbm, 161, rfl⟩
abbrev main_call1_v1 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_30 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_31 : Ref sig .tc := ⟨.hbm, 173, rfl⟩
abbrev main_v132 : Ref sig .tc := ⟨.hbm, 174, rfl⟩
abbrev main_v133 : Ref sig .tc := ⟨.hbm, 175, rfl⟩
abbrev main_cst_32 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_33 : Ref sig .tc := ⟨.hbm, 180, rfl⟩
abbrev main_v137 : Ref sig .tc := ⟨.hbm, 181, rfl⟩
abbrev main_v138 : Ref sig .tc := ⟨.hbm, 182, rfl⟩
abbrev main_cst_34 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_35 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_36 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_37 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_38 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_39 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_40 : Ref sig .tc := ⟨.hbm, 213, rfl⟩
abbrev main_v163 : Ref sig .tc := ⟨.hbm, 214, rfl⟩
abbrev main_cst_41 : Ref sig .tc := ⟨.hbm, 215, rfl⟩
abbrev main_v164 : Ref sig .tc := ⟨.hbm, 216, rfl⟩
abbrev main_cst_42 : Ref sig .tc := ⟨.hbm, 217, rfl⟩
abbrev main_v165 : Ref sig .tc := ⟨.hbm, 218, rfl⟩
abbrev main_v166 : Ref sig .tc := ⟨.hbm, 219, rfl⟩
abbrev main_cst_43 : Ref sig .tc := ⟨.hbm, 220, rfl⟩
abbrev main_call2_v0 : Ref sig .tc := ⟨.hbm, 221, rfl⟩
abbrev main_call2_v1 : Ref sig .tc := ⟨.hbm, 222, rfl⟩
abbrev main_v167 : Ref sig .tc := ⟨.hbm, 223, rfl⟩
abbrev main_cst_44 : Ref sig .tc := ⟨.hbm, 224, rfl⟩
abbrev main_v168 : Ref sig .tc := ⟨.hbm, 225, rfl⟩
abbrev main_v169 : Ref sig .tc := ⟨.hbm, 226, rfl⟩
abbrev main_cst_45 : Ref sig .tc := ⟨.hbm, 227, rfl⟩
abbrev main_call3_v0 : Ref sig .tc := ⟨.hbm, 228, rfl⟩
abbrev main_call3_v1 : Ref sig .tc := ⟨.hbm, 229, rfl⟩
abbrev main_v170 : Ref sig .tc := ⟨.hbm, 230, rfl⟩
abbrev main_cst_46 : Ref sig .tc := ⟨.hbm, 231, rfl⟩
abbrev main_v171 : Ref sig .tc := ⟨.hbm, 232, rfl⟩
abbrev main_v172 : Ref sig .tc := ⟨.hbm, 233, rfl⟩
abbrev main_cst_47 : Ref sig .tc := ⟨.hbm, 234, rfl⟩
abbrev main_call4_v0 : Ref sig .tc := ⟨.hbm, 235, rfl⟩
abbrev main_call4_v1 : Ref sig .tc := ⟨.hbm, 236, rfl⟩
abbrev main_v173 : Ref sig .tc := ⟨.hbm, 237, rfl⟩
abbrev main_cst_48 : Ref sig .tc := ⟨.hbm, 238, rfl⟩
abbrev main_v174 : Ref sig .tc := ⟨.hbm, 239, rfl⟩
abbrev main_v175 : Ref sig .tc := ⟨.hbm, 240, rfl⟩
abbrev main_cst_49 : Ref sig .tc := ⟨.hbm, 241, rfl⟩
abbrev main_call5_v0 : Ref sig .tc := ⟨.hbm, 242, rfl⟩
abbrev main_call5_v1 : Ref sig .tc := ⟨.hbm, 243, rfl⟩
abbrev main_v176 : Ref sig .tc := ⟨.hbm, 244, rfl⟩
abbrev main_cst_50 : Ref sig .tc := ⟨.hbm, 245, rfl⟩
abbrev main_v177 : Ref sig .tc := ⟨.hbm, 246, rfl⟩
abbrev main_v178 : Ref sig .tc := ⟨.hbm, 247, rfl⟩
abbrev main_cst_51 : Ref sig .tc := ⟨.hbm, 248, rfl⟩
abbrev main_call6_v0 : Ref sig .tc := ⟨.hbm, 249, rfl⟩
abbrev main_call6_v1 : Ref sig .tc := ⟨.hbm, 250, rfl⟩
abbrev main_v179 : Ref sig .tc := ⟨.hbm, 251, rfl⟩
abbrev main_cst_52 : Ref sig .tc := ⟨.hbm, 252, rfl⟩
abbrev main_v180 : Ref sig .tc := ⟨.hbm, 253, rfl⟩
abbrev main_v181 : Ref sig .tc := ⟨.hbm, 254, rfl⟩
abbrev main_cst_53 : Ref sig .tc := ⟨.hbm, 255, rfl⟩
abbrev main_call7_v0 : Ref sig .tc := ⟨.hbm, 256, rfl⟩
abbrev main_call7_v1 : Ref sig .tc := ⟨.hbm, 257, rfl⟩
abbrev main_v182 : Ref sig .tc := ⟨.hbm, 258, rfl⟩
abbrev main_cst_54 : Ref sig .tc := ⟨.hbm, 259, rfl⟩
abbrev main_v183 : Ref sig .tc := ⟨.hbm, 260, rfl⟩
abbrev main_v184 : Ref sig .tc := ⟨.hbm, 261, rfl⟩
abbrev main_cst_55 : Ref sig .tc := ⟨.hbm, 262, rfl⟩
abbrev main_call8_v0 : Ref sig .tc := ⟨.hbm, 263, rfl⟩
abbrev main_call8_v1 : Ref sig .tc := ⟨.hbm, 264, rfl⟩
abbrev main_v185 : Ref sig .tc := ⟨.hbm, 265, rfl⟩
abbrev main_cst_56 : Ref sig .tc := ⟨.hbm, 266, rfl⟩
abbrev main_v186 : Ref sig .tc := ⟨.hbm, 267, rfl⟩
abbrev main_v187 : Ref sig .tc := ⟨.hbm, 268, rfl⟩
abbrev main_cst_57 : Ref sig .tc := ⟨.hbm, 269, rfl⟩
abbrev main_call9_v0 : Ref sig .tc := ⟨.hbm, 270, rfl⟩
abbrev main_call9_v1 : Ref sig .tc := ⟨.hbm, 271, rfl⟩
abbrev main_v188 : Ref sig .tc := ⟨.hbm, 272, rfl⟩
abbrev main_cst_58 : Ref sig .tc := ⟨.hbm, 273, rfl⟩
abbrev main_v189 : Ref sig .tc := ⟨.hbm, 274, rfl⟩
abbrev main_v190 : Ref sig .tc := ⟨.hbm, 275, rfl⟩
abbrev main_cst_59 : Ref sig .tc := ⟨.hbm, 276, rfl⟩
abbrev main_call10_v0 : Ref sig .tc := ⟨.hbm, 277, rfl⟩
abbrev main_call10_v1 : Ref sig .tc := ⟨.hbm, 278, rfl⟩
abbrev main_v191 : Ref sig .tc := ⟨.hbm, 279, rfl⟩
abbrev main_cst_60 : Ref sig .tc := ⟨.hbm, 280, rfl⟩
abbrev main_v192 : Ref sig .tc := ⟨.hbm, 281, rfl⟩
abbrev main_v193 : Ref sig .tc := ⟨.hbm, 282, rfl⟩
abbrev main_cst_61 : Ref sig .tc := ⟨.hbm, 283, rfl⟩
abbrev main_call11_v0 : Ref sig .tc := ⟨.hbm, 284, rfl⟩
abbrev main_call11_v1 : Ref sig .tc := ⟨.hbm, 285, rfl⟩
abbrev main_v194 : Ref sig .tc := ⟨.hbm, 286, rfl⟩
abbrev main_cst_62 : Ref sig .tc := ⟨.hbm, 287, rfl⟩
abbrev main_v195 : Ref sig .tc := ⟨.hbm, 288, rfl⟩
abbrev main_v196 : Ref sig .tc := ⟨.hbm, 289, rfl⟩
abbrev main_cst_63 : Ref sig .tc := ⟨.hbm, 290, rfl⟩
abbrev main_call12_v0 : Ref sig .tc := ⟨.hbm, 291, rfl⟩
abbrev main_call12_v1 : Ref sig .tc := ⟨.hbm, 292, rfl⟩
abbrev main_v197 : Ref sig .tc := ⟨.hbm, 293, rfl⟩
abbrev main_cst_64 : Ref sig .tc := ⟨.hbm, 294, rfl⟩
abbrev main_v198 : Ref sig .tc := ⟨.hbm, 295, rfl⟩
abbrev main_v199 : Ref sig .tc := ⟨.hbm, 296, rfl⟩
abbrev main_cst_65 : Ref sig .tc := ⟨.hbm, 297, rfl⟩
abbrev main_call13_v0 : Ref sig .tc := ⟨.hbm, 298, rfl⟩
abbrev main_call13_v1 : Ref sig .tc := ⟨.hbm, 299, rfl⟩
abbrev main_v200 : Ref sig .tc := ⟨.hbm, 300, rfl⟩
abbrev main_cst_66 : Ref sig .tc := ⟨.hbm, 301, rfl⟩
abbrev main_v201 : Ref sig .tc := ⟨.hbm, 302, rfl⟩
abbrev main_v202 : Ref sig .tc := ⟨.hbm, 303, rfl⟩
abbrev main_cst_67 : Ref sig .tc := ⟨.hbm, 304, rfl⟩
abbrev main_call14_v0 : Ref sig .tc := ⟨.hbm, 305, rfl⟩
abbrev main_call14_v1 : Ref sig .tc := ⟨.hbm, 306, rfl⟩
abbrev main_v203 : Ref sig .tc := ⟨.hbm, 307, rfl⟩
abbrev main_cst_68 : Ref sig .tc := ⟨.hbm, 308, rfl⟩
abbrev main_v204 : Ref sig .tc := ⟨.hbm, 309, rfl⟩
abbrev main_v205 : Ref sig .tc := ⟨.hbm, 310, rfl⟩
abbrev main_cst_69 : Ref sig .tc := ⟨.hbm, 311, rfl⟩
abbrev main_call15_v0 : Ref sig .tc := ⟨.hbm, 312, rfl⟩
abbrev main_call15_v1 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_cst_70 : Ref sig .tc := ⟨.hbm, 318, rfl⟩
abbrev main_call16_v0 : Ref sig .tc := ⟨.hbm, 319, rfl⟩
abbrev main_call16_v1 : Ref sig .tc := ⟨.hbm, 320, rfl⟩
abbrev main_v210 : Ref sig .tc := ⟨.hbm, 321, rfl⟩
abbrev main_v211 : Ref sig .tc := ⟨.hbm, 322, rfl⟩
abbrev main_cst_71 : Ref sig .tc := ⟨.hbm, 323, rfl⟩
abbrev main_call17_v0 : Ref sig .tc := ⟨.hbm, 324, rfl⟩
abbrev main_call17_v1 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_cst_72 : Ref sig .tc := ⟨.hbm, 329, rfl⟩
abbrev main_v215 : Ref sig .tc := ⟨.hbm, 330, rfl⟩
abbrev main_v216 : Ref sig .tc := ⟨.hbm, 331, rfl⟩
abbrev main_cst_73 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_cst_74 : Ref sig .tc := ⟨.hbm, 338, rfl⟩
abbrev main_v222 : Ref sig .tc := ⟨.hbm, 339, rfl⟩
abbrev main_v223 : Ref sig .tc := ⟨.hbm, 340, rfl⟩
abbrev main_c_75 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_c_76 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_cst_77 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_cst_78 : Ref sig .tc := ⟨.hbm, 360, rfl⟩
abbrev main_v240 : Ref sig .tc := ⟨.hbm, 361, rfl⟩
abbrev main_c_79 : Ref sig .tc := ⟨.hbm, 362, rfl⟩
abbrev main_v241 : Ref sig .tc := ⟨.hbm, 363, rfl⟩
abbrev main_v242 : Ref sig .tc := ⟨.hbm, 364, rfl⟩
abbrev main_c_80 : Ref sig .tc := ⟨.hbm, 365, rfl⟩
abbrev main_v243 : Ref sig .tc := ⟨.hbm, 366, rfl⟩
abbrev main_v244 : Ref sig .tc := ⟨.hbm, 367, rfl⟩
abbrev main_cst_81 : Ref sig .tc := ⟨.hbm, 368, rfl⟩
abbrev main_call18_v0 : Ref sig .tc := ⟨.hbm, 369, rfl⟩
abbrev main_v245 : Ref sig .tc := ⟨.hbm, 370, rfl⟩
abbrev main_c_82 : Ref sig .tc := ⟨.hbm, 371, rfl⟩
abbrev main_v246 : Ref sig .tc := ⟨.hbm, 372, rfl⟩
abbrev main_v247 : Ref sig .tc := ⟨.hbm, 373, rfl⟩
abbrev main_c_83 : Ref sig .tc := ⟨.hbm, 374, rfl⟩
abbrev main_v248 : Ref sig .tc := ⟨.hbm, 375, rfl⟩
abbrev main_v249 : Ref sig .tc := ⟨.hbm, 376, rfl⟩
abbrev main_cst_84 : Ref sig .tc := ⟨.hbm, 377, rfl⟩
abbrev main_call19_v0 : Ref sig .tc := ⟨.hbm, 378, rfl⟩
abbrev main_v250 : Ref sig .tc := ⟨.hbm, 379, rfl⟩
abbrev main_c_85 : Ref sig .tc := ⟨.hbm, 380, rfl⟩
abbrev main_v251 : Ref sig .tc := ⟨.hbm, 381, rfl⟩
abbrev main_v252 : Ref sig .tc := ⟨.hbm, 382, rfl⟩
abbrev main_c_86 : Ref sig .tc := ⟨.hbm, 383, rfl⟩
abbrev main_v253 : Ref sig .tc := ⟨.hbm, 384, rfl⟩
abbrev main_v254 : Ref sig .tc := ⟨.hbm, 385, rfl⟩
abbrev main_cst_87 : Ref sig .tc := ⟨.hbm, 386, rfl⟩
abbrev main_call20_v0 : Ref sig .tc := ⟨.hbm, 387, rfl⟩
abbrev main_v255 : Ref sig .tc := ⟨.hbm, 388, rfl⟩
abbrev main_c_88 : Ref sig .tc := ⟨.hbm, 389, rfl⟩
abbrev main_v256 : Ref sig .tc := ⟨.hbm, 390, rfl⟩
abbrev main_v257 : Ref sig .tc := ⟨.hbm, 391, rfl⟩
abbrev main_c_89 : Ref sig .tc := ⟨.hbm, 392, rfl⟩
abbrev main_v258 : Ref sig .tc := ⟨.hbm, 393, rfl⟩
abbrev main_v259 : Ref sig .tc := ⟨.hbm, 394, rfl⟩
abbrev main_cst_90 : Ref sig .tc := ⟨.hbm, 395, rfl⟩
abbrev main_call21_v0 : Ref sig .tc := ⟨.hbm, 396, rfl⟩
abbrev main_v260 : Ref sig .tc := ⟨.hbm, 397, rfl⟩
abbrev main_c_91 : Ref sig .tc := ⟨.hbm, 398, rfl⟩
abbrev main_v261 : Ref sig .tc := ⟨.hbm, 399, rfl⟩
abbrev main_v262 : Ref sig .tc := ⟨.hbm, 400, rfl⟩
abbrev main_c_92 : Ref sig .tc := ⟨.hbm, 401, rfl⟩
abbrev main_v263 : Ref sig .tc := ⟨.hbm, 402, rfl⟩
abbrev main_v264 : Ref sig .tc := ⟨.hbm, 403, rfl⟩
abbrev main_cst_93 : Ref sig .tc := ⟨.hbm, 404, rfl⟩
abbrev main_call22_v0 : Ref sig .tc := ⟨.hbm, 405, rfl⟩
abbrev main_v265 : Ref sig .tc := ⟨.hbm, 406, rfl⟩
abbrev main_c_94 : Ref sig .tc := ⟨.hbm, 407, rfl⟩
abbrev main_v266 : Ref sig .tc := ⟨.hbm, 408, rfl⟩
abbrev main_v267 : Ref sig .tc := ⟨.hbm, 409, rfl⟩
abbrev main_c_95 : Ref sig .tc := ⟨.hbm, 410, rfl⟩
abbrev main_v268 : Ref sig .tc := ⟨.hbm, 411, rfl⟩
abbrev main_v269 : Ref sig .tc := ⟨.hbm, 412, rfl⟩
abbrev main_cst_96 : Ref sig .tc := ⟨.hbm, 413, rfl⟩
abbrev main_call23_v0 : Ref sig .tc := ⟨.hbm, 414, rfl⟩
abbrev main_v270 : Ref sig .tc := ⟨.hbm, 415, rfl⟩
abbrev main_c_97 : Ref sig .tc := ⟨.hbm, 416, rfl⟩
abbrev main_v271 : Ref sig .tc := ⟨.hbm, 417, rfl⟩
abbrev main_v272 : Ref sig .tc := ⟨.hbm, 418, rfl⟩
abbrev main_c_98 : Ref sig .tc := ⟨.hbm, 419, rfl⟩
abbrev main_v273 : Ref sig .tc := ⟨.hbm, 420, rfl⟩
abbrev main_v274 : Ref sig .tc := ⟨.hbm, 421, rfl⟩
abbrev main_cst_99 : Ref sig .tc := ⟨.hbm, 422, rfl⟩
abbrev main_call24_v0 : Ref sig .tc := ⟨.hbm, 423, rfl⟩
abbrev main_v275 : Ref sig .tc := ⟨.hbm, 424, rfl⟩
abbrev main_c_100 : Ref sig .tc := ⟨.hbm, 425, rfl⟩
abbrev main_v276 : Ref sig .tc := ⟨.hbm, 426, rfl⟩
abbrev main_v277 : Ref sig .tc := ⟨.hbm, 427, rfl⟩
abbrev main_c_101 : Ref sig .tc := ⟨.hbm, 428, rfl⟩
abbrev main_v278 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_v287 : Ref sig .tc := ⟨.hbm, 438, rfl⟩
abbrev main_cst_102 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_cst_103 : Ref sig .tc := ⟨.hbm, 443, rfl⟩
abbrev main_v291 : Ref sig .tc := ⟨.hbm, 444, rfl⟩
abbrev main_c_104 : Ref sig .tc := ⟨.hbm, 445, rfl⟩
abbrev main_v292 : Ref sig .tc := ⟨.hbm, 446, rfl⟩
abbrev main_v293 : Ref sig .tc := ⟨.hbm, 447, rfl⟩
abbrev main_c_105 : Ref sig .tc := ⟨.hbm, 448, rfl⟩
abbrev main_v294 : Ref sig .tc := ⟨.hbm, 449, rfl⟩
abbrev main_v295 : Ref sig .tc := ⟨.hbm, 450, rfl⟩
abbrev main_cst_106 : Ref sig .tc := ⟨.hbm, 451, rfl⟩
abbrev main_call26_v0 : Ref sig .tc := ⟨.hbm, 452, rfl⟩
abbrev main_v296 : Ref sig .tc := ⟨.hbm, 453, rfl⟩
abbrev main_c_107 : Ref sig .tc := ⟨.hbm, 454, rfl⟩
abbrev main_v297 : Ref sig .tc := ⟨.hbm, 455, rfl⟩
abbrev main_v298 : Ref sig .tc := ⟨.hbm, 456, rfl⟩
abbrev main_c_108 : Ref sig .tc := ⟨.hbm, 457, rfl⟩
abbrev main_v299 : Ref sig .tc := ⟨.hbm, 458, rfl⟩
abbrev main_v300 : Ref sig .tc := ⟨.hbm, 459, rfl⟩
abbrev main_cst_109 : Ref sig .tc := ⟨.hbm, 460, rfl⟩
abbrev main_call27_v0 : Ref sig .tc := ⟨.hbm, 461, rfl⟩
abbrev main_v301 : Ref sig .tc := ⟨.hbm, 462, rfl⟩
abbrev main_c_110 : Ref sig .tc := ⟨.hbm, 463, rfl⟩
abbrev main_v302 : Ref sig .tc := ⟨.hbm, 464, rfl⟩
abbrev main_v303 : Ref sig .tc := ⟨.hbm, 465, rfl⟩
abbrev main_c_111 : Ref sig .tc := ⟨.hbm, 466, rfl⟩
abbrev main_v304 : Ref sig .tc := ⟨.hbm, 467, rfl⟩
abbrev main_v305 : Ref sig .tc := ⟨.hbm, 468, rfl⟩
abbrev main_cst_112 : Ref sig .tc := ⟨.hbm, 469, rfl⟩
abbrev main_call28_v0 : Ref sig .tc := ⟨.hbm, 470, rfl⟩
abbrev main_v306 : Ref sig .tc := ⟨.hbm, 471, rfl⟩
abbrev main_c_113 : Ref sig .tc := ⟨.hbm, 472, rfl⟩
abbrev main_v307 : Ref sig .tc := ⟨.hbm, 473, rfl⟩
abbrev main_v308 : Ref sig .tc := ⟨.hbm, 474, rfl⟩
abbrev main_c_114 : Ref sig .tc := ⟨.hbm, 475, rfl⟩
abbrev main_v309 : Ref sig .tc := ⟨.hbm, 476, rfl⟩
abbrev main_v310 : Ref sig .tc := ⟨.hbm, 477, rfl⟩
abbrev main_cst_115 : Ref sig .tc := ⟨.hbm, 478, rfl⟩
abbrev main_call29_v0 : Ref sig .tc := ⟨.hbm, 479, rfl⟩
abbrev main_v311 : Ref sig .tc := ⟨.hbm, 480, rfl⟩
abbrev main_c_116 : Ref sig .tc := ⟨.hbm, 481, rfl⟩
abbrev main_v312 : Ref sig .tc := ⟨.hbm, 482, rfl⟩
abbrev main_v313 : Ref sig .tc := ⟨.hbm, 483, rfl⟩
abbrev main_c_117 : Ref sig .tc := ⟨.hbm, 484, rfl⟩
abbrev main_v314 : Ref sig .tc := ⟨.hbm, 485, rfl⟩
abbrev main_v315 : Ref sig .tc := ⟨.hbm, 486, rfl⟩
abbrev main_cst_118 : Ref sig .tc := ⟨.hbm, 487, rfl⟩
abbrev main_call30_v0 : Ref sig .tc := ⟨.hbm, 488, rfl⟩
abbrev main_v316 : Ref sig .tc := ⟨.hbm, 489, rfl⟩
abbrev main_c_119 : Ref sig .tc := ⟨.hbm, 490, rfl⟩
abbrev main_v317 : Ref sig .tc := ⟨.hbm, 491, rfl⟩
abbrev main_v318 : Ref sig .tc := ⟨.hbm, 492, rfl⟩
abbrev main_c_120 : Ref sig .tc := ⟨.hbm, 493, rfl⟩
abbrev main_v319 : Ref sig .tc := ⟨.hbm, 494, rfl⟩
abbrev main_v320 : Ref sig .tc := ⟨.hbm, 495, rfl⟩
abbrev main_cst_121 : Ref sig .tc := ⟨.hbm, 496, rfl⟩
abbrev main_call31_v0 : Ref sig .tc := ⟨.hbm, 497, rfl⟩
abbrev main_v321 : Ref sig .tc := ⟨.hbm, 498, rfl⟩
abbrev main_c_122 : Ref sig .tc := ⟨.hbm, 499, rfl⟩
abbrev main_v322 : Ref sig .tc := ⟨.hbm, 500, rfl⟩
abbrev main_v323 : Ref sig .tc := ⟨.hbm, 501, rfl⟩
abbrev main_c_123 : Ref sig .tc := ⟨.hbm, 502, rfl⟩
abbrev main_v324 : Ref sig .tc := ⟨.hbm, 503, rfl⟩
abbrev main_v325 : Ref sig .tc := ⟨.hbm, 504, rfl⟩
abbrev main_cst_124 : Ref sig .tc := ⟨.hbm, 505, rfl⟩
abbrev main_call32_v0 : Ref sig .tc := ⟨.hbm, 506, rfl⟩
abbrev main_v326 : Ref sig .tc := ⟨.hbm, 507, rfl⟩
abbrev main_c_125 : Ref sig .tc := ⟨.hbm, 508, rfl⟩
abbrev main_v327 : Ref sig .tc := ⟨.hbm, 509, rfl⟩
abbrev main_v328 : Ref sig .tc := ⟨.hbm, 510, rfl⟩
abbrev main_c_126 : Ref sig .tc := ⟨.hbm, 511, rfl⟩
abbrev main_v329 : Ref sig .tc := ⟨.hbm, 512, rfl⟩
abbrev main_v330 : Ref sig .tc := ⟨.hbm, 513, rfl⟩
abbrev main_v331 : Ref sig .tc := ⟨.hbm, 514, rfl⟩
abbrev main_v332 : Ref sig .tc := ⟨.hbm, 515, rfl⟩
abbrev main_v333 : Ref sig .tc := ⟨.hbm, 516, rfl⟩
abbrev main_v334 : Ref sig .tc := ⟨.hbm, 517, rfl⟩
abbrev main_v335 : Ref sig .tc := ⟨.hbm, 518, rfl⟩
abbrev main_v336 : Ref sig .tc := ⟨.hbm, 519, rfl⟩
abbrev main_v337 : Ref sig .tc := ⟨.hbm, 520, rfl⟩
abbrev main_v338 : Ref sig .tc := ⟨.hbm, 521, rfl⟩
abbrev main_v339 : Ref sig .tc := ⟨.hbm, 522, rfl⟩
abbrev main_cst_127 : Ref sig .tc := ⟨.hbm, 523, rfl⟩
abbrev main_v340 : Ref sig .tc := ⟨.hbm, 524, rfl⟩
abbrev main_v341 : Ref sig .tc := ⟨.hbm, 525, rfl⟩
abbrev main_v342 : Ref sig .tc := ⟨.hbm, 526, rfl⟩
abbrev main_cst_128 : Ref sig .tc := ⟨.hbm, 527, rfl⟩
abbrev main_v343 : Ref sig .tc := ⟨.hbm, 528, rfl⟩
abbrev main_c_129 : Ref sig .tc := ⟨.hbm, 529, rfl⟩
abbrev main_v344 : Ref sig .tc := ⟨.hbm, 530, rfl⟩
abbrev main_v345 : Ref sig .tc := ⟨.hbm, 531, rfl⟩
abbrev main_c_130 : Ref sig .tc := ⟨.hbm, 532, rfl⟩
abbrev main_v346 : Ref sig .tc := ⟨.hbm, 533, rfl⟩
abbrev main_v347 : Ref sig .tc := ⟨.hbm, 534, rfl⟩
abbrev main_cst_131 : Ref sig .tc := ⟨.hbm, 535, rfl⟩
abbrev main_call34_v0 : Ref sig .tc := ⟨.hbm, 536, rfl⟩
abbrev main_v348 : Ref sig .tc := ⟨.hbm, 537, rfl⟩
abbrev main_c_132 : Ref sig .tc := ⟨.hbm, 538, rfl⟩
abbrev main_v349 : Ref sig .tc := ⟨.hbm, 539, rfl⟩
abbrev main_v350 : Ref sig .tc := ⟨.hbm, 540, rfl⟩
abbrev main_c_133 : Ref sig .tc := ⟨.hbm, 541, rfl⟩
abbrev main_v351 : Ref sig .tc := ⟨.hbm, 542, rfl⟩
abbrev main_v352 : Ref sig .tc := ⟨.hbm, 543, rfl⟩
abbrev main_cst_134 : Ref sig .tc := ⟨.hbm, 544, rfl⟩
abbrev main_call35_v0 : Ref sig .tc := ⟨.hbm, 545, rfl⟩
abbrev main_v353 : Ref sig .tc := ⟨.hbm, 546, rfl⟩
abbrev main_c_135 : Ref sig .tc := ⟨.hbm, 547, rfl⟩
abbrev main_v354 : Ref sig .tc := ⟨.hbm, 548, rfl⟩
abbrev main_v355 : Ref sig .tc := ⟨.hbm, 549, rfl⟩
abbrev main_c_136 : Ref sig .tc := ⟨.hbm, 550, rfl⟩
abbrev main_v356 : Ref sig .tc := ⟨.hbm, 551, rfl⟩
abbrev main_v357 : Ref sig .tc := ⟨.hbm, 552, rfl⟩
abbrev main_cst_137 : Ref sig .tc := ⟨.hbm, 553, rfl⟩
abbrev main_call36_v0 : Ref sig .tc := ⟨.hbm, 554, rfl⟩
abbrev main_v358 : Ref sig .tc := ⟨.hbm, 555, rfl⟩
abbrev main_c_138 : Ref sig .tc := ⟨.hbm, 556, rfl⟩
abbrev main_v359 : Ref sig .tc := ⟨.hbm, 557, rfl⟩
abbrev main_v360 : Ref sig .tc := ⟨.hbm, 558, rfl⟩
abbrev main_c_139 : Ref sig .tc := ⟨.hbm, 559, rfl⟩
abbrev main_v361 : Ref sig .tc := ⟨.hbm, 560, rfl⟩
abbrev main_v362 : Ref sig .tc := ⟨.hbm, 561, rfl⟩
abbrev main_cst_140 : Ref sig .tc := ⟨.hbm, 562, rfl⟩
abbrev main_call37_v0 : Ref sig .tc := ⟨.hbm, 563, rfl⟩
abbrev main_v363 : Ref sig .tc := ⟨.hbm, 564, rfl⟩
abbrev main_c_141 : Ref sig .tc := ⟨.hbm, 565, rfl⟩
abbrev main_v364 : Ref sig .tc := ⟨.hbm, 566, rfl⟩
abbrev main_v365 : Ref sig .tc := ⟨.hbm, 567, rfl⟩
abbrev main_c_142 : Ref sig .tc := ⟨.hbm, 568, rfl⟩
abbrev main_v366 : Ref sig .tc := ⟨.hbm, 569, rfl⟩
abbrev main_v367 : Ref sig .tc := ⟨.hbm, 570, rfl⟩
abbrev main_cst_143 : Ref sig .tc := ⟨.hbm, 571, rfl⟩
abbrev main_call38_v0 : Ref sig .tc := ⟨.hbm, 572, rfl⟩
abbrev main_v368 : Ref sig .tc := ⟨.hbm, 573, rfl⟩
abbrev main_c_144 : Ref sig .tc := ⟨.hbm, 574, rfl⟩
abbrev main_v369 : Ref sig .tc := ⟨.hbm, 575, rfl⟩
abbrev main_v370 : Ref sig .tc := ⟨.hbm, 576, rfl⟩
abbrev main_c_145 : Ref sig .tc := ⟨.hbm, 577, rfl⟩
abbrev main_v371 : Ref sig .tc := ⟨.hbm, 578, rfl⟩
abbrev main_v372 : Ref sig .tc := ⟨.hbm, 579, rfl⟩
abbrev main_cst_146 : Ref sig .tc := ⟨.hbm, 580, rfl⟩
abbrev main_call39_v0 : Ref sig .tc := ⟨.hbm, 581, rfl⟩
abbrev main_v373 : Ref sig .tc := ⟨.hbm, 582, rfl⟩
abbrev main_c_147 : Ref sig .tc := ⟨.hbm, 583, rfl⟩
abbrev main_v374 : Ref sig .tc := ⟨.hbm, 584, rfl⟩
abbrev main_v375 : Ref sig .tc := ⟨.hbm, 585, rfl⟩
abbrev main_c_148 : Ref sig .tc := ⟨.hbm, 586, rfl⟩
abbrev main_v376 : Ref sig .tc := ⟨.hbm, 587, rfl⟩
abbrev main_v377 : Ref sig .tc := ⟨.hbm, 588, rfl⟩
abbrev main_cst_149 : Ref sig .tc := ⟨.hbm, 589, rfl⟩
abbrev main_call40_v0 : Ref sig .tc := ⟨.hbm, 590, rfl⟩
abbrev main_v378 : Ref sig .tc := ⟨.hbm, 591, rfl⟩
abbrev main_c_150 : Ref sig .tc := ⟨.hbm, 592, rfl⟩
abbrev main_v379 : Ref sig .tc := ⟨.hbm, 593, rfl⟩
abbrev main_v380 : Ref sig .tc := ⟨.hbm, 594, rfl⟩
abbrev main_c_151 : Ref sig .tc := ⟨.hbm, 595, rfl⟩
abbrev main_v381 : Ref sig .tc := ⟨.hbm, 596, rfl⟩
abbrev main_v382 : Ref sig .tc := ⟨.hbm, 597, rfl⟩
abbrev main_v383 : Ref sig .tc := ⟨.hbm, 598, rfl⟩
abbrev main_v384 : Ref sig .tc := ⟨.hbm, 599, rfl⟩
abbrev main_v385 : Ref sig .tc := ⟨.hbm, 600, rfl⟩
abbrev main_v386 : Ref sig .tc := ⟨.hbm, 601, rfl⟩
abbrev main_v387 : Ref sig .tc := ⟨.hbm, 602, rfl⟩
abbrev main_v388 : Ref sig .tc := ⟨.hbm, 603, rfl⟩
abbrev main_v389 : Ref sig .tc := ⟨.hbm, 604, rfl⟩
abbrev main_v390 : Ref sig .tc := ⟨.hbm, 605, rfl⟩
abbrev main_cst_152 : Ref sig .tc := ⟨.hbm, 606, rfl⟩
abbrev main_v391 : Ref sig .tc := ⟨.hbm, 607, rfl⟩
abbrev main_v392 : Ref sig .tc := ⟨.hbm, 608, rfl⟩
abbrev main_v393 : Ref sig .tc := ⟨.hbm, 609, rfl⟩
abbrev main_cst_153 : Ref sig .tc := ⟨.hbm, 610, rfl⟩
abbrev main_v394 : Ref sig .tc := ⟨.hbm, 611, rfl⟩
abbrev main_c_154 : Ref sig .tc := ⟨.hbm, 612, rfl⟩
abbrev main_v395 : Ref sig .tc := ⟨.hbm, 613, rfl⟩
abbrev main_v396 : Ref sig .tc := ⟨.hbm, 614, rfl⟩
abbrev main_c_155 : Ref sig .tc := ⟨.hbm, 615, rfl⟩
abbrev main_v397 : Ref sig .tc := ⟨.hbm, 616, rfl⟩
abbrev main_v398 : Ref sig .tc := ⟨.hbm, 617, rfl⟩
abbrev main_cst_156 : Ref sig .tc := ⟨.hbm, 618, rfl⟩
abbrev main_call42_v0 : Ref sig .tc := ⟨.hbm, 619, rfl⟩
abbrev main_v399 : Ref sig .tc := ⟨.hbm, 620, rfl⟩
abbrev main_c_157 : Ref sig .tc := ⟨.hbm, 621, rfl⟩
abbrev main_v400 : Ref sig .tc := ⟨.hbm, 622, rfl⟩
abbrev main_v401 : Ref sig .tc := ⟨.hbm, 623, rfl⟩
abbrev main_c_158 : Ref sig .tc := ⟨.hbm, 624, rfl⟩
abbrev main_v402 : Ref sig .tc := ⟨.hbm, 625, rfl⟩
abbrev main_v403 : Ref sig .tc := ⟨.hbm, 626, rfl⟩
abbrev main_cst_159 : Ref sig .tc := ⟨.hbm, 627, rfl⟩
abbrev main_call43_v0 : Ref sig .tc := ⟨.hbm, 628, rfl⟩
abbrev main_v404 : Ref sig .tc := ⟨.hbm, 629, rfl⟩
abbrev main_c_160 : Ref sig .tc := ⟨.hbm, 630, rfl⟩
abbrev main_v405 : Ref sig .tc := ⟨.hbm, 631, rfl⟩
abbrev main_v406 : Ref sig .tc := ⟨.hbm, 632, rfl⟩
abbrev main_c_161 : Ref sig .tc := ⟨.hbm, 633, rfl⟩
abbrev main_v407 : Ref sig .tc := ⟨.hbm, 634, rfl⟩
abbrev main_v408 : Ref sig .tc := ⟨.hbm, 635, rfl⟩
abbrev main_cst_162 : Ref sig .tc := ⟨.hbm, 636, rfl⟩
abbrev main_call44_v0 : Ref sig .tc := ⟨.hbm, 637, rfl⟩
abbrev main_v409 : Ref sig .tc := ⟨.hbm, 638, rfl⟩
abbrev main_c_163 : Ref sig .tc := ⟨.hbm, 639, rfl⟩
abbrev main_v410 : Ref sig .tc := ⟨.hbm, 640, rfl⟩
abbrev main_v411 : Ref sig .tc := ⟨.hbm, 641, rfl⟩
abbrev main_c_164 : Ref sig .tc := ⟨.hbm, 642, rfl⟩
abbrev main_v412 : Ref sig .tc := ⟨.hbm, 643, rfl⟩
abbrev main_v413 : Ref sig .tc := ⟨.hbm, 644, rfl⟩
abbrev main_cst_165 : Ref sig .tc := ⟨.hbm, 645, rfl⟩
abbrev main_call45_v0 : Ref sig .tc := ⟨.hbm, 646, rfl⟩
abbrev main_v414 : Ref sig .tc := ⟨.hbm, 647, rfl⟩
abbrev main_c_166 : Ref sig .tc := ⟨.hbm, 648, rfl⟩
abbrev main_v415 : Ref sig .tc := ⟨.hbm, 649, rfl⟩
abbrev main_v416 : Ref sig .tc := ⟨.hbm, 650, rfl⟩
abbrev main_c_167 : Ref sig .tc := ⟨.hbm, 651, rfl⟩
abbrev main_v417 : Ref sig .tc := ⟨.hbm, 652, rfl⟩
abbrev main_v418 : Ref sig .tc := ⟨.hbm, 653, rfl⟩
abbrev main_cst_168 : Ref sig .tc := ⟨.hbm, 654, rfl⟩
abbrev main_call46_v0 : Ref sig .tc := ⟨.hbm, 655, rfl⟩
abbrev main_v419 : Ref sig .tc := ⟨.hbm, 656, rfl⟩
abbrev main_c_169 : Ref sig .tc := ⟨.hbm, 657, rfl⟩
abbrev main_v420 : Ref sig .tc := ⟨.hbm, 658, rfl⟩
abbrev main_v421 : Ref sig .tc := ⟨.hbm, 659, rfl⟩
abbrev main_c_170 : Ref sig .tc := ⟨.hbm, 660, rfl⟩
abbrev main_v422 : Ref sig .tc := ⟨.hbm, 661, rfl⟩
abbrev main_v423 : Ref sig .tc := ⟨.hbm, 662, rfl⟩
abbrev main_cst_171 : Ref sig .tc := ⟨.hbm, 663, rfl⟩
abbrev main_call47_v0 : Ref sig .tc := ⟨.hbm, 664, rfl⟩
abbrev main_v424 : Ref sig .tc := ⟨.hbm, 665, rfl⟩
abbrev main_c_172 : Ref sig .tc := ⟨.hbm, 666, rfl⟩
abbrev main_v425 : Ref sig .tc := ⟨.hbm, 667, rfl⟩
abbrev main_v426 : Ref sig .tc := ⟨.hbm, 668, rfl⟩
abbrev main_c_173 : Ref sig .tc := ⟨.hbm, 669, rfl⟩
abbrev main_v427 : Ref sig .tc := ⟨.hbm, 670, rfl⟩
abbrev main_v428 : Ref sig .tc := ⟨.hbm, 671, rfl⟩
abbrev main_cst_174 : Ref sig .tc := ⟨.hbm, 672, rfl⟩
abbrev main_call48_v0 : Ref sig .tc := ⟨.hbm, 673, rfl⟩
abbrev main_v429 : Ref sig .tc := ⟨.hbm, 674, rfl⟩
abbrev main_c_175 : Ref sig .tc := ⟨.hbm, 675, rfl⟩
abbrev main_v430 : Ref sig .tc := ⟨.hbm, 676, rfl⟩
abbrev main_v431 : Ref sig .tc := ⟨.hbm, 677, rfl⟩
abbrev main_c_176 : Ref sig .tc := ⟨.hbm, 678, rfl⟩
abbrev main_v432 : Ref sig .tc := ⟨.hbm, 679, rfl⟩
abbrev main_v433 : Ref sig .tc := ⟨.hbm, 680, rfl⟩
abbrev main_v434 : Ref sig .tc := ⟨.hbm, 681, rfl⟩
abbrev main_v435 : Ref sig .tc := ⟨.hbm, 682, rfl⟩
abbrev main_v436 : Ref sig .tc := ⟨.hbm, 683, rfl⟩
abbrev main_v437 : Ref sig .tc := ⟨.hbm, 684, rfl⟩
abbrev main_v438 : Ref sig .tc := ⟨.hbm, 685, rfl⟩
abbrev main_v439 : Ref sig .tc := ⟨.hbm, 686, rfl⟩
abbrev main_v440 : Ref sig .tc := ⟨.hbm, 687, rfl⟩
abbrev main_v441 : Ref sig .tc := ⟨.hbm, 688, rfl⟩
abbrev main_v442 : Ref sig .tc := ⟨.hbm, 689, rfl⟩
abbrev main_c_177 : Ref sig .tc := ⟨.hbm, 690, rfl⟩
abbrev main_v443 : Ref sig .tc := ⟨.hbm, 691, rfl⟩
abbrev main_v444 : Ref sig .tc := ⟨.hbm, 692, rfl⟩
abbrev main_v445 : Ref sig .tc := ⟨.hbm, 693, rfl⟩
abbrev main_v446 : Ref sig .tc := ⟨.hbm, 694, rfl⟩
abbrev main_c_178 : Ref sig .tc := ⟨.hbm, 695, rfl⟩
abbrev main_v447 : Ref sig .tc := ⟨.hbm, 696, rfl⟩
abbrev main_v448 : Ref sig .tc := ⟨.hbm, 697, rfl⟩
abbrev main_v449 : Ref sig .tc := ⟨.hbm, 698, rfl⟩
abbrev main_c_179 : Ref sig .tc := ⟨.hbm, 699, rfl⟩
abbrev main_v450 : Ref sig .tc := ⟨.hbm, 700, rfl⟩
abbrev main_v451 : Ref sig .tc := ⟨.hbm, 701, rfl⟩
abbrev main_v452 : Ref sig .tc := ⟨.hbm, 702, rfl⟩
abbrev main_v453 : Ref sig .tc := ⟨.hbm, 703, rfl⟩
abbrev main_c_180 : Ref sig .tc := ⟨.hbm, 704, rfl⟩
abbrev main_v454 : Ref sig .tc := ⟨.hbm, 705, rfl⟩
abbrev main_v455 : Ref sig .tc := ⟨.hbm, 706, rfl⟩
abbrev main_v456 : Ref sig .tc := ⟨.hbm, 707, rfl⟩

abbrev nD : Nat := 1
abbrev τ : Topo := Topo.v7x

variable {F : FTy → Type} [FloatOps F]
-- ==== Proof.Mem.Put.lean ====
/- Loads and stores of a memref that is owned as a whole, in terms of its contents: a load reads the contents at the
   rectangle's coordinates, a store puts its payload there; and what a list of stores leaves. -/
module

public import Idealize.ShloMosaic.Lib.Pipeline.FrameBody
public import Idealize.ShloMosaic.Lib.Ring
public import Idealize.ShloMosaic.Lib.Tactic

@[expose] public section

noncomputable section

namespace Cert.Mem

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

/-- The contents `X` with `w` in the rectangle `r`. -/
def put {s : Shape} {α : Type} (r : Rect s) (w : r.shape.Idx → α) (X : s.Idx → α) : s.Idx → α :=
  fun y => match preimage? r.emb y with
    | some x => w x
    | none => X y

/-- In the rectangle the payload is read. -/
theorem put_in {s : Shape} {α : Type} (r : Rect s) (w : r.shape.Idx → α) (X : s.Idx → α) (x : r.shape.Idx) :
    put r w X (r.emb x) = w x := by
  unfold put; rw [preimage?_emb]

/-- Outside it the contents before. -/
theorem put_out {s : Shape} {α : Type} (r : Rect s) (w : r.shape.Idx → α) (X : s.Idx → α) (y : s.Idx)
    (h : ∀ x, r.emb x ≠ y) : put r w X y = X y := by
  unfold put; rw [preimage?_eq_none h]

/-- Payloads that are one function's values at the rectangle's coordinates leave that function there. -/
theorem put_eq {s : Shape} {α : Type} (r : Rect s) (w : r.shape.Idx → α) (X G : s.Idx → α)
    (h : ∀ x, w x = G (r.emb x)) (y : s.Idx) :
    put r w X y = G y ∨ ((∀ x, r.emb x ≠ y) ∧ put r w X y = X y) := by
  by_cases hy : ∃ x, r.emb x = y
  · obtain ⟨x, rfl⟩ := hy
    exact .inl ((put_in r w X x).trans (h x))
  · exact .inr ⟨fun x hx => hy ⟨x, hx⟩, put_out r w X y fun x hx => hy ⟨x, hx⟩⟩

/-- What holds the function's values already still does. -/
theorem put_keep {s : Shape} {α : Type} (r : Rect s) (w : r.shape.Idx → α) (X G : s.Idx → α)
    (h : ∀ x, w x = G (r.emb x)) (y : s.Idx) (hX : X y = G y) : put r w X y = G y :=
  (put_eq r w X G h y).elim id fun h' => h'.2.trans hX

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {𝒱 : Variants} {c : Thread nD τ} {bd : Option 𝒱.V} {E : Set Name}
variable {α : Type} {Q : α → sProp (MT nD τ sig Ix Val Name U Lvl)}

local notation "𝕄" => MT nD τ sig Ix Val Name U Lvl

/-- Reading back a store through one of the memref's rectangles. -/
theorem read_write_put {κ : Kind} {sp : Space} {s : Shape} {e : EltTy} (v : View sig κ sp s e) (r : Rect s)
    (f : v.ty.Contents Val) (w : r.shape.Idx → Val e) :
    v.read Val ((v.slice r).write Val f w Finset.univ) = put r w (v.read Val f) := by
  funext y
  by_cases hy : ∃ x, r.emb x = y
  · obtain ⟨x, rfl⟩ := hy
    rw [put_in]; exact View.read_slice_write_emb r f w (Finset.mem_univ x)
  · rw [put_out _ _ _ _ fun x hx => hy ⟨x, hx⟩]
    refine View.read_slice_write_of_not_mem r f w _ fun hm => hy ?_
    obtain ⟨x, -, hx⟩ := Finset.mem_map.mp hm
    exact ⟨x, hx⟩

/-- A load at the head of a program. -/
theorem wp_load {cs : CoreSpace} {s : Shape} {e : EltTy} {m : Memref sig c.2.kind cs s e} {r : LoadRect s}
    {hl : m.view.LoadsAt r} {k : (r.shape.Idx → Val e) → Prog (TpuEff nD τ sig Val Λ c.2) α} {q : PosShare TreeShare}
    {X : s.Idx → Val e} :
    iprop((owns c m q X : sProp 𝕄) ∗ (owns c m q X -∗ wp frame (wpE defs 𝒱 c bd) E (k fun x => X (r.idx x)) Q))
      ⊢ wp frame (wpE defs 𝒱 c bd) E (.op (.load m r hl) k) Q := by
  iintro ⟨H, Hk⟩
  unfold owns
  icases H with ⟨%f, %hf, H⟩
  subst hf
  iapply Idealize.ShloMosaic.wp_load (r := r) (hl := hl) 𝒱 c bd E (S := m.view.set) (q := q) (f := f) (k := k)
    (Finset.map_subset_map.mpr (Finset.subset_univ _)) $$ H
  iintro H
  iapply Hk
  iexists f
  isplitr
  · ipureintro; rfl
  · iexact H

/-- A store at the head of a program. -/
theorem wp_store {cs : CoreSpace} {s : Shape} {e : EltTy} {m : Memref sig c.2.kind cs s e} {r : Rect s}
    {w : r.shape.Idx → Val e} {hx : (m.access r).Stores Finset.univ} {hm : Finset.univ = Finset.univ ∨ ∀ a, r.stride a = 1}
    {k : PUnit → Prog (TpuEff nD τ sig Val Λ c.2) α} {X : s.Idx → Val e} :
    iprop((owns c m fullShare X : sProp 𝕄) ∗ (owns c m fullShare (put r w X) -∗ wp frame (wpE defs 𝒱 c bd) E (k ⟨⟩) Q))
      ⊢ wp frame (wpE defs 𝒱 c bd) E (.op (.store m r w Finset.univ hx hm) k) Q := by
  iintro ⟨H, Hk⟩
  unfold owns
  icases H with ⟨%f, %hf, H⟩
  subst hf
  iapply Idealize.ShloMosaic.wp_store (r := r) (w := w) (hx := hx) (hm := hm) 𝒱 c bd E (S := m.view.set) (f := f) (k := k)
    (by rw [View.setOn_univ]; exact View.set_slice_subset m.view r) $$ H
  iintro H
  iapply Hk
  iexists _
  isplitr
  rotate_left
  · iexact H
  · ipureintro
    exact read_write_put m.view r f w

end Cert.Mem

end
-- ==== Proof.Body.Values.lean ====
/- The VALUES the kernel's body computes, written once for every chunk of tokens, every half of the lanes and both
   operands: the body prints them unrolled. Everything here is at any float instance. -/
module

public import proofs.«01_k».proof.KernelIdeal

@[expose] public section

set_option maxRecDepth 4096

noncomputable section

namespace Cert.KernelIdeal.Body

open Idealize.ShloMosaic Idealize.SL.Sem
open Cert.KernelIdeal Facts₀ Facts

theorem slices_half : ∀ h : Fin 2, S128x256.Slices ![0, 128 * h.val] S128x128 := by decide
theorem slices_row : ∀ v : Fin 16, S128x128.Slices ![8 * v.val, 0] S8x128 := by decide

variable {F : FTy → Type} [FloatOps F] [Facts]

/-- A constant tile of words. -/
abbrev word (n : BitVec 32) : IVec S8x128 32 := broadcast S8x128 n

/-- A constant tile of single-precision numbers, by its bits. -/
abbrev real (n : BitVec 32) : FVec F S8x128 .f32 := broadcast S8x128 (Scalar.ofBits .f32 n)

/-- A constant tile of half-precision numbers, by its bits. -/
abbrev half (n : BitVec 16) : FVec F S16x128 .bf16 := broadcast S16x128 (Scalar.ofBits .bf16 n)

/-- The 255 powers of two from the smallest normal number on, each in a tile of its own. -/
def powers : FVec F S255x8x128 .f32 :=
  bitcastToFloat .f32 (shli (addi (iota .tc S255x8x128 32 [0] iota_S255x8x128_d0_w32) (broadcast S255x8x128 1#32))
    (broadcast S255x8x128 23#32))

/-- How many of the powers a number reaches: its biased exponent. -/
def expo (x : FVec F S8x128 .f32) : IVec S8x128 32 :=
  multiReductionI .add [0] S8x128
    (extui 32 (cmpf .oge (broadcastTo S255x8x128 (shapeCast S1x8x128 x shapeCasts_S8x128_S1x8x128)
      broadcasts_S1x8x128_S255x8x128) powers) natLt_1_32) 0#32 reduces_S255x8x128_S8x128 rfl

/-- The half-precision numbers whose bits are the two halves of each word. -/
abbrev halves (x : IVec S8x128 32) : FVec F S16x128 .bf16 :=
  bitcastToFloat .bf16 (bitcast S16x128 16 x bitcasts_S8x128_w32_S16x128_w16)

/-- The largest magnitude of the sixteen tiles. -/
def tileMax (s : Fin 16 → FVec F S8x128 .f32) : FVec F S8x128 .f32 :=
  [1, 2, 3, 4, 5, 6, 7, 8, 9, 10, 11, 12, 13, 14, 15].foldl (fun m v => maximumf m (absf (s v))) (absf (s 0))

/-- Of each pair of neighbouring rows the larger number, in both rows. -/
def pairMax (m : FVec F S8x128 .f32) : FVec F S8x128 .f32 :=
  maximumf m (select (cmpi .eq (andi (iota .tc S8x128 32 [0] iota_S8x128_d0_w32) (word 1#32)) (word 1#32))
    (dynamicRotate 0 1#32 none m rotates_S8x128_d0) (dynamicRotate 0 7#32 none m rotates_S8x128_d0))

/-- A sixth of the rotated block's largest magnitude. -/
def sixth (s : Fin 16 → FVec F S8x128 .f32) : FVec F S8x128 .f32 :=
  mulf (mulf (pairMax (tileMax s)) (real 0x3E3504F3#32)) (real 0x3E2AAAAB#32)

/-- The block's biased exponent, 126 for a block of zeros. -/
def blockExp (s : Fin 16 → FVec F S8x128 .f32) : IVec S8x128 32 :=
  select (cmpf .oeq (sixth s) (real 0x00000000#32)) (word 126#32) (expo (sixth s))

/-- What a block is multiplied by before rounding. -/
def inv (ef : IVec S8x128 32) : FVec F S8x128 .f32 :=
  mulf (bitcastToFloat .f32 (shli (subi (word 253#32) ef) (word 23#32))) (real 0x3E3504F3#32)

/-- The block's scale in half precision, once for each half word. -/
def scaleUp (ef : IVec S8x128 32) : FVec F S16x128 .bf16 :=
  halves (ori (shli (addi ef (word 1#32)) (word 23#32)) (shrui (shli (addi ef (word 1#32)) (word 23#32)) (word 16#32)))

/-- `m + max(m, 1)` of the scaled magnitude `m`. -/
def lifted (s inv : FVec F S8x128 .f32) : FVec F S8x128 .f32 :=
  addf (mulf (absf s) inv) (maximumf (mulf (absf s) inv) (real 0x3F800000#32))

/-- A number over its power of two. -/
def mantissa (y : FVec F S8x128 .f32) : FVec F S8x128 .f32 :=
  mulf y (bitcastToFloat .f32 (shli (subi (word 255#32) (expo y)) (word 23#32)))

/-- The word of a number rounded to one mantissa bit, cut at twelve, with the sign of `s`; `n` is the rounded mantissa. -/
def signedWord (s y n : FVec F S8x128 .f32) : IVec S8x128 32 :=
  ori (minsi (shli (addi (subi (addi (expo y) (expo y)) (word 2#32)) (fptosi 32 n)) (word 22#32)) (word 1094713344#32))
    (shli (extui 32 (cmpf .olt s (real 0x00000000#32)) natLt_1_32) (word 31#32))

/-- The mantissa rounded to the nearest integer. -/
def roundNearest (y : FVec F S8x128 .f32) : FVec F S8x128 .f32 := roundeven (mantissa y)

/-- The mantissa rounded up or down as the random byte in `b` says. -/
def roundRandom (b : IVec S8x128 32) (y : FVec F S8x128 .f32) : FVec F S8x128 .f32 :=
  ceil (subf (mantissa y) (mulf (sitofp .f32 (addi b (word 8192#32))) (real 0x34800000#32)))

/-- Byte `p` of a word, moved to the bits above 14. -/
def randByte (w : IVec S8x128 32) : Fin 4 → IVec S8x128 32
  | 0 => andi (shli w (word 14#32)) (word 4177920#32)
  | 1 => andi (shli w (word 6#32)) (word 4177920#32)
  | 2 => andi (shrui w (word 2#32)) (word 4177920#32)
  | 3 => andi (shrui w (word 10#32)) (word 4177920#32)

/-- Two rounded words as the upper halves of one. -/
def packed (lo hi : IVec S8x128 32) : IVec S8x128 32 :=
  ori (shrui lo (word 16#32)) (andi hi (word 4294901760#32))

def signOf (t : IVec S8x128 32) : IVec S8x128 32 := andi t (word 2147516416#32)
def magOf (t : IVec S8x128 32) : IVec S8x128 32 := andi t (word 2143322048#32)

/-- The rounded number, cut at twelve. -/
def doubled (t : IVec S8x128 32) : FVec F S16x128 .bf16 := minimumf (halves (magOf t)) (half 0x4140#16)

/-- The quantised numbers of one pair of tiles. -/
def value (up : FVec F S16x128 .bf16) (t : IVec S8x128 32) : FVec F S16x128 .bf16 :=
  mulf (mulf (subf (doubled t) (maximumf (mulf (doubled t) (half 0x3F00#16)) (half 0x3F80#16))) up)
    (halves (ori (signOf t) (word 1065369472#32)))

/-- Their codes, one in each half word. -/
def code (t : IVec S8x128 32) : IVec S8x128 32 :=
  ori (andi (shrui (addi (magOf t) (word 8388736#32)) (word 6#32)) (word 458759#32)) (shrui (signOf t) (word 12#32))

/-- The code of minus zero made that of zero, for the eight codes of a word. -/
def noNegZero (w : IVec S8x128 32) : IVec S8x128 32 :=
  andi w (ori (andi (addi (andi w (word 2004318071#32)) (word 2004318071#32)) (word 2290649224#32)) (word 2004318071#32))

/-- The pair of tiles `c`, `n`. -/
def pair (y : Fin 16 → IVec S8x128 32) (c : Fin 2) (n : Fin 4) : IVec S8x128 32 :=
  packed (y ⟨8 * c.val + n.val, by omega⟩) (y ⟨8 * c.val + n.val + 4, by omega⟩)

/-- The word of codes `c`. -/
def codeWord (y : Fin 16 → IVec S8x128 32) (c : Fin 2) : IVec S8x128 32 :=
  noNegZero (ori (ori (ori (code (pair y c 0)) (shli (code (pair y c 1)) (word 4#32)))
    (shli (code (pair y c 2)) (word 8#32))) (shli (code (pair y c 3)) (word 12#32)))

/-- The chunk's quantised numbers. -/
def tile (up : FVec F S16x128 .bf16) (y : Fin 16 → IVec S8x128 32) : FVec F S128x128 .bf16 :=
  concatenate S128x128 0 [⟨S16x128, value up (pair y 0 0)⟩, ⟨S16x128, value up (pair y 0 1)⟩,
    ⟨S16x128, value up (pair y 0 2)⟩, ⟨S16x128, value up (pair y 0 3)⟩, ⟨S16x128, value up (pair y 1 0)⟩,
    ⟨S16x128, value up (pair y 1 1)⟩, ⟨S16x128, value up (pair y 1 2)⟩, ⟨S16x128, value up (pair y 1 3)⟩]
    concatenates_S16x128_S16x128_S16x128_S16x128_S16x128_S16x128_S16x128_S16x128_S128x128_d0

/-- The chunk's rotated columns, in the half `h` of the lanes, as sixteen tiles. -/
def tiles (z : FVec F S128x256 .f32) (h : Fin 2) (v : Fin 16) : FVec F S8x128 .f32 :=
  extractStridedSlice S8x128 ![8 * v.val, 0] (extractStridedSlice S128x128 ![0, 128 * h.val] z (slices_half h)) (slices_row v)

/-- The rotated columns of a chunk. -/
def rotated (rot : FVec F S128x128 .bf16) (x : Vec F S128x256 .bf16) : FVec F S128x256 .f32 :=
  matmul dot_S128x128_S128x256_S128x256_1_0_0_1_n_n none rot (shapeCast S128x256 x shapeCasts_S128x256_S128x256)
    (constant S128x256 .f32 0x00000000#32)

/-- The rounded words of a block, rounding to nearest. -/
def nearestWords (s : Fin 16 → FVec F S8x128 .f32) (v : Fin 16) : IVec S8x128 32 :=
  signedWord (s v) (lifted (s v) (inv (blockExp s))) (roundNearest (lifted (s v) (inv (blockExp s))))

/-- The random bits of tile `v`, of the four words of a block. -/
def randBits (r : Fin 4 → IVec S8x128 32) (v : Fin 16) : IVec S8x128 32 :=
  randByte (r ⟨v.val / 4, by omega⟩) ⟨v.val % 4, by omega⟩

/-- The rounded words of a block, rounding at random. -/
def randomWords (s : Fin 16 → FVec F S8x128 .f32) (r : Fin 4 → IVec S8x128 32) (v : Fin 16) : IVec S8x128 32 :=
  signedWord (s v) (lifted (s v) (inv (blockExp s)))
    (roundRandom (randBits r v) (lifted (s v) (inv (blockExp s))))

/-- The rotation of a chunk: four blocks on the diagonal, rows in the order of the tiles. -/
def rotation (signs : Vec F S1x32 .f32) : FVec F S128x128 .bf16 :=
  let r : IVec S128x128 32 := iota .tc S128x128 32 [0] iota_S128x128_d0_w32
  let l : IVec S128x128 32 := iota .tc S128x128 32 [1] iota_S128x128_d1_w32
  let c (n : BitVec 32) : IVec S128x128 32 := broadcast S128x128 n
  let sub := andi r (c 7#32)
  let p := andi (addi (muli (andi sub (c 1#32)) (c 16#32)) (shrsi r (c 3#32))) (andi l (c 31#32))
  let p := xori p (shrsi p (c 4#32))
  let p := xori p (shrsi p (c 2#32))
  let p := xori p (shrsi p (c 1#32))
  let hm : FVec F S128x128 .f32 := sitofp .f32 (subi (c 1#32) (muli (c 2#32) (andi p (c 1#32))))
  let s : FVec F S1x32 .f32 := shapeCast S1x32 signs shapeCasts_S1x32_S1x32
  let s4 : FVec F S1x128 .f32 := concatenate S1x128 1 [⟨S1x32, s⟩, ⟨S1x32, s⟩, ⟨S1x32, s⟩, ⟨S1x32, s⟩]
    concatenates_S1x32_S1x32_S1x32_S1x32_S1x128_d1
  truncf .bf16 (select (cmpi .eq (shrsi sub (c 1#32)) (shrsi l (c 5#32)))
    (mulf hm (broadcastTo S128x128 s4 broadcasts_S1x128_S128x128))
    (broadcast S128x128 (Scalar.ofBits .f32 0x00000000#32))) bitsLt_bf16_f32

end Cert.KernelIdeal.Body

end
-- ==== Proof.Body.Prog.lean ====
/- The kernel's body written with loops over the chunks of tokens and the halves of the lanes: the memory operations of
   one chunk, once, and the branches of the body over them. -/
module

public import proofs.«01_k».proof.Proof.Body.Values

@[expose] public section

set_option maxRecDepth 4096

noncomputable section

namespace Cert.KernelIdeal.Body

open Idealize.ShloMosaic Idealize.SL.Sem
open Cert.KernelIdeal Facts₀ Facts

theorem inb_word : ∀ (h : Fin 2) (k : Fin 15) (c : Fin 2), ∀ a, S1x8x128.size a = 0 ∨
    (![h.val, 16 * k.val + c.val, 0] : Fin 3 → Nat) a + (![1, 2, 1] : Fin 3 → Nat) a * (S1x8x128.size a - 1) < S2x240x128.size a := by decide
theorem inb_exp : ∀ (h : Fin 2) (k : Fin 15), ∀ a, (![h.val, 8 * k.val, 0] : Fin 3 → Nat) a + S1x8x128.size a ≤ S2x120x128.size a := by decide
theorem inb_chunk : ∀ (k : Fin 15), ∀ a, (![128 * k.val, 0] : Fin 2 → Nat) a + S128x256.size a ≤ S1920x256.size a := by decide
theorem inb_slab : ∀ (s : Fin 8) (k : Fin 15) (h : Fin 2), ∀ a,
    (![s.val, 128 * k.val, 128 * h.val] : Fin 3 → Nat) a + S1x128x128.size a ≤ S8x1920x256.size a := by decide +kernel
theorem inb_dyt : ∀ (k : Fin 15) (h : Fin 2), ∀ a,
    (![128 * h.val, 128 * k.val] : Fin 2 → Nat) a + S128x128.size a ≤ S256x1920.size a := by decide
theorem inb_rand : ∀ (h : Fin 2) (k : Fin 15) (j : Fin 4), ∀ a, S1x8x128.size a = 0 ∨
    (![h.val, 32 * k.val + j.val, 0] : Fin 3 → Nat) a + (![1, 4, 1] : Fin 3 → Nat) a * (S1x8x128.size a - 1) < S2x480x128.size a := by decide
theorem inb_codes : ∀ (h : Fin 2), ∀ a, (![128 * h.val, 0] : Fin 2 → Nat) a + S128x960.size a ≤ S256x960.size a := by decide
theorem inb_scales : ∀ (h : Fin 2), ∀ a, (![128 * h.val, 0] : Fin 2 → Nat) a + S128x60.size a ≤ S256x60.size a := by decide
theorem inb_words : ∀ (h : Fin 2), ∀ a, (![h.val, 0, 0] : Fin 3 → Nat) a + S1x240x128.size a ≤ S2x240x128.size a := by decide
theorem inb_exps : ∀ (h : Fin 2), ∀ a, S1x60x128.size a = 0 ∨
    (![h.val, 0, 0] : Fin 3 → Nat) a + (![1, 2, 1] : Fin 3 → Nat) a * (S1x60x128.size a - 1) < S2x120x128.size a := by decide
theorem inb_randIn : ∀ (h : Fin 2), ∀ a, (![0, 128 * h.val] : Fin 2 → Nat) a + S1920x128.size a ≤ S1920x256.size a := by decide
theorem inb_rands : ∀ (h : Fin 2), ∀ a, (![h.val, 0, 0] : Fin 3 → Nat) a + S1x480x128.size a ≤ S2x480x128.size a := by decide
theorem inb_dw : ∀ (j : Fin 8), ∀ a, (![0, 256 * j.val] : Fin 2 → Nat) a + S256x256.size a ≤ S256x2048.size a := by decide
theorem inb_whole : ∀ (j : Fin 8), ∀ a, (![j.val, 0, 0] : Fin 3 → Nat) a + S1x1920x256.size a ≤ S8x1920x256.size a := by decide

theorem packed_codes : ∀ (h : Fin 2), (Rect.unit (s := S256x960) ![128 * h.val, 0] S128x960.size (inb_codes h)).PackedRows (EltTy.packing .i8) := by decide
theorem packed_scales : ∀ (h : Fin 2), (Rect.unit (s := S256x60) ![128 * h.val, 0] S128x60.size (inb_scales h)).PackedRows (EltTy.packing .i8) := by decide
theorem packed_dyt : ∀ (k : Fin 15) (h : Fin 2), (Rect.unit (s := S256x1920) ![128 * h.val, 128 * k.val] S128x128.size (inb_dyt k h)).PackedRows (EltTy.packing .bf16) := by decide

/-- Where the step's slab of quantised columns begins, for chunk `k` and half `h`. -/
def slabOff (i : grid0.Coords) (k : Fin 15) (h : Fin 2) : Fin 3 → Nat :=
  ![(Scalar.indexCast (BitVec.ofNat 32 (i 0).val) : Index).toNat, 128 * k.val, 128 * h.val]

theorem slabOff_inb : ∀ i : grid0.Coords, k0_cond2 i = 1#1 → ∀ (k : Fin 15) (h : Fin 2), ∀ a,
    slabOff i k h a + S1x128x128.size a ≤ S8x1920x256.size a := by decide +kernel

theorem slabOff_packed : ∀ i : grid0.Coords, ∀ (hi : k0_cond2 i = 1#1), ∀ (k : Fin 15) (h : Fin 2),
    (Rect.unit (s := S8x1920x256) (slabOff i k h) S1x128x128.size (slabOff_inb i hi k h)).PackedRows (EltTy.packing .bf16) := by
  decide +kernel

variable {F : FTy → Type} [FloatOps F] [Facts]

/-- A program of the body's. -/
abbrev BodyProg (α : Type) := Prog (TpuEff nD τ sig (Elt F) Λ₀ .tc) α

/-- A chunk's word of codes `c` into its rows of the words. -/
def storeWord (words : Memref sig .tc .vmem S2x240x128 .i32) (k : Fin 15) (h c : Fin 2) (w : IVec S8x128 32) :
    BodyProg (F := F) PUnit := do
  let _ ← Prog.lift (.load words (⟨![h.val, 16 * k.val + c.val, 0], S1x8x128.size, ![1, 2, 1], inb_word h k c⟩ : LoadRect S2x240x128) (View.loadsAt_vmem h_S1x8x128))
  Prog.lift (.store words ⟨(⟨![h.val, 16 * k.val + c.val, 0], S1x8x128.size, ![1, 2, 1], inb_word h k c⟩ : LoadRect S2x240x128), spos_1_2_1⟩
    (shapeCast S1x8x128 w shapeCasts_S8x128_S1x8x128) Finset.univ (View.stores_vmem_bits_univ h_S1x8x128 rfl) (.inl rfl))

/-- A chunk's exponents into its rows of the exponents. -/
def storeExp (exps : Memref sig .tc .vmem S2x120x128 .i32) (k : Fin 15) (h : Fin 2) (e : IVec S8x128 32) :
    BodyProg (F := F) PUnit := do
  let _ ← Prog.lift (.load exps (Rect.unit (s := S2x120x128) ![h.val, 8 * k.val, 0] S1x8x128.size (inb_exp h k)).toLoadRect (View.loadsAt_vmem h_S1x8x128))
  Prog.lift (.store exps (Rect.unit (s := S2x120x128) ![h.val, 8 * k.val, 0] S1x8x128.size (inb_exp h k))
    (shapeCast S1x8x128 e shapeCasts_S8x128_S1x8x128) Finset.univ (View.stores_vmem_bits_univ h_S1x8x128 rfl) (.inl rfl))

/-- What a chunk leaves in the words and the exponents. -/
def storeCodes (words : Memref sig .tc .vmem S2x240x128 .i32) (exps : Memref sig .tc .vmem S2x120x128 .i32)
    (k : Fin 15) (h : Fin 2) (y : Fin 16 → IVec S8x128 32) (ef : IVec S8x128 32) : BodyProg (F := F) PUnit := do
  storeWord words k h 0 (codeWord y 0)
  storeWord words k h 1 (codeWord y 1)
  storeExp exps k h (addi ef (word 1#32))

/-- The half `h` of chunk `k` of the first operand, `z` its rotated columns. -/
def halfX (i : grid0.Coords) (hi : k0_cond2 i = 1#1) (slabs : Memref sig .tc .vmem S8x1920x256 .bf16) (hslabs : slabs.IsWhole)
    (words : Memref sig .tc .vmem S2x240x128 .i32) (exps : Memref sig .tc .vmem S2x120x128 .i32)
    (k : Fin 15) (z : FVec F S128x256 .f32) (h : Fin 2) : BodyProg (F := F) PUnit := do
  storeCodes words exps k h (nearestWords (tiles z h)) (blockExp (tiles z h))
  let _ ← Prog.lift (.load slabs (Rect.unit (s := S8x1920x256) (slabOff i k h) S1x128x128.size (slabOff_inb i hi k h)).toLoadRect (View.loadsAt_vmem h_S1x128x128))
  Prog.lift (.store slabs (Rect.unit (s := S8x1920x256) (slabOff i k h) S1x128x128.size (slabOff_inb i hi k h))
    (shapeCast S1x128x128 (tile (scaleUp (blockExp (tiles z h))) (nearestWords (tiles z h))) shapeCasts_S128x128_S1x128x128) Finset.univ
    (View.stores_vmem h_S1x128x128 (hslabs.storeExact_slice rfl _ (slabOff_packed i hi k h)) (fun _ => rfl)) (.inl rfl))

/-- Chunk `k` of the first operand. -/
def chunkX (i : grid0.Coords) (hi : k0_cond2 i = 1#1) (src : Memref sig .tc .vmem S1920x256 .bf16)
    (slabs : Memref sig .tc .vmem S8x1920x256 .bf16) (hslabs : slabs.IsWhole)
    (words : Memref sig .tc .vmem S2x240x128 .i32) (exps : Memref sig .tc .vmem S2x120x128 .i32)
    (rot : Vec F S128x128 .bf16) (k : Fin 15) : BodyProg (F := F) PUnit := do
  let x ← Prog.lift (.load src (Rect.unit (s := S1920x256) ![128 * k.val, 0] S128x256.size (inb_chunk k)).toLoadRect (View.loadsAt_vmem h_S128x256))
  halfX i hi slabs hslabs words exps k (rotated rot x) 0
  halfX i hi slabs hslabs words exps k (rotated rot x) 1

/-- The half `h` of the codes and scales, out of the words and the exponents. -/
def finish (words : Memref sig .tc .vmem S2x240x128 .i32) (exps : Memref sig .tc .vmem S2x120x128 .i32)
    (codes : Memref sig .tc .vmem S256x960 .i8) (hcodes : codes.IsWhole)
    (scales : Memref sig .tc .vmem S256x60 .i8) (hscales : scales.IsWhole) (h : Fin 2) : BodyProg (F := F) PUnit := do
  let w ← Prog.lift (.load words (Rect.unit (s := S2x240x128) ![h.val, 0, 0] S1x240x128.size (inb_words h)).toLoadRect (View.loadsAt_vmem h_S1x240x128))
  let _ ← Prog.lift (.load codes (Rect.unit (s := S256x960) ![128 * h.val, 0] S128x960.size (inb_codes h)).toLoadRect (View.loadsAt_vmem h_S128x960))
  Prog.lift (.store codes (Rect.unit (s := S256x960) ![128 * h.val, 0] S128x960.size (inb_codes h))
    (transpose S128x960 [1, 0] (bitcast S960x128 8 (shapeCast S240x128 w shapeCasts_S1x240x128_S240x128 : IVec S240x128 32) bitcasts_S240x128_w32_S960x128_w8) transposes_S960x128_p1_0_S128x960)
    Finset.univ (View.stores_vmem h_S128x960 (hcodes.storeExact_slice rfl _ (packed_codes h)) (fun _ => rfl)) (.inl rfl))
  let e ← Prog.lift (.load exps (⟨![h.val, 0, 0], S1x60x128.size, ![1, 2, 1], inb_exps h⟩ : LoadRect S2x120x128) (View.loadsAt_vmem h_S1x60x128))
  let _ ← Prog.lift (.load scales (Rect.unit (s := S256x60) ![128 * h.val, 0] S128x60.size (inb_scales h)).toLoadRect (View.loadsAt_vmem h_S128x60))
  Prog.lift (.store scales (Rect.unit (s := S256x60) ![128 * h.val, 0] S128x60.size (inb_scales h))
    (trunci 8 (transpose S128x60 [1, 0] (shapeCast S60x128 e shapeCasts_S1x60x128_S60x128 : IVec S60x128 32) transposes_S60x128_p1_0_S128x60) natLt_8_32 : IVec S128x60 8)
    Finset.univ (View.stores_vmem h_S128x60 (hscales.storeExact_slice rfl _ (packed_scales h)) (fun _ => rfl)) (.inl rfl))

/-- One program after another, for the positions of a list. -/
def each {n : Nat} (body : Fin n → BodyProg (F := F) PUnit) : List (Fin n) → BodyProg (F := F) PUnit
  | [] => pure ⟨⟩
  | k :: l => do body k; each body l

/-- The chunks of tokens. -/
def chunks : List (Fin 15) := [0, 1, 2, 3, 4, 5, 6, 7, 8, 9, 10, 11, 12, 13, 14]

/-- The branch for the first operand. -/
def branchX (i : grid0.Coords) (hi : k0_cond2 i = 1#1) (src : Memref sig .tc .vmem S1920x256 .bf16)
    (codes : Memref sig .tc .vmem S256x960 .i8) (hcodes : codes.IsWhole)
    (scales : Memref sig .tc .vmem S256x60 .i8) (hscales : scales.IsWhole)
    (rotm : Memref sig .tc .vmem S128x128 .bf16)
    (slabs : Memref sig .tc .vmem S8x1920x256 .bf16) (hslabs : slabs.IsWhole)
    (words : Memref sig .tc .vmem S2x240x128 .i32) (exps : Memref sig .tc .vmem S2x120x128 .i32) : BodyProg (F := F) PUnit := do
  let rot ← Prog.lift (.load rotm (Rect.unit (s := S128x128) ![0, 0] S128x128.size inb_S128x128_S128x128_0_0).toLoadRect (View.loadsAt_vmem h_S128x128))
  each (chunkX i hi src slabs hslabs words exps rot) chunks
  each (finish words exps codes hcodes scales hscales) [0, 1]

/-- The half `h` of the random bytes as words. -/
def loadRand (rand : Memref sig .tc .vmem S1920x256 .i8) (rands : Memref sig .tc .vmem S2x480x128 .i32) (h : Fin 2) : BodyProg (F := F) PUnit := do
  let r ← Prog.lift (.load rand (Rect.unit (s := S1920x256) ![0, 128 * h.val] S1920x128.size (inb_randIn h)).toLoadRect (View.loadsAt_vmem h_S1920x128))
  let _ ← Prog.lift (.load rands (Rect.unit (s := S2x480x128) ![h.val, 0, 0] S1x480x128.size (inb_rands h)).toLoadRect (View.loadsAt_vmem h_S1x480x128))
  Prog.lift (.store rands (Rect.unit (s := S2x480x128) ![h.val, 0, 0] S1x480x128.size (inb_rands h))
    (shapeCast S1x480x128 (bitcast S480x128 32 (shapeCast S1920x128 r shapeCasts_S1920x128_S1920x128 : IVec S1920x128 8) bitcasts_S1920x128_w8_S480x128_w32) shapeCasts_S480x128_S1x480x128)
    Finset.univ (View.stores_vmem_bits_univ h_S1x480x128 rfl) (.inl rfl))

/-- Row `j` of each token quadruple's random words of chunk `k`. -/
def loadWord (rands : Memref sig .tc .vmem S2x480x128 .i32) (k : Fin 15) (h : Fin 2) (j : Fin 4) : BodyProg (F := F) (Vec F S1x8x128 .i32) :=
  Prog.lift (.load rands (⟨![h.val, 32 * k.val + j.val, 0], S1x8x128.size, ![1, 4, 1], inb_rand h k j⟩ : LoadRect S2x480x128) (View.loadsAt_vmem h_S1x8x128))

/-- Four loaded rows as the words of a block. -/
def randWords (r0 r1 r2 r3 : Vec F S1x8x128 .i32) : Fin 4 → IVec S8x128 32
  | 0 => shapeCast S8x128 r0 shapeCasts_S1x8x128_S8x128
  | 1 => shapeCast S8x128 r1 shapeCasts_S1x8x128_S8x128
  | 2 => shapeCast S8x128 r2 shapeCasts_S1x8x128_S8x128
  | 3 => shapeCast S8x128 r3 shapeCasts_S1x8x128_S8x128

/-- The half `h` of chunk `k` of the second operand, `z` its rotated columns. -/
def halfY (dyt : Memref sig .tc .vmem S256x1920 .bf16) (hdyt : dyt.IsWhole) (rands : Memref sig .tc .vmem S2x480x128 .i32)
    (words : Memref sig .tc .vmem S2x240x128 .i32) (exps : Memref sig .tc .vmem S2x120x128 .i32)
    (k : Fin 15) (z : FVec F S128x256 .f32) (h : Fin 2) : BodyProg (F := F) PUnit := do
  let r0 ← loadWord rands k h 0
  let r1 ← loadWord rands k h 1
  let r2 ← loadWord rands k h 2
  let r3 ← loadWord rands k h 3
  storeCodes words exps k h (randomWords (tiles z h) (randWords (F := F) r0 r1 r2 r3)) (blockExp (tiles z h))
  let _ ← Prog.lift (.load dyt (Rect.unit (s := S256x1920) ![128 * h.val, 128 * k.val] S128x128.size (inb_dyt k h)).toLoadRect (View.loadsAt_vmem h_S128x128))
  Prog.lift (.store dyt (Rect.unit (s := S256x1920) ![128 * h.val, 128 * k.val] S128x128.size (inb_dyt k h))
    (shapeCast S128x128 (transpose S128x128 [1, 0] (tile (scaleUp (blockExp (tiles z h))) (randomWords (tiles z h) (randWords (F := F) r0 r1 r2 r3)))
      transposes_S128x128_p1_0_S128x128) shapeCasts_S128x128_S128x128) Finset.univ
    (View.stores_vmem h_S128x128 (hdyt.storeExact_slice rfl _ (packed_dyt k h)) (fun _ => rfl)) (.inl rfl))

/-- Chunk `k` of the second operand. -/
def chunkY (src : Memref sig .tc .vmem S1920x256 .bf16) (dyt : Memref sig .tc .vmem S256x1920 .bf16) (hdyt : dyt.IsWhole)
    (rands : Memref sig .tc .vmem S2x480x128 .i32)
    (words : Memref sig .tc .vmem S2x240x128 .i32) (exps : Memref sig .tc .vmem S2x120x128 .i32)
    (rot : Vec F S128x128 .bf16) (k : Fin 15) : BodyProg (F := F) PUnit := do
  let x ← Prog.lift (.load src (Rect.unit (s := S1920x256) ![128 * k.val, 0] S128x256.size (inb_chunk k)).toLoadRect (View.loadsAt_vmem h_S128x256))
  halfY dyt hdyt rands words exps k (rotated rot x) 0
  halfY dyt hdyt rands words exps k (rotated rot x) 1

/-- The columns `256 j` to `256 j + 255` of the product. -/
def product (dw : Memref sig .tc .vmem S256x2048 .f32) (slabs : Memref sig .tc .vmem S8x1920x256 .bf16)
    (dyt : Memref sig .tc .vmem S256x1920 .bf16) (j : Fin 8) : BodyProg (F := F) PUnit := do
  let a ← Prog.lift (.load dyt (Rect.unit (s := S256x1920) ![0, 0] S256x1920.size inb_S256x1920_S256x1920_0_0).toLoadRect (View.loadsAt_vmem h_S256x1920))
  let b ← Prog.lift (.load slabs (Rect.unit (s := S8x1920x256) ![j.val, 0, 0] S1x1920x256.size (inb_whole j)).toLoadRect (View.loadsAt_vmem h_S1x1920x256))
  let _ ← Prog.lift (.load dw (Rect.unit (s := S256x2048) ![0, 256 * j.val] S256x256.size (inb_dw j)).toLoadRect (View.loadsAt_vmem h_S256x256))
  Prog.lift (.store dw (Rect.unit (s := S256x2048) ![0, 256 * j.val] S256x256.size (inb_dw j))
    (matmul dot_S256x1920_S1920x256_S256x256_1_0_0_1_n_n none (a : FVec F S256x1920 .bf16) (shapeCast S1920x256 b shapeCasts_S1x1920x256_S1920x256 : FVec F S1920x256 .bf16)
      (constant S256x256 .f32 0x00000000#32) : FVec F S256x256 .f32) Finset.univ (View.stores_vmem_bits_univ h_S256x256 rfl) (.inl rfl))

/-- The branch for the second operand. -/
def branchY (src : Memref sig .tc .vmem S1920x256 .bf16) (rand : Memref sig .tc .vmem S1920x256 .i8)
    (dw : Memref sig .tc .vmem S256x2048 .f32)
    (codes : Memref sig .tc .vmem S256x960 .i8) (hcodes : codes.IsWhole)
    (scales : Memref sig .tc .vmem S256x60 .i8) (hscales : scales.IsWhole)
    (rotm : Memref sig .tc .vmem S128x128 .bf16)
    (slabs : Memref sig .tc .vmem S8x1920x256 .bf16)
    (dyt : Memref sig .tc .vmem S256x1920 .bf16) (hdyt : dyt.IsWhole) (rands : Memref sig .tc .vmem S2x480x128 .i32)
    (words : Memref sig .tc .vmem S2x240x128 .i32) (exps : Memref sig .tc .vmem S2x120x128 .i32) : BodyProg (F := F) PUnit := do
  let rot ← Prog.lift (.load rotm (Rect.unit (s := S128x128) ![0, 0] S128x128.size inb_S128x128_S128x128_0_0).toLoadRect (View.loadsAt_vmem h_S128x128))
  each (loadRand rand rands) [0, 1]
  each (chunkY src dyt hdyt rands words exps rot) chunks
  each (finish words exps codes hcodes scales hscales) [0, 1]
  each (product dw slabs dyt) [0, 1, 2, 3, 4, 5, 6, 7]

/-- The first step's rotation. -/
def branchR (signs : Memref sig .tc .vmem S1x32 .f32) (rotm : Memref sig .tc .vmem S128x128 .bf16) (hrotm : rotm.IsWhole) : BodyProg (F := F) PUnit := do
  let s ← Prog.lift (.load signs (Rect.unit (s := S1x32) ![0, 0] S1x32.size inb_S1x32_S1x32_0_0).toLoadRect (View.loadsAt_vmem h_S1x32))
  let _ ← Prog.lift (.load rotm (Rect.unit (s := S128x128) ![0, 0] S128x128.size inb_S128x128_S128x128_0_0).toLoadRect (View.loadsAt_vmem h_S128x128))
  Prog.lift (.store rotm (Rect.unit (s := S128x128) ![0, 0] S128x128.size inb_S128x128_S128x128_0_0)
    (shapeCast S128x128 (rotation s) shapeCasts_S128x128_S128x128) Finset.univ
    (View.stores_vmem h_S128x128 (hrotm.storeExact_slice rfl _ packedbf16_S128x128_S128x128_0_0) (fun _ => rfl)) (.inl rfl))

/-- The condition of the first step. -/
def condR (i : grid0.Coords) : BitVec 1 := Scalar.cmpi .ne (Scalar.extui (Scalar.cmpi .eq (BitVec.ofNat 32 (i 0).val) 0#32) : BitVec 32) 0#32

end Cert.KernelIdeal.Body

end
-- ==== Proof.Body.Steps.lean ====
/- What one half of a chunk's stores leave in the scratch memory: the triples of the body's pieces. -/
module

public import proofs.«01_k».proof.Proof.Mem.Put
public import proofs.«01_k».proof.Proof.Body.Prog

@[expose] public section

set_option maxRecDepth 4096

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts Cert.Mem

variable {F : FTy → Type} [FloatOps F] [Facts]

local notation "𝕄" => MT nD τ sig Unit (Elt F) ℕ (UR sig nD τ) ℕ

/-- The rows of the words that chunk `k`'s words `c` go to. -/
abbrev rectWord (k : Fin 15) (h c : Fin 2) : Rect S2x240x128 :=
  ⟨(⟨![h.val, 16 * k.val + c.val, 0], S1x8x128.size, ![1, 2, 1], inb_word h k c⟩ : LoadRect S2x240x128), spos_1_2_1⟩

/-- The rows of the exponents that chunk `k`'s go to. -/
abbrev rectExp (k : Fin 15) (h : Fin 2) : Rect S2x120x128 :=
  Rect.unit (s := S2x120x128) ![h.val, 8 * k.val, 0] S1x8x128.size (inb_exp h k)

/-- The words after one half of a chunk. -/
def putWords (k : Fin 15) (h : Fin 2) (y : Fin 16 → IVec S8x128 32) (W : Vec F S2x240x128 .i32) : Vec F S2x240x128 .i32 :=
  put (rectWord k h 1) (shapeCast S1x8x128 (codeWord y 1) shapeCasts_S8x128_S1x8x128)
    (put (rectWord k h 0) (shapeCast S1x8x128 (codeWord y 0) shapeCasts_S8x128_S1x8x128) W)

/-- The exponents after one half of a chunk. -/
def putExps (k : Fin 15) (h : Fin 2) (e : IVec S8x128 32) (X : Vec F S2x120x128 .i32) : Vec F S2x120x128 .i32 :=
  put (rectExp k h) (shapeCast S1x8x128 (addi e (word 1#32)) shapeCasts_S8x128_S1x8x128) X

/-- The slabs after one half of a chunk. -/
def putSlab (i : grid0.Coords) (hi : k0_cond2 i = 1#1) (k : Fin 15) (h : Fin 2) (v : FVec F S128x128 .bf16)
    (S : Vec F S8x1920x256 .bf16) : Vec F S8x1920x256 .bf16 :=
  put (Rect.unit (s := S8x1920x256) (slabOff i k h) S1x128x128.size (slabOff_inb i hi k h))
    (shapeCast S1x128x128 v shapeCasts_S128x128_S1x128x128) S

variable {defs : Defs nD τ sig (Elt F) Λ₀} {𝒱 : Variants} {c : Dev nD} {bd : Option 𝒱.V} {E : Set ℕ}

/-- The words and exponents of one half of a chunk are stored. -/
theorem wp_storeCodes (words : Memref sig .tc .vmem S2x240x128 .i32) (exps : Memref sig .tc .vmem S2x120x128 .i32)
    (k : Fin 15) (h : Fin 2) (y : Fin 16 → IVec S8x128 32) (ef : IVec S8x128 32)
    (W : Vec F S2x240x128 .i32) (X : Vec F S2x120x128 .i32) :
    iprop((owns (c : Thread nD τ) words fullShare W : sProp 𝕄) ∗ owns (c : Thread nD τ) exps fullShare X)
      ⊢ wp frame (wpE defs 𝒱 c bd) E (storeCodes words exps k h y ef) fun _ =>
        iprop(owns (c : Thread nD τ) words fullShare (putWords k h y W) ∗ owns (c : Thread nD τ) exps fullShare (putExps k h ef X)) := by
  unfold storeCodes storeWord storeExp
  simp only [Prog.bind_lift, Prog.bind_op, bind_assoc]
  iintro ⟨HW, HX⟩
  iapply Mem.wp_load
  isplitl [HW]; · iexact HW
  iintro HW
  iapply Mem.wp_store
  isplitl [HW]; · iexact HW
  iintro HW
  iapply Mem.wp_load
  isplitl [HW]; · iexact HW
  iintro HW
  iapply Mem.wp_store
  isplitl [HW]; · iexact HW
  iintro HW
  iapply Mem.wp_load
  isplitl [HX]; · iexact HX
  iintro HX
  iapply Mem.wp_store
  isplitl [HX]; · iexact HX
  iintro HX
  iapply le_wp_ret
  isplitl [HW]
  · iexact HW
  · iexact HX

/-- A program run before another, by what is known of it. -/
theorem wp_seq {α β : Type} {A : sProp 𝕄} {p : BodyProg (F := F) α} {f : α → BodyProg (F := F) β} {Q : α → sProp 𝕄} {R : β → sProp 𝕄}
    (h : A ⊢ wp frame (wpE defs 𝒱 c bd) E p Q) :
    iprop(A ∗ (∀ a, Q a -∗ wp frame (wpE defs 𝒱 c bd) E (f a) R)) ⊢ wp frame (wpE defs 𝒱 c bd) E (p >>= f) R := by
  rw [wp_bind]
  exact (sep_mono_left h).trans (wp_wand_r _ _ _)

/-- A program for each position of a list changes the state by the fold of the changes. -/
theorem wp_each {n : Nat} {σ : Type} (body : Fin n → BodyProg (F := F) PUnit) (P : σ → sProp 𝕄) (f : Fin n → σ → σ)
    (h : ∀ k s, P s ⊢ wp frame (wpE defs 𝒱 c bd) E (body k) fun _ => P (f k s)) (l : List (Fin n)) (s : σ) :
    P s ⊢ wp frame (wpE defs 𝒱 c bd) E (each body l) fun _ => P (l.foldl (fun s k => f k s) s) := by
  induction l generalizing s with
  | nil =>
    show P s ⊢ wp frame (wpE defs 𝒱 c bd) E (Prog.ret (PUnit.unit) : BodyProg (F := F) PUnit) fun _ => P s
    iintro H
    iapply le_wp_ret
    iexact H
  | cons k l ih =>
    show P s ⊢ wp frame (wpE defs 𝒱 c bd) E (body k >>= fun _ => each body l) _
    rw [wp_bind]
    exact (h k s).trans (wp_mono _ _ _ fun _ => ih (f k s))

/-- Chunk `k` of an operand's tile. -/
def chunkOf (x : Vec F S1920x256 .bf16) (k : Fin 15) : Vec F S128x256 .bf16 :=
  fun j => x ((Rect.unit (s := S1920x256) ![128 * k.val, 0] S128x256.size (inb_chunk k)).toLoadRect.idx j)

/-- The rotated blocks of a tile. -/
def blocks (rot : Vec F S128x128 .bf16) (x : Vec F S1920x256 .bf16) (k : Fin 15) (h : Fin 2) : Fin 16 → FVec F S8x128 .f32 :=
  tiles (rotated rot (chunkOf x k)) h

/-- What the first operand's branch writes: slabs, words and exponents. -/
abbrev StateX (F : FTy → Type) : Type := Vec F S8x1920x256 .bf16 × Vec F S2x240x128 .i32 × Vec F S2x120x128 .i32

/-- One half of a chunk. -/
def stepX (i : grid0.Coords) (hi : k0_cond2 i = 1#1) (rot : Vec F S128x128 .bf16) (x : Vec F S1920x256 .bf16)
    (k : Fin 15) (h : Fin 2) (s : StateX F) : StateX F :=
  (putSlab i hi k h (tile (scaleUp (blockExp (blocks rot x k h))) (nearestWords (blocks rot x k h))) s.1,
    putWords (F := F) k h (nearestWords (blocks rot x k h)) s.2.1, putExps (F := F) k h (blockExp (blocks rot x k h)) s.2.2)

/-- What the second operand's branch writes chunk by chunk. -/
abbrev StateY (F : FTy → Type) : Type := Vec F S256x1920 .bf16 × Vec F S2x240x128 .i32 × Vec F S2x120x128 .i32

/-- The random words of a half of a chunk. -/
def randsOf (r : Vec F S2x480x128 .i32) (k : Fin 15) (h : Fin 2) (j : Fin 4) : IVec S8x128 32 :=
  shapeCast S8x128 (fun x => r ((⟨![h.val, 32 * k.val + j.val, 0], S1x8x128.size, ![1, 4, 1], inb_rand h k j⟩ : LoadRect S2x480x128).idx x) : Vec F S1x8x128 .i32)
    shapeCasts_S1x8x128_S8x128

theorem randWords_eq (r : Vec F S2x480x128 .i32) (k : Fin 15) (h : Fin 2) :
    randWords (F := F) (fun x => r ((⟨![h.val, 32 * k.val + (0 : Fin 4).val, 0], S1x8x128.size, ![1, 4, 1], inb_rand h k 0⟩ : LoadRect S2x480x128).idx x))
      (fun x => r ((⟨![h.val, 32 * k.val + (1 : Fin 4).val, 0], S1x8x128.size, ![1, 4, 1], inb_rand h k 1⟩ : LoadRect S2x480x128).idx x))
      (fun x => r ((⟨![h.val, 32 * k.val + (2 : Fin 4).val, 0], S1x8x128.size, ![1, 4, 1], inb_rand h k 2⟩ : LoadRect S2x480x128).idx x))
      (fun x => r ((⟨![h.val, 32 * k.val + (3 : Fin 4).val, 0], S1x8x128.size, ![1, 4, 1], inb_rand h k 3⟩ : LoadRect S2x480x128).idx x))
      = randsOf r k h := by
  funext j; fin_cases j <;> rfl

/-- The second operand's rounded words. -/
def wordsY (rot : Vec F S128x128 .bf16) (x : Vec F S1920x256 .bf16) (r : Vec F S2x480x128 .i32) (k : Fin 15) (h : Fin 2) :
    Fin 16 → IVec S8x128 32 := randomWords (blocks rot x k h) (randsOf (F := F) r k h)

/-- The quantised rows after one half of a chunk. -/
def putDyt (k : Fin 15) (h : Fin 2) (v : FVec F S128x128 .bf16) (D : Vec F S256x1920 .bf16) : Vec F S256x1920 .bf16 :=
  put (Rect.unit (s := S256x1920) ![128 * h.val, 128 * k.val] S128x128.size (inb_dyt k h))
    (shapeCast S128x128 (transpose S128x128 [1, 0] v transposes_S128x128_p1_0_S128x128) shapeCasts_S128x128_S128x128) D

/-- One half of a chunk. -/
def stepY (rot : Vec F S128x128 .bf16) (x : Vec F S1920x256 .bf16) (r : Vec F S2x480x128 .i32)
    (k : Fin 15) (h : Fin 2) (s : StateY F) : StateY F :=
  (putDyt k h (tile (scaleUp (blockExp (blocks rot x k h))) (wordsY rot x r k h)) s.1,
    putWords (F := F) k h (wordsY rot x r k h) s.2.1, putExps (F := F) k h (blockExp (blocks rot x k h)) s.2.2)

/-- One half of a chunk of the first operand. -/
theorem wp_halfX (i : grid0.Coords) (hi : k0_cond2 i = 1#1) (slabs : Memref sig .tc .vmem S8x1920x256 .bf16) (hslabs : slabs.IsWhole)
    (words : Memref sig .tc .vmem S2x240x128 .i32) (exps : Memref sig .tc .vmem S2x120x128 .i32)
    (rot : Vec F S128x128 .bf16) (x : Vec F S1920x256 .bf16) (k : Fin 15) (h : Fin 2) (s : StateX F) :
    iprop((owns (c : Thread nD τ) slabs fullShare s.1 : sProp 𝕄) ∗ owns (c : Thread nD τ) words fullShare s.2.1 ∗ owns (c : Thread nD τ) exps fullShare s.2.2)
      ⊢ wp frame (wpE defs 𝒱 c bd) E (halfX i hi slabs hslabs words exps k (rotated rot (chunkOf x k)) h) fun _ =>
        iprop((owns (c : Thread nD τ) slabs fullShare (stepX i hi rot x k h s).1) ∗ owns (c : Thread nD τ) words fullShare (stepX i hi rot x k h s).2.1
          ∗ owns (c : Thread nD τ) exps fullShare (stepX i hi rot x k h s).2.2) := by
  unfold halfX stepX putSlab blocks
  dsimp only
  iintro ⟨HS, HW, HX⟩
  iapply wp_seq (wp_storeCodes words exps k h _ _ s.2.1 s.2.2)
  isplitl [HW HX]
  · isplitl [HW]
    · iexact HW
    · iexact HX
  iintro %_ ⟨HW, HX⟩
  simp only [Prog.bind_lift]
  iapply Mem.wp_load
  isplitl [HS]; · iexact HS
  iintro HS
  iapply Mem.wp_store
  isplitl [HS]; · iexact HS
  iintro HS
  iapply le_wp_ret
  isplitl [HS]; · iexact HS
  isplitl [HW]
  · iexact HW
  · iexact HX

/-- One half of a chunk of the second operand. -/
theorem wp_halfY (dyt : Memref sig .tc .vmem S256x1920 .bf16) (hdyt : dyt.IsWhole) (rands : Memref sig .tc .vmem S2x480x128 .i32)
    (words : Memref sig .tc .vmem S2x240x128 .i32) (exps : Memref sig .tc .vmem S2x120x128 .i32)
    (rot : Vec F S128x128 .bf16) (x : Vec F S1920x256 .bf16) (r : Vec F S2x480x128 .i32) (k : Fin 15) (h : Fin 2) (s : StateY F) :
    iprop((owns (c : Thread nD τ) rands fullShare r : sProp 𝕄) ∗ owns (c : Thread nD τ) dyt fullShare s.1
        ∗ owns (c : Thread nD τ) words fullShare s.2.1 ∗ owns (c : Thread nD τ) exps fullShare s.2.2)
      ⊢ wp frame (wpE defs 𝒱 c bd) E (halfY dyt hdyt rands words exps k (rotated rot (chunkOf x k)) h) fun _ =>
        iprop((owns (c : Thread nD τ) rands fullShare r) ∗ owns (c : Thread nD τ) dyt fullShare (stepY rot x r k h s).1
          ∗ owns (c : Thread nD τ) words fullShare (stepY rot x r k h s).2.1 ∗ owns (c : Thread nD τ) exps fullShare (stepY rot x r k h s).2.2) := by
  unfold halfY loadWord stepY putDyt wordsY blocks
  dsimp only
  simp only [Prog.bind_lift]
  iintro ⟨HR, HD, HW, HX⟩
  iapply Mem.wp_load
  isplitl [HR]; · iexact HR
  iintro HR
  iapply Mem.wp_load
  isplitl [HR]; · iexact HR
  iintro HR
  iapply Mem.wp_load
  isplitl [HR]; · iexact HR
  iintro HR
  iapply Mem.wp_load
  isplitl [HR]; · iexact HR
  iintro HR
  rw [randWords_eq]
  iapply wp_seq (wp_storeCodes words exps k h _ _ s.2.1 s.2.2)
  isplitl [HW HX]
  · isplitl [HW]
    · iexact HW
    · iexact HX
  iintro %_ ⟨HW, HX⟩
  iapply Mem.wp_load
  isplitl [HD]; · iexact HD
  iintro HD
  iapply Mem.wp_store
  isplitl [HD]; · iexact HD
  iintro HD
  iapply le_wp_ret
  isplitl [HR]; · iexact HR
  isplitl [HD]; · iexact HD
  isplitl [HW]
  · iexact HW
  · iexact HX

/-- What chunks of the first operand, both halves of each, leave. -/
def afterX (i : grid0.Coords) (hi : k0_cond2 i = 1#1) (rot : Vec F S128x128 .bf16) (x : Vec F S1920x256 .bf16) (k : Fin 15)
    (s : StateX F) : StateX F := stepX i hi rot x k 1 (stepX i hi rot x k 0 s)

/-- What chunks of the second operand, both halves of each, leave. -/
def afterY (rot : Vec F S128x128 .bf16) (x : Vec F S1920x256 .bf16) (r : Vec F S2x480x128 .i32) (k : Fin 15)
    (s : StateY F) : StateY F := stepY rot x r k 1 (stepY rot x r k 0 s)

/-- Chunk `k` of the first operand. -/
theorem wp_chunkX (i : grid0.Coords) (hi : k0_cond2 i = 1#1) (src : Memref sig .tc .vmem S1920x256 .bf16)
    (slabs : Memref sig .tc .vmem S8x1920x256 .bf16) (hslabs : slabs.IsWhole)
    (words : Memref sig .tc .vmem S2x240x128 .i32) (exps : Memref sig .tc .vmem S2x120x128 .i32)
    (rot : Vec F S128x128 .bf16) (x : Vec F S1920x256 .bf16) (k : Fin 15) (s : StateX F) :
    iprop((owns (c : Thread nD τ) src fullShare x : sProp 𝕄) ∗ owns (c : Thread nD τ) slabs fullShare s.1
        ∗ owns (c : Thread nD τ) words fullShare s.2.1 ∗ owns (c : Thread nD τ) exps fullShare s.2.2)
      ⊢ wp frame (wpE defs 𝒱 c bd) E (chunkX i hi src slabs hslabs words exps rot k) fun _ =>
        iprop((owns (c : Thread nD τ) src fullShare x) ∗ owns (c : Thread nD τ) slabs fullShare (afterX i hi rot x k s).1
          ∗ owns (c : Thread nD τ) words fullShare (afterX i hi rot x k s).2.1
          ∗ owns (c : Thread nD τ) exps fullShare (afterX i hi rot x k s).2.2) := by
  unfold chunkX
  simp only [Prog.bind_lift]
  iintro ⟨Hx, H⟩
  iapply Mem.wp_load
  isplitl [Hx]; · iexact Hx
  iintro Hx
  iapply wp_seq (wp_halfX i hi slabs hslabs words exps rot x k 0 s)
  isplitl [H]; · iexact H
  iintro %_ H
  iapply wp_wand_r
  isplitl [H]
  · iapply (wp_halfX i hi slabs hslabs words exps rot x k 1 (stepX i hi rot x k 0 s)) $$ H
  iintro %_ H
  isplitl [Hx]
  · iexact Hx
  · iexact H

/-- Chunk `k` of the second operand. -/
theorem wp_chunkY (src : Memref sig .tc .vmem S1920x256 .bf16) (dyt : Memref sig .tc .vmem S256x1920 .bf16) (hdyt : dyt.IsWhole)
    (rands : Memref sig .tc .vmem S2x480x128 .i32)
    (words : Memref sig .tc .vmem S2x240x128 .i32) (exps : Memref sig .tc .vmem S2x120x128 .i32)
    (rot : Vec F S128x128 .bf16) (x : Vec F S1920x256 .bf16) (r : Vec F S2x480x128 .i32) (k : Fin 15) (s : StateY F) :
    iprop((owns (c : Thread nD τ) src fullShare x : sProp 𝕄) ∗ owns (c : Thread nD τ) rands fullShare r ∗ owns (c : Thread nD τ) dyt fullShare s.1
        ∗ owns (c : Thread nD τ) words fullShare s.2.1 ∗ owns (c : Thread nD τ) exps fullShare s.2.2)
      ⊢ wp frame (wpE defs 𝒱 c bd) E (chunkY src dyt hdyt rands words exps rot k) fun _ =>
        iprop((owns (c : Thread nD τ) src fullShare x) ∗ owns (c : Thread nD τ) rands fullShare r
          ∗ owns (c : Thread nD τ) dyt fullShare (afterY rot x r k s).1
          ∗ owns (c : Thread nD τ) words fullShare (afterY rot x r k s).2.1
          ∗ owns (c : Thread nD τ) exps fullShare (afterY rot x r k s).2.2) := by
  unfold chunkY
  simp only [Prog.bind_lift]
  iintro ⟨Hx, H⟩
  iapply Mem.wp_load
  isplitl [Hx]; · iexact Hx
  iintro Hx
  iapply wp_seq (wp_halfY dyt hdyt rands words exps rot x r k 0 s)
  isplitl [H]; · iexact H
  iintro %_ H
  iapply wp_wand_r
  isplitl [H]
  · iapply (wp_halfY dyt hdyt rands words exps rot x r k 1 (stepY rot x r k 0 s)) $$ H
  iintro %_ H
  isplitl [Hx]
  · iexact Hx
  · iexact H

/-- The codes of one half. -/
def putCodes (w : Vec F S2x240x128 .i32) (h : Fin 2) (C : Vec F S256x960 .i8) : Vec F S256x960 .i8 :=
  put (Rect.unit (s := S256x960) ![128 * h.val, 0] S128x960.size (inb_codes h))
      (transpose S128x960 [1, 0] (bitcast S960x128 8 (shapeCast S240x128
        (fun x => w ((Rect.unit (s := S2x240x128) ![h.val, 0, 0] S1x240x128.size (inb_words h)).toLoadRect.idx x) : Vec F S1x240x128 .i32)
        shapeCasts_S1x240x128_S240x128 : IVec S240x128 32) bitcasts_S240x128_w32_S960x128_w8) transposes_S960x128_p1_0_S128x960) C

/-- The scales of one half. -/
def putScales (e : Vec F S2x120x128 .i32) (h : Fin 2) (C : Vec F S256x60 .i8) : Vec F S256x60 .i8 :=
  put (Rect.unit (s := S256x60) ![128 * h.val, 0] S128x60.size (inb_scales h))
      (trunci 8 (transpose S128x60 [1, 0] (shapeCast S60x128
        (fun x => e ((⟨![h.val, 0, 0], S1x60x128.size, ![1, 2, 1], inb_exps h⟩ : LoadRect S2x120x128).idx x) : Vec F S1x60x128 .i32)
        shapeCasts_S1x60x128_S60x128 : IVec S60x128 32) transposes_S60x128_p1_0_S128x60) natLt_8_32 : IVec S128x60 8) C

/-- The codes and scales of one half. -/
def stepOut (w : Vec F S2x240x128 .i32) (e : Vec F S2x120x128 .i32) (h : Fin 2) (s : Vec F S256x960 .i8 × Vec F S256x60 .i8) :
    Vec F S256x960 .i8 × Vec F S256x60 .i8 := (putCodes w h s.1, putScales e h s.2)

/-- The codes and scales of one half are stored. -/
theorem wp_finish (words : Memref sig .tc .vmem S2x240x128 .i32) (exps : Memref sig .tc .vmem S2x120x128 .i32)
    (codes : Memref sig .tc .vmem S256x960 .i8) (hcodes : codes.IsWhole)
    (scales : Memref sig .tc .vmem S256x60 .i8) (hscales : scales.IsWhole)
    (w : Vec F S2x240x128 .i32) (e : Vec F S2x120x128 .i32) (h : Fin 2) (s : Vec F S256x960 .i8 × Vec F S256x60 .i8) :
    iprop((owns (c : Thread nD τ) words fullShare w : sProp 𝕄) ∗ owns (c : Thread nD τ) exps fullShare e
        ∗ owns (c : Thread nD τ) codes fullShare s.1 ∗ owns (c : Thread nD τ) scales fullShare s.2)
      ⊢ wp frame (wpE defs 𝒱 c bd) E (finish words exps codes hcodes scales hscales h) fun _ =>
        iprop((owns (c : Thread nD τ) words fullShare w) ∗ owns (c : Thread nD τ) exps fullShare e
          ∗ owns (c : Thread nD τ) codes fullShare (stepOut w e h s).1 ∗ owns (c : Thread nD τ) scales fullShare (stepOut w e h s).2) := by
  unfold finish stepOut putCodes putScales
  dsimp only
  simp only [Prog.bind_lift]
  iintro ⟨HW, HX, HC, HS⟩
  iapply Mem.wp_load
  isplitl [HW]; · iexact HW
  iintro HW
  iapply Mem.wp_load
  isplitl [HC]; · iexact HC
  iintro HC
  iapply Mem.wp_store
  isplitl [HC]; · iexact HC
  iintro HC
  iapply Mem.wp_load
  isplitl [HX]; · iexact HX
  iintro HX
  iapply Mem.wp_load
  isplitl [HS]; · iexact HS
  iintro HS
  iapply Mem.wp_store
  isplitl [HS]; · iexact HS
  iintro HS
  iapply le_wp_ret
  isplitl [HW]; · iexact HW
  isplitl [HX]; · iexact HX
  isplitl [HC]
  · iexact HC
  · iexact HS

/-- The random bytes of one half as words. -/
def stepRand (r : Vec F S1920x256 .i8) (h : Fin 2) (s : Vec F S2x480x128 .i32) : Vec F S2x480x128 .i32 :=
  put (Rect.unit (s := S2x480x128) ![h.val, 0, 0] S1x480x128.size (inb_rands h))
    (shapeCast S1x480x128 (bitcast S480x128 32 (shapeCast S1920x128
      (fun x => r ((Rect.unit (s := S1920x256) ![0, 128 * h.val] S1920x128.size (inb_randIn h)).toLoadRect.idx x) : Vec F S1920x128 .i8)
      shapeCasts_S1920x128_S1920x128 : IVec S1920x128 8) bitcasts_S1920x128_w8_S480x128_w32) shapeCasts_S480x128_S1x480x128) s

/-- The random bytes of one half are stored as words. -/
theorem wp_loadRand (rand : Memref sig .tc .vmem S1920x256 .i8) (rands : Memref sig .tc .vmem S2x480x128 .i32)
    (r : Vec F S1920x256 .i8) (h : Fin 2) (s : Vec F S2x480x128 .i32) :
    iprop((owns (c : Thread nD τ) rand fullShare r : sProp 𝕄) ∗ owns (c : Thread nD τ) rands fullShare s)
      ⊢ wp frame (wpE defs 𝒱 c bd) E (loadRand rand rands h) fun _ =>
        iprop((owns (c : Thread nD τ) rand fullShare r) ∗ owns (c : Thread nD τ) rands fullShare (stepRand r h s)) := by
  unfold loadRand stepRand
  dsimp only
  simp only [Prog.bind_lift]
  iintro ⟨HR, HS⟩
  iapply Mem.wp_load
  isplitl [HR]; · iexact HR
  iintro HR
  iapply Mem.wp_load
  isplitl [HS]; · iexact HS
  iintro HS
  iapply Mem.wp_store
  isplitl [HS]; · iexact HS
  iintro HS
  iapply le_wp_ret
  isplitl [HR]
  · iexact HR
  · iexact HS

/-- Columns of the product. -/
def stepProduct (a : Vec F S256x1920 .bf16) (b : Vec F S8x1920x256 .bf16) (j : Fin 8) (s : Vec F S256x2048 .f32) : Vec F S256x2048 .f32 :=
  put (Rect.unit (s := S256x2048) ![0, 256 * j.val] S256x256.size (inb_dw j))
    (matmul dot_S256x1920_S1920x256_S256x256_1_0_0_1_n_n none
      ((fun x => a ((Rect.unit (s := S256x1920) ![0, 0] S256x1920.size inb_S256x1920_S256x1920_0_0).toLoadRect.idx x)) : FVec F S256x1920 .bf16)
      (shapeCast S1920x256 (fun x => b ((Rect.unit (s := S8x1920x256) ![j.val, 0, 0] S1x1920x256.size (inb_whole j)).toLoadRect.idx x) : Vec F S1x1920x256 .bf16)
        shapeCasts_S1x1920x256_S1920x256 : FVec F S1920x256 .bf16)
      (constant S256x256 .f32 0x00000000#32) : FVec F S256x256 .f32) s

/-- Columns of the product are stored. -/
theorem wp_product (dw : Memref sig .tc .vmem S256x2048 .f32) (slabs : Memref sig .tc .vmem S8x1920x256 .bf16)
    (dyt : Memref sig .tc .vmem S256x1920 .bf16) (a : Vec F S256x1920 .bf16) (b : Vec F S8x1920x256 .bf16) (j : Fin 8) (s : Vec F S256x2048 .f32) :
    iprop((owns (c : Thread nD τ) dyt fullShare a : sProp 𝕄) ∗ owns (c : Thread nD τ) slabs fullShare b ∗ owns (c : Thread nD τ) dw fullShare s)
      ⊢ wp frame (wpE defs 𝒱 c bd) E (product dw slabs dyt j) fun _ =>
        iprop((owns (c : Thread nD τ) dyt fullShare a) ∗ owns (c : Thread nD τ) slabs fullShare b ∗ owns (c : Thread nD τ) dw fullShare (stepProduct a b j s)) := by
  unfold product stepProduct
  dsimp only
  simp only [Prog.bind_lift]
  iintro ⟨HA, HB, HD⟩
  iapply Mem.wp_load
  isplitl [HA]; · iexact HA
  iintro HA
  iapply Mem.wp_load
  isplitl [HB]; · iexact HB
  iintro HB
  iapply Mem.wp_load
  isplitl [HD]; · iexact HD
  iintro HD
  iapply Mem.wp_store
  isplitl [HD]; · iexact HD
  iintro HD
  iapply le_wp_ret
  isplitl [HA]; · iexact HA
  isplitl [HB]
  · iexact HB
  · iexact HD

end Cert.KernelIdeal.Body

end
-- ==== Proof.Body.Fill.lean ====
/- What the loops over chunks and halves leave, as functions of the coordinates: each buffer is covered, and each store's
   payload is that function's values where it goes. -/
module

public import proofs.«01_k».proof.Proof.Body.Steps
public import Idealize.ShloMosaic.Lib.Pointwise

@[expose] public section

set_option maxRecDepth 4096

noncomputable section

namespace Cert.Mem

open Idealize.ShloMosaic

/-- A coordinate the rectangle reaches is stored to. -/
theorem put_at {s : Shape} {α : Type} (r : Rect s) (w : r.shape.Idx → α) (X G : s.Idx → α) (hw : ∀ x, w x = G (r.emb x))
    (y : s.Idx) (x : r.shape.Idx) (hx : r.emb x = y) : put r w X y = G y := by
  subst hx; rw [put_in, hw]

/-- Steps that keep a function's values, one of which sets coordinate `y` to its value, leave it there. -/
theorem fold_eq {ι α κ : Type} (step : κ → (ι → α) → ι → α) (G : ι → α)
    (keep : ∀ k X y, X y = G y → step k X y = G y) (y : ι) (l : List κ) (X : ι → α)
    (hc : ∃ k ∈ l, ∀ X, step k X y = G y) : l.foldl (fun X k => step k X) X y = G y := by
  have keeps : ∀ (l : List κ) (X : ι → α), X y = G y → l.foldl (fun X k => step k X) X y = G y := by
    intro l
    induction l with
    | nil => intro X h; exact h
    | cons k l ih => intro X h; exact ih _ (keep k X y h)
  induction l generalizing X with
  | nil => obtain ⟨k, hk, -⟩ := hc; simp at hk
  | cons k l ih =>
    obtain ⟨k', hk, h⟩ := hc
    rcases List.mem_cons.mp hk with rfl | hk
    · exact keeps l _ (h X)
    · exact ih _ ⟨k', hk, h⟩

/-- Steps none of which touches coordinate `y`. -/
theorem fold_out {ι α κ : Type} (step : κ → (ι → α) → ι → α) (y : ι) (h : ∀ k X, step k X y = X y) (l : List κ) (X : ι → α) :
    l.foldl (fun X k => step k X) X y = X y := by
  induction l generalizing X with
  | nil => rfl
  | cons k l ih => exact (ih _).trans (h k X)

end Cert.Mem

namespace Cert.KernelIdeal.Body

open Idealize.ShloMosaic Cert.Mem
open Cert.KernelIdeal Facts₀ Facts

variable {F : FTy → Type} [FloatOps F] [Facts]

theorem mem_chunks : ∀ k : Fin 15, k ∈ chunks := by decide

/-- The rounded words of all chunks and halves. -/
abbrev Words := Fin 15 → Fin 2 → Fin 16 → IVec S8x128 32

/-- All words of codes. -/
def wordsG (y : Words) : Vec F S2x240x128 .i32 := fun j =>
  codeWord (y ⟨(j 1).val / 16, by have := (j 1).isLt; simp at this; omega⟩ (j 0)) ⟨(j 1).val % 2, by omega⟩
    (ix2 ⟨(j 1).val % 16 / 2, by omega⟩ (j 2))

/-- All exponents. -/
def expsG (e : Fin 15 → Fin 2 → IVec S8x128 32) : Vec F S2x120x128 .i32 := fun j =>
  addi (e ⟨(j 1).val / 8, by have := (j 1).isLt; simp at this; omega⟩ (j 0)) (word 1#32) (ix2 ⟨(j 1).val % 8, by omega⟩ (j 2))

/-- The quantised rows of the second operand's tile. -/
def dytG (v : Fin 15 → Fin 2 → FVec F S128x128 .bf16) : Vec F S256x1920 .bf16 := fun j =>
  v ⟨(j 1).val / 128, by have := (j 1).isLt; simp at this; omega⟩ ⟨(j 0).val / 128, by have := (j 0).isLt; simp at this; omega⟩
    (ix2 ⟨(j 1).val % 128, by omega⟩ ⟨(j 0).val % 128, by omega⟩)

/-- The quantised columns of the first operand's tile. -/
def slabG (v : Fin 15 → Fin 2 → FVec F S128x128 .bf16) : Vec F S1920x256 .bf16 := fun j =>
  v ⟨(j 0).val / 128, by have := (j 0).isLt; simp at this; omega⟩ ⟨(j 1).val / 128, by have := (j 1).isLt; simp at this; omega⟩
    (ix2 ⟨(j 0).val % 128, by omega⟩ ⟨(j 1).val % 128, by omega⟩)

/-- The random words. -/
def randsG (r : Vec F S1920x256 .i8) : Vec F S2x480x128 .i32 := fun j =>
  (bitcast S480x128 32 ((fun x => r (ix2 (x 0) ⟨128 * (j 0).val + (x 1).val, by have := (j 0).isLt; have := (x 1).isLt; simp at *; omega⟩)) : IVec S1920x128 8)
    bitcasts_S1920x128_w8_S480x128_w32 : IVec S480x128 32) (ix2 (j 1) (j 2))

/-- The codes, out of the words. -/
def codesG (w : Vec F S2x240x128 .i32) : Vec F S256x960 .i8 := fun j =>
  (bitcast S960x128 8 ((fun x => w (ix3 ⟨(j 0).val / 128, by have := (j 0).isLt; simp at this; omega⟩ (x 0) (x 1))) : IVec S240x128 32)
    bitcasts_S240x128_w32_S960x128_w8 : IVec S960x128 8) (ix2 (j 1) ⟨(j 0).val % 128, by omega⟩)

/-- The scales, out of the exponents. -/
def scalesG (e : Vec F S2x120x128 .i32) : Vec F S256x60 .i8 := fun j =>
  BitVec.setWidth 8 (e (ix3 ⟨(j 0).val / 128, by have := (j 0).isLt; simp at this; omega⟩ ⟨2 * (j 1).val, by have := (j 1).isLt; simp at this; omega⟩ ⟨(j 0).val % 128, by omega⟩))

/-- The product, out of the quantised rows and columns. -/
def productG (a : Vec F S256x1920 .bf16) (b : Vec F S8x1920x256 .bf16) : Vec F S256x2048 .f32 := fun j =>
  (matmul dot_S256x1920_S1920x256_S256x256_1_0_0_1_n_n none (a : FVec F S256x1920 .bf16)
    ((fun x => b (ix3 ⟨(j 1).val / 256, by have := (j 1).isLt; simp at this; omega⟩ (x 0) (x 1))) : FVec F S1920x256 .bf16)
    (constant S256x256 .f32 0x00000000#32) : FVec F S256x256 .f32) (ix2 (j 0) ⟨(j 1).val % 256, by omega⟩)

/-- A word's row belongs to chunk `k`, row `b` and word `c`. -/
theorem wordsG_at (y : Words) (j : S2x240x128.Idx) (k : Fin 15) (h c : Fin 2) (b : Fin 8) (l : Fin 128)
    (h0 : (j 0).val = h.val) (h1 : (j 1).val = 16 * k.val + c.val + 2 * b.val) (h2 : (j 2).val = l.val) :
    wordsG (F := F) y j = codeWord (y k h) c (ix2 b l) := by
  have e0 : j 0 = h := Fin.ext h0
  have e2 : j 2 = l := Fin.ext h2
  have e1 : ∀ p, (⟨(j 1).val / 16, p⟩ : Fin 15) = k := fun _ => Fin.ext (by show (j 1).val / 16 = k.val; omega)
  have e3 : ∀ p, (⟨(j 1).val % 2, p⟩ : Fin 2) = c := fun _ => Fin.ext (by show (j 1).val % 2 = c.val; omega)
  have e4 : ∀ p, (⟨(j 1).val % 16 / 2, p⟩ : Fin 8) = b := fun _ => Fin.ext (by show (j 1).val % 16 / 2 = b.val; omega)
  unfold wordsG
  rw [e0, e1, e2, e3, e4]

theorem expsG_at (e : Fin 15 → Fin 2 → IVec S8x128 32) (j : S2x120x128.Idx) (k : Fin 15) (h : Fin 2) (b : Fin 8) (l : Fin 128)
    (h0 : (j 0).val = h.val) (h1 : (j 1).val = 8 * k.val + b.val) (h2 : (j 2).val = l.val) :
    expsG (F := F) e j = addi (e k h) (word 1#32) (ix2 b l) := by
  have e0 : j 0 = h := Fin.ext h0
  have e2 : j 2 = l := Fin.ext h2
  have e1 : ∀ p, (⟨(j 1).val / 8, p⟩ : Fin 15) = k := fun _ => Fin.ext (by show (j 1).val / 8 = k.val; omega)
  have e3 : ∀ p, (⟨(j 1).val % 8, p⟩ : Fin 8) = b := fun _ => Fin.ext (by show (j 1).val % 8 = b.val; omega)
  unfold expsG
  rw [e0, e1, e2, e3]

theorem dytG_at (v : Fin 15 → Fin 2 → FVec F S128x128 .bf16) (j : S256x1920.Idx) (k : Fin 15) (h : Fin 2) (b l : Fin 128)
    (h0 : (j 0).val = 128 * h.val + b.val) (h1 : (j 1).val = 128 * k.val + l.val) :
    dytG v j = v k h (ix2 l b) := by
  have e0 : ∀ p, (⟨(j 1).val / 128, p⟩ : Fin 15) = k := fun _ => Fin.ext (by show (j 1).val / 128 = k.val; omega)
  have e1 : ∀ p, (⟨(j 0).val / 128, p⟩ : Fin 2) = h := fun _ => Fin.ext (by show (j 0).val / 128 = h.val; omega)
  have e2 : ∀ p, (⟨(j 1).val % 128, p⟩ : Fin 128) = l := fun _ => Fin.ext (by show (j 1).val % 128 = l.val; omega)
  have e3 : ∀ p, (⟨(j 0).val % 128, p⟩ : Fin 128) = b := fun _ => Fin.ext (by show (j 0).val % 128 = b.val; omega)
  unfold dytG
  rw [e0, e1, e2, e3]

theorem slabG_at (v : Fin 15 → Fin 2 → FVec F S128x128 .bf16) (j : S1920x256.Idx) (k : Fin 15) (h : Fin 2) (b l : Fin 128)
    (h0 : (j 0).val = 128 * k.val + b.val) (h1 : (j 1).val = 128 * h.val + l.val) :
    slabG v j = v k h (ix2 b l) := by
  have e0 : ∀ p, (⟨(j 0).val / 128, p⟩ : Fin 15) = k := fun _ => Fin.ext (by show (j 0).val / 128 = k.val; omega)
  have e1 : ∀ p, (⟨(j 1).val / 128, p⟩ : Fin 2) = h := fun _ => Fin.ext (by show (j 1).val / 128 = h.val; omega)
  have e2 : ∀ p, (⟨(j 0).val % 128, p⟩ : Fin 128) = b := fun _ => Fin.ext (by show (j 0).val % 128 = b.val; omega)
  have e3 : ∀ p, (⟨(j 1).val % 128, p⟩ : Fin 128) = l := fun _ => Fin.ext (by show (j 1).val % 128 = l.val; omega)
  unfold slabG
  rw [e0, e1, e2, e3]

/-- Each word of codes goes to its place. -/
theorem word_payload (y : Words) (k : Fin 15) (h c : Fin 2) (x : S1x8x128.Idx) :
    shapeCast S1x8x128 (codeWord (y k h) c) shapeCasts_S8x128_S1x8x128 x = wordsG (F := F) y ((rectWord k h c).emb x) := by
  obtain ⟨a, b, l, rfl⟩ : ∃ a b l, x = ix3 a b l := ⟨x 0, x 1, x 2, eq_ix3 x⟩
  rw [wordsG_at y _ k h c b l]
  · pointwise
  · show h.val + 1 * a.val = h.val; omega
  · show 16 * k.val + c.val + 2 * b.val = _; omega
  · show 0 + 1 * l.val = l.val; omega

theorem exp_payload (e : Fin 15 → Fin 2 → IVec S8x128 32) (k : Fin 15) (h : Fin 2) (x : S1x8x128.Idx) :
    shapeCast S1x8x128 (addi (e k h) (word 1#32)) shapeCasts_S8x128_S1x8x128 x = expsG (F := F) e ((rectExp k h).emb x) := by
  obtain ⟨a, b, l, rfl⟩ : ∃ a b l, x = ix3 a b l := ⟨x 0, x 1, x 2, eq_ix3 x⟩
  rw [expsG_at e _ k h b l]
  · generalize addi (e k h) (word 1#32) = v
    pointwise
  · show h.val + 1 * a.val = h.val; omega
  · show 8 * k.val + 1 * b.val = _; omega
  · show 0 + 1 * l.val = l.val; omega

theorem dyt_payload (v : Fin 15 → Fin 2 → FVec F S128x128 .bf16) (k : Fin 15) (h : Fin 2) (x : S128x128.Idx) :
    shapeCast S128x128 (transpose S128x128 [1, 0] (v k h) transposes_S128x128_p1_0_S128x128) shapeCasts_S128x128_S128x128 x
      = dytG v ((Rect.unit (s := S256x1920) ![128 * h.val, 128 * k.val] S128x128.size (inb_dyt k h)).emb x) := by
  obtain ⟨b, l, rfl⟩ : ∃ b l, x = ix2 b l := ⟨x 0, x 1, eq_ix2 x⟩
  rw [dytG_at v _ k h b l]
  · pointwise
  · show 128 * h.val + 1 * b.val = _; omega
  · show 128 * k.val + 1 * l.val = _; omega

/-- All words are filled. -/
theorem fill_words (y : Words) (X : Vec F S2x240x128 .i32) :
    chunks.foldl (fun X k => putWords k 1 (y k 1) (putWords k 0 (y k 0) X)) X = wordsG y := by
  funext j
  obtain ⟨h, r, l, rfl⟩ : ∃ a b l, j = ix3 a b l := ⟨j 0, j 1, j 2, eq_ix3 j⟩
  obtain ⟨K, hK⟩ : ∃ K : Fin 15, K.val = r.val / 16 := ⟨⟨r.val / 16, by omega⟩, rfl⟩
  have keep1 : ∀ (k : Fin 15) (h c : Fin 2) X (j : S2x240x128.Idx), X j = wordsG (F := F) y j → put (rectWord k h c) _ X j = wordsG (F := F) y j :=
    fun k h c X j hj => put_keep _ _ _ _ (word_payload y k h c) j hj
  refine fold_eq (fun k X => putWords k 1 (y k 1) (putWords k 0 (y k 0) X)) (wordsG y)
    (fun k X j hj => keep1 k 1 1 _ j (keep1 k 1 0 _ j (keep1 k 0 1 _ j (keep1 k 0 0 _ j hj)))) _ chunks X
    ⟨K, mem_chunks _, fun X => ?_⟩
  have at1 : ∀ (c : Fin 2) (h' : Fin 2) X, c.val = r.val % 2 → h' = h → put (rectWord K h' c)
      (shapeCast S1x8x128 (codeWord (y K h') c) shapeCasts_S8x128_S1x8x128) X (ix3 h r l) = wordsG (F := F) y (ix3 h r l) := by
    rintro c h' X hc rfl
    refine put_at _ _ _ _ (word_payload y _ h' c) _ (ix3 (0 : Fin 1) (⟨r.val % 16 / 2, by omega⟩ : Fin 8) l) ?_
    funext a
    fin_cases a
    · exact Fin.ext (by show h'.val + 1 * 0 = h'.val; omega)
    · exact Fin.ext (by show 16 * K.val + c.val + 2 * (r.val % 16 / 2) = r.val; omega)
    · exact Fin.ext (by show 0 + 1 * l.val = l.val; omega)
  rcases (by omega : h.val = 0 ∨ h.val = 1) with h0 | h0 <;> rcases (by omega : r.val % 2 = 0 ∨ r.val % 2 = 1) with hr | hr
  · exact keep1 _ 1 1 _ _ (keep1 _ 1 0 _ _ (keep1 _ 0 1 _ _ (at1 0 0 _ (by simp [hr]) (Fin.ext h0.symm))))
  · exact keep1 _ 1 1 _ _ (keep1 _ 1 0 _ _ (at1 1 0 _ (by simp [hr]) (Fin.ext h0.symm)))
  · exact keep1 _ 1 1 _ _ (at1 0 1 _ (by simp [hr]) (Fin.ext h0.symm))
  · exact at1 1 1 _ (by simp [hr]) (Fin.ext h0.symm)

/-- All exponents are filled. -/
theorem fill_exps (e : Fin 15 → Fin 2 → IVec S8x128 32) (X : Vec F S2x120x128 .i32) :
    chunks.foldl (fun X k => putExps k 1 (e k 1) (putExps k 0 (e k 0) X)) X = expsG e := by
  funext j
  obtain ⟨h, r, l, rfl⟩ : ∃ a b l, j = ix3 a b l := ⟨j 0, j 1, j 2, eq_ix3 j⟩
  obtain ⟨K, hK⟩ : ∃ K : Fin 15, K.val = r.val / 8 := ⟨⟨r.val / 8, by omega⟩, rfl⟩
  have keep1 : ∀ (k : Fin 15) (h : Fin 2) X (j : S2x120x128.Idx), X j = expsG (F := F) e j → put (rectExp k h) _ X j = expsG (F := F) e j :=
    fun k h X j hj => put_keep _ _ _ _ (exp_payload e k h) j hj
  refine fold_eq (fun k X => putExps k 1 (e k 1) (putExps k 0 (e k 0) X)) (expsG e)
    (fun k X j hj => keep1 k 1 _ j (keep1 k 0 _ j hj)) _ chunks X ⟨K, mem_chunks _, fun X => ?_⟩
  have at1 : ∀ (h' : Fin 2) X, h' = h → put (rectExp K h')
      (shapeCast S1x8x128 (addi (e K h') (word 1#32)) shapeCasts_S8x128_S1x8x128) X (ix3 h r l) = expsG (F := F) e (ix3 h r l) := by
    rintro h' X rfl
    refine put_at _ _ _ _ (exp_payload e _ h') _ (ix3 (0 : Fin 1) (⟨r.val % 8, by omega⟩ : Fin 8) l) ?_
    funext a
    fin_cases a
    · exact Fin.ext (by show h'.val + 1 * 0 = h'.val; omega)
    · exact Fin.ext (by show 8 * K.val + 1 * (r.val % 8) = r.val; omega)
    · exact Fin.ext (by show 0 + 1 * l.val = l.val; omega)
  rcases (by omega : h.val = 0 ∨ h.val = 1) with h0 | h0
  · exact keep1 _ 1 _ _ (at1 0 _ (Fin.ext h0.symm))
  · exact at1 1 _ (Fin.ext h0.symm)

/-- All quantised rows are filled. -/
theorem fill_dyt (v : Fin 15 → Fin 2 → FVec F S128x128 .bf16) (X : Vec F S256x1920 .bf16) :
    chunks.foldl (fun X k => putDyt k 1 (v k 1) (putDyt k 0 (v k 0) X)) X = dytG v := by
  funext j
  obtain ⟨r, l, rfl⟩ : ∃ b l, j = ix2 b l := ⟨j 0, j 1, eq_ix2 j⟩
  obtain ⟨K, hK⟩ : ∃ K : Fin 15, K.val = l.val / 128 := ⟨⟨l.val / 128, by omega⟩, rfl⟩
  have keep1 : ∀ (k : Fin 15) (h : Fin 2) X (j : S256x1920.Idx), X j = dytG v j → putDyt k h (v k h) X j = dytG v j :=
    fun k h X j hj => put_keep _ _ _ _ (dyt_payload v k h) j hj
  refine fold_eq (fun k X => putDyt k 1 (v k 1) (putDyt k 0 (v k 0) X)) (dytG v)
    (fun k X j hj => keep1 k 1 _ j (keep1 k 0 _ j hj)) _ chunks X ⟨K, mem_chunks _, fun X => ?_⟩
  have at1 : ∀ (h' : Fin 2) X, h'.val = r.val / 128 → putDyt K h' (v K h') X (ix2 r l) = dytG v (ix2 r l) := by
    rintro h' X hh
    refine put_at _ _ _ _ (dyt_payload v _ h') _ (ix2 (⟨r.val % 128, by omega⟩ : Fin 128) (⟨l.val % 128, by omega⟩ : Fin 128)) ?_
    funext a
    fin_cases a
    · exact Fin.ext (by show 128 * h'.val + 1 * (r.val % 128) = r.val; omega)
    · exact Fin.ext (by show 128 * K.val + 1 * (l.val % 128) = l.val; omega)
  rcases (by omega : r.val / 128 = 0 ∨ r.val / 128 = 1) with h0 | h0
  · exact keep1 _ 1 _ _ (at1 0 _ (by simp [h0]))
  · exact at1 1 _ (by simp [h0])

/-- The slab with index `n` in the slabs. -/
def slabAt (S : Vec F S8x1920x256 .bf16) (n : Fin 8) : Vec F S1920x256 .bf16 := fun j => S (ix3 n (j 0) (j 1))

/-- Where a slab begins. -/
theorem slabOff_zero : ∀ (i : grid0.Coords) (_ : k0_cond2 i = 1#1) (k : Fin 15) (h : Fin 2), slabOff i k h 0 = (i 0).val := by
  decide +kernel

/-- The step's slab is filled. -/
theorem fill_slab (i : grid0.Coords) (hi : k0_cond2 i = 1#1) (v : Fin 15 → Fin 2 → FVec F S128x128 .bf16) (X : Vec F S8x1920x256 .bf16)
    (n : Fin 8) (hn : n.val = (i 0).val) :
    slabAt (chunks.foldl (fun X k => putSlab i hi k 1 (v k 1) (putSlab i hi k 0 (v k 0) X)) X) n = slabG v := by
  have pay : ∀ (k : Fin 15) (h : Fin 2) (x : S1x128x128.Idx), shapeCast S1x128x128 (v k h) shapeCasts_S128x128_S1x128x128 x
      = (fun j : S8x1920x256.Idx => slabG v (ix2 (j 1) (j 2))) ((Rect.unit (s := S8x1920x256) (slabOff i k h) S1x128x128.size (slabOff_inb i hi k h)).emb x) := by
    intro k h x
    obtain ⟨a, b, l, rfl⟩ : ∃ a b l, x = ix3 a b l := ⟨x 0, x 1, x 2, eq_ix3 x⟩
    dsimp only
    rw [slabG_at v _ k h b l]
    · pointwise
    · show 128 * k.val + 1 * b.val = _; omega
    · show 128 * h.val + 1 * l.val = _; omega
  funext j
  obtain ⟨r, l, rfl⟩ : ∃ b l, j = ix2 b l := ⟨j 0, j 1, eq_ix2 j⟩
  obtain ⟨K, hK⟩ : ∃ K : Fin 15, K.val = r.val / 128 := ⟨⟨r.val / 128, by omega⟩, rfl⟩
  have keep1 : ∀ (k : Fin 15) (h : Fin 2) X (j : S8x1920x256.Idx), X j = slabG v (ix2 (j 1) (j 2)) → putSlab i hi k h (v k h) X j = slabG v (ix2 (j 1) (j 2)) :=
    fun k h X j hj => put_keep _ _ _ (fun j : S8x1920x256.Idx => slabG v (ix2 (j 1) (j 2))) (pay k h) j hj
  refine fold_eq (fun k X => putSlab i hi k 1 (v k 1) (putSlab i hi k 0 (v k 0) X)) (fun j : S8x1920x256.Idx => slabG v (ix2 (j 1) (j 2)))
    (fun k X j hj => keep1 k 1 _ j (keep1 k 0 _ j hj)) (ix3 n r l) chunks X ⟨K, mem_chunks _, fun X => ?_⟩
  have at1 : ∀ (h' : Fin 2) X, h'.val = l.val / 128 → putSlab i hi K h' (v K h') X (ix3 n r l) = slabG v (ix2 r l) := by
    rintro h' X hh
    refine put_at _ _ _ (fun j : S8x1920x256.Idx => slabG v (ix2 (j 1) (j 2))) (pay K h') (ix3 n r l)
      (ix3 (0 : Fin 1) (⟨r.val % 128, by omega⟩ : Fin 128) (⟨l.val % 128, by omega⟩ : Fin 128)) ?_
    funext a
    fin_cases a
    · exact Fin.ext (by show slabOff i K h' 0 + 1 * 0 = n.val; rw [slabOff_zero i hi, hn]; omega)
    · exact Fin.ext (by show 128 * K.val + 1 * (r.val % 128) = r.val; omega)
    · exact Fin.ext (by show 128 * h'.val + 1 * (l.val % 128) = l.val; omega)
  rcases (by omega : l.val / 128 = 0 ∨ l.val / 128 = 1) with h0 | h0
  · exact keep1 _ 1 _ _ (at1 0 _ (by simp [h0]))
  · exact at1 1 _ (by simp [h0])

/-- The other slabs are kept. -/
theorem keep_slab (i : grid0.Coords) (hi : k0_cond2 i = 1#1) (v : Fin 15 → Fin 2 → FVec F S128x128 .bf16) (X : Vec F S8x1920x256 .bf16)
    (n : Fin 8) (hn : n.val ≠ (i 0).val) :
    slabAt (chunks.foldl (fun X k => putSlab i hi k 1 (v k 1) (putSlab i hi k 0 (v k 0) X)) X) n = slabAt X n := by
  funext j
  have out : ∀ k h w X, putSlab (F := F) i hi k h w X (ix3 n (j 0) (j 1)) = X (ix3 n (j 0) (j 1)) := by
    intro k h w X
    refine put_out _ _ _ _ fun x hx => hn ?_
    have h0 : slabOff i k h 0 + 1 * (x 0).val = n.val := congrArg (fun y : S8x1920x256.Idx => (y 0).val) hx
    rw [slabOff_zero i hi] at h0
    have h1 : (x 0).val < 1 := (x 0).isLt
    omega
  exact fold_out (fun k X => putSlab i hi k 1 (v k 1) (putSlab i hi k 0 (v k 0) X)) _ (fun k X => (out k 1 _ _).trans (out k 0 _ _)) chunks X

/-- Both halves of the random words are filled. -/
theorem fill_rands (r : Vec F S1920x256 .i8) (X : Vec F S2x480x128 .i32) :
    [0, 1].foldl (fun X h => stepRand r h X) X = randsG r := by
  have pay : ∀ (h : Fin 2) (x : S1x480x128.Idx), shapeCast S1x480x128 (bitcast S480x128 32 (shapeCast S1920x128
      (fun x => r ((Rect.unit (s := S1920x256) ![0, 128 * h.val] S1920x128.size (inb_randIn h)).toLoadRect.idx x) : Vec F S1920x128 .i8)
      shapeCasts_S1920x128_S1920x128 : IVec S1920x128 8) bitcasts_S1920x128_w8_S480x128_w32) shapeCasts_S480x128_S1x480x128 x
      = randsG r ((Rect.unit (s := S2x480x128) ![h.val, 0, 0] S1x480x128.size (inb_rands h)).emb x) := by
    intro h x
    obtain ⟨a, b, l, rfl⟩ : ∃ a b l, x = ix3 a b l := ⟨x 0, x 1, x 2, eq_ix3 x⟩
    have e : (Rect.unit (s := S2x480x128) ![h.val, 0, 0] S1x480x128.size (inb_rands h)).emb (ix3 a b l) = ix3 h b l := by
      funext a'
      fin_cases a'
      · exact Fin.ext (by show h.val + 1 * a.val = h.val; omega)
      · exact Fin.ext (by show 0 + 1 * b.val = b.val; omega)
      · exact Fin.ext (by show 0 + 1 * l.val = l.val; omega)
    rw [e]
    unfold randsG
    have e2 : (shapeCast S1920x128
      (fun x => r ((Rect.unit (s := S1920x256) ![0, 128 * h.val] S1920x128.size (inb_randIn h)).toLoadRect.idx x) : Vec F S1920x128 .i8)
      shapeCasts_S1920x128_S1920x128 : IVec S1920x128 8) = ((fun x => r (ix2 (x 0) ⟨128 * h.val + (x 1).val, by have := h.isLt; have := (x 1).isLt; simp at *; omega⟩)) : IVec S1920x128 8) := by
      funext x
      obtain ⟨b, l, rfl⟩ : ∃ b l, x = ix2 b l := ⟨x 0, x 1, eq_ix2 x⟩
      pointwise
    rw [e2]
    pointwise
  funext j
  obtain ⟨h, b, l, rfl⟩ : ∃ a b l, j = ix3 a b l := ⟨j 0, j 1, j 2, eq_ix3 j⟩
  refine fold_eq (fun h X => stepRand r h X) (randsG r) (fun k X j hj => put_keep _ _ _ _ (pay k) j hj) _ [0, 1] X
    ⟨h, by fin_cases h <;> simp, fun X => put_at _ _ _ _ (pay h) _ (ix3 (0 : Fin 1) b l) ?_⟩
  funext a'
  fin_cases a'
  · exact Fin.ext (by show h.val + 1 * 0 = h.val; omega)
  · exact Fin.ext (by show 0 + 1 * b.val = b.val; omega)
  · exact Fin.ext (by show 0 + 1 * l.val = l.val; omega)

/-- Codes and scales are filled. -/
theorem fill_out (w : Vec F S2x240x128 .i32) (e : Vec F S2x120x128 .i32) (s : Vec F S256x960 .i8 × Vec F S256x60 .i8) :
    [0, 1].foldl (fun s h => stepOut w e h s) s = (codesG (F := F) w, scalesG (F := F) e) := by
  have hb : ∀ b : Fin 256, b.val / 128 = 0 ∨ b.val / 128 = 1 := fun b => by omega
  have payC : ∀ (h : Fin 2) (x : S128x960.Idx), (transpose S128x960 [1, 0] (bitcast S960x128 8 (shapeCast S240x128
        (fun x => w ((Rect.unit (s := S2x240x128) ![h.val, 0, 0] S1x240x128.size (inb_words h)).toLoadRect.idx x) : Vec F S1x240x128 .i32)
        shapeCasts_S1x240x128_S240x128 : IVec S240x128 32) bitcasts_S240x128_w32_S960x128_w8) transposes_S960x128_p1_0_S128x960) x
      = codesG (F := F) w ((Rect.unit (s := S256x960) ![128 * h.val, 0] S128x960.size (inb_codes h)).emb x) := by
    intro h x
    obtain ⟨b, l, rfl⟩ : ∃ b l, x = ix2 b l := ⟨x 0, x 1, eq_ix2 x⟩
    have e : (Rect.unit (s := S256x960) ![128 * h.val, 0] S128x960.size (inb_codes h)).emb (ix2 b l) = ix2 ⟨128 * h.val + b.val, by omega⟩ l := by
      funext a'
      fin_cases a'
      · exact Fin.ext (by show 128 * h.val + 1 * b.val = 128 * h.val + b.val; omega)
      · exact Fin.ext (by show 0 + 1 * l.val = l.val; omega)
    rw [e]
    unfold codesG
    have e2 : (shapeCast S240x128
        (fun x => w ((Rect.unit (s := S2x240x128) ![h.val, 0, 0] S1x240x128.size (inb_words h)).toLoadRect.idx x) : Vec F S1x240x128 .i32)
        shapeCasts_S1x240x128_S240x128 : IVec S240x128 32) = ((fun x => w (ix3 h (x 0) (x 1))) : IVec S240x128 32) := by
      funext x
      obtain ⟨b, l, rfl⟩ : ∃ b l, x = ix2 b l := ⟨x 0, x 1, eq_ix2 x⟩
      pointwise
    rw [e2]
    have h1 : ∀ p, (⟨(128 * h.val + b.val) / 128, p⟩ : Fin 2) = h := fun _ => Fin.ext (by show (128 * h.val + b.val) / 128 = h.val; omega)
    have h2 : ∀ p, (⟨(128 * h.val + b.val) % 128, p⟩ : Fin 128) = b := fun _ => Fin.ext (by show (128 * h.val + b.val) % 128 = b.val; omega)
    simp only [ix2_0, ix2_1, h1, h2]
    pointwise
  have payS : ∀ (h : Fin 2) (x : S128x60.Idx), (trunci 8 (transpose S128x60 [1, 0] (shapeCast S60x128
        (fun x => e ((⟨![h.val, 0, 0], S1x60x128.size, ![1, 2, 1], inb_exps h⟩ : LoadRect S2x120x128).idx x) : Vec F S1x60x128 .i32)
        shapeCasts_S1x60x128_S60x128 : IVec S60x128 32) transposes_S60x128_p1_0_S128x60) natLt_8_32 : IVec S128x60 8) x
      = scalesG (F := F) e ((Rect.unit (s := S256x60) ![128 * h.val, 0] S128x60.size (inb_scales h)).emb x) := by
    intro h x
    obtain ⟨b, l, rfl⟩ : ∃ b l, x = ix2 b l := ⟨x 0, x 1, eq_ix2 x⟩
    have e' : (Rect.unit (s := S256x60) ![128 * h.val, 0] S128x60.size (inb_scales h)).emb (ix2 b l) = ix2 ⟨128 * h.val + b.val, by omega⟩ l := by
      funext a'
      fin_cases a'
      · exact Fin.ext (by show 128 * h.val + 1 * b.val = 128 * h.val + b.val; omega)
      · exact Fin.ext (by show 0 + 1 * l.val = l.val; omega)
    rw [e']
    unfold scalesG
    have h1 : ∀ p, (⟨(128 * h.val + b.val) / 128, p⟩ : Fin 2) = h := fun _ => Fin.ext (by show (128 * h.val + b.val) / 128 = h.val; omega)
    have h2 : ∀ p, (⟨(128 * h.val + b.val) % 128, p⟩ : Fin 128) = b := fun _ => Fin.ext (by show (128 * h.val + b.val) % 128 = b.val; omega)
    simp only [ix2_0, ix2_1, h1, h2]
    pointwise
  have hC : ∀ C, putCodes w 1 (putCodes w 0 C) = codesG (F := F) w := by
    intro C
    funext j
    obtain ⟨b, l, rfl⟩ : ∃ b l, j = ix2 b l := ⟨j 0, j 1, eq_ix2 j⟩
    have at1 : ∀ (h : Fin 2) C, h.val = b.val / 128 → putCodes w h C (ix2 b l) = codesG (F := F) w (ix2 b l) := by
      intro h C hh
      unfold putCodes
      refine put_at _ _ _ _ (payC h) _ (ix2 (⟨b.val % 128, by omega⟩ : Fin 128) l) ?_
      funext a'
      fin_cases a'
      · exact Fin.ext (by show 128 * h.val + 1 * (b.val % 128) = b.val; omega)
      · exact Fin.ext (by show 0 + 1 * l.val = l.val; omega)
    rcases hb b with h0 | h0
    · have h' := at1 0 C (by simp [h0])
      unfold putCodes at h' ⊢
      exact put_keep _ _ _ _ (payC 1) _ h'
    · exact at1 1 _ (by simp [h0])
  have hS : ∀ C, putScales e 1 (putScales e 0 C) = scalesG (F := F) e := by
    intro C
    funext j
    obtain ⟨b, l, rfl⟩ : ∃ b l, j = ix2 b l := ⟨j 0, j 1, eq_ix2 j⟩
    have at1 : ∀ (h : Fin 2) C, h.val = b.val / 128 → putScales e h C (ix2 b l) = scalesG (F := F) e (ix2 b l) := by
      intro h C hh
      unfold putScales
      refine put_at _ _ _ _ (payS h) _ (ix2 (⟨b.val % 128, by omega⟩ : Fin 128) l) ?_
      funext a'
      fin_cases a'
      · exact Fin.ext (by show 128 * h.val + 1 * (b.val % 128) = b.val; omega)
      · exact Fin.ext (by show 0 + 1 * l.val = l.val; omega)
    rcases hb b with h0 | h0
    · have h' := at1 0 C (by simp [h0])
      unfold putScales at h' ⊢
      exact put_keep _ _ _ _ (payS 1) _ h'
    · exact at1 1 _ (by simp [h0])
  exact Prod.ext (hC s.1) (hS s.2)

/-- All columns of the product are filled. -/
theorem fill_product (a : Vec F S256x1920 .bf16) (b : Vec F S8x1920x256 .bf16) (X : Vec F S256x2048 .f32) :
    [0, 1, 2, 3, 4, 5, 6, 7].foldl (fun X j => stepProduct a b j X) X = productG a b := by
  have pay : ∀ (j : Fin 8) (x : S256x256.Idx), (matmul dot_S256x1920_S1920x256_S256x256_1_0_0_1_n_n none
      ((fun x => a ((Rect.unit (s := S256x1920) ![0, 0] S256x1920.size inb_S256x1920_S256x1920_0_0).toLoadRect.idx x)) : FVec F S256x1920 .bf16)
      (shapeCast S1920x256 (fun x => b ((Rect.unit (s := S8x1920x256) ![j.val, 0, 0] S1x1920x256.size (inb_whole j)).toLoadRect.idx x) : Vec F S1x1920x256 .bf16)
        shapeCasts_S1x1920x256_S1920x256 : FVec F S1920x256 .bf16)
      (constant S256x256 .f32 0x00000000#32) : FVec F S256x256 .f32) x
      = productG a b ((Rect.unit (s := S256x2048) ![0, 256 * j.val] S256x256.size (inb_dw j)).emb x) := by
    intro j x
    obtain ⟨r, l, rfl⟩ : ∃ b l, x = ix2 b l := ⟨x 0, x 1, eq_ix2 x⟩
    have e : (Rect.unit (s := S256x2048) ![0, 256 * j.val] S256x256.size (inb_dw j)).emb (ix2 r l) = ix2 r ⟨256 * j.val + l.val, by omega⟩ := by
      funext a'
      fin_cases a'
      · exact Fin.ext (by show 0 + 1 * r.val = r.val; omega)
      · exact Fin.ext (by show 256 * j.val + 1 * l.val = 256 * j.val + l.val; omega)
    rw [e]
    unfold productG
    have h1 : ∀ p, (⟨(256 * j.val + l.val) / 256, p⟩ : Fin 8) = j := fun _ => Fin.ext (by show (256 * j.val + l.val) / 256 = j.val; omega)
    have h2 : ∀ p, (⟨(256 * j.val + l.val) % 256, p⟩ : Fin 256) = l := fun _ => Fin.ext (by show (256 * j.val + l.val) % 256 = l.val; omega)
    simp only [ix2_0, ix2_1, h1, h2]
    have ea : ((fun x => a ((Rect.unit (s := S256x1920) ![0, 0] S256x1920.size inb_S256x1920_S256x1920_0_0).toLoadRect.idx x)) : FVec F S256x1920 .bf16) = a := by
      funext x
      congr 1
      funext a'
      fin_cases a'
      · exact Fin.ext (by show 0 + 1 * (x 0).val = (x 0).val; omega)
      · exact Fin.ext (by show 0 + 1 * (x 1).val = (x 1).val; omega)
    have eb : (shapeCast S1920x256 (fun x => b ((Rect.unit (s := S8x1920x256) ![j.val, 0, 0] S1x1920x256.size (inb_whole j)).toLoadRect.idx x) : Vec F S1x1920x256 .bf16)
        shapeCasts_S1x1920x256_S1920x256 : FVec F S1920x256 .bf16) = ((fun x => b (ix3 j (x 0) (x 1))) : FVec F S1920x256 .bf16) := by
      funext x
      obtain ⟨r, l, rfl⟩ : ∃ b l, x = ix2 b l := ⟨x 0, x 1, eq_ix2 x⟩
      pointwise
    rw [ea, eb]
  funext j
  obtain ⟨r, l, rfl⟩ : ∃ b l, j = ix2 b l := ⟨j 0, j 1, eq_ix2 j⟩
  obtain ⟨K, hK⟩ : ∃ K : Fin 8, K.val = l.val / 256 := ⟨⟨l.val / 256, by omega⟩, rfl⟩
  refine fold_eq (fun j X => stepProduct a b j X) (productG a b) (fun k X j hj => put_keep _ _ _ _ (pay k) j hj) _ _ X
    ⟨K, by fin_cases K <;> simp, fun X => put_at _ _ _ _ (pay K) _ (ix2 r (⟨l.val % 256, by omega⟩ : Fin 256)) ?_⟩
  funext a'
  fin_cases a'
  · exact Fin.ext (by show 0 + 1 * r.val = r.val; omega)
  · exact Fin.ext (by show 256 * K.val + 1 * (l.val % 256) = l.val; omega)

end Cert.KernelIdeal.Body

end
-- ==== Proof.Body.Branches.lean ====
/- The triples of the body's three branches: what each leaves in the scratch memory and in the results' blocks. -/
module

public import proofs.«01_k».proof.Proof.Body.Fill

@[expose] public section

set_option maxRecDepth 4096

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts Cert.Mem

variable {F : FTy → Type} [FloatOps F] [Facts]

local notation "𝕄" => MT nD τ sig Unit (Elt F) ℕ (UR sig nD τ) ℕ

/-- The exponents of a tile's blocks. -/
def expsOf (rot : Vec F S128x128 .bf16) (x : Vec F S1920x256 .bf16) (k : Fin 15) (h : Fin 2) : IVec S8x128 32 :=
  blockExp (blocks rot x k h)

/-- The first operand's rounded words. -/
def wordsX (rot : Vec F S128x128 .bf16) (x : Vec F S1920x256 .bf16) : Words := fun k h => nearestWords (blocks rot x k h)

/-- The first operand's quantised blocks. -/
def quantX (rot : Vec F S128x128 .bf16) (x : Vec F S1920x256 .bf16) (k : Fin 15) (h : Fin 2) : FVec F S128x128 .bf16 :=
  tile (scaleUp (expsOf rot x k h)) (wordsX rot x k h)

/-- The second operand's quantised blocks. -/
def quantY (rot : Vec F S128x128 .bf16) (x : Vec F S1920x256 .bf16) (r : Vec F S2x480x128 .i32) (k : Fin 15) (h : Fin 2) :
    FVec F S128x128 .bf16 := tile (scaleUp (expsOf rot x k h)) (wordsY rot x r k h)

/-- The slabs once the step has filled its own. -/
def slabsAfter (i : grid0.Coords) (hi : k0_cond2 i = 1#1) (rot : Vec F S128x128 .bf16) (x : Vec F S1920x256 .bf16)
    (S : Vec F S8x1920x256 .bf16) : Vec F S8x1920x256 .bf16 :=
  chunks.foldl (fun X k => putSlab i hi k 1 (quantX rot x k 1) (putSlab i hi k 0 (quantX rot x k 0) X)) S

/-- Three changes side by side fold side by side. -/
theorem foldl_prod3 {α β γ κ : Type} (f : κ → α → α) (g : κ → β → β) (h : κ → γ → γ) (l : List κ) (s : α × β × γ) :
    l.foldl (fun s k => (f k s.1, g k s.2.1, h k s.2.2)) s
      = (l.foldl (fun a k => f k a) s.1, l.foldl (fun a k => g k a) s.2.1, l.foldl (fun a k => h k a) s.2.2) := by
  induction l generalizing s with
  | nil => rfl
  | cons k l ih => exact ih _

/-- What all chunks of the first operand leave. -/
theorem chunksX_eq (i : grid0.Coords) (hi : k0_cond2 i = 1#1) (rot : Vec F S128x128 .bf16) (x : Vec F S1920x256 .bf16) (s : StateX F) :
    chunks.foldl (fun s k => afterX i hi rot x k s) s
      = (slabsAfter i hi rot x s.1, wordsG (wordsX rot x), expsG (expsOf rot x)) := by
  have e : (fun (s : StateX F) k => afterX i hi rot x k s) = fun s k =>
      (putSlab i hi k 1 (quantX rot x k 1) (putSlab i hi k 0 (quantX rot x k 0) s.1),
        putWords (F := F) k 1 (wordsX rot x k 1) (putWords (F := F) k 0 (wordsX rot x k 0) s.2.1),
        putExps (F := F) k 1 (expsOf rot x k 1) (putExps (F := F) k 0 (expsOf rot x k 0) s.2.2)) := by
    funext s k
    dsimp only [afterX, stepX, quantX, wordsX, expsOf]
  rw [e]
  refine (foldl_prod3 (fun k X => putSlab i hi k 1 (quantX rot x k 1) (putSlab i hi k 0 (quantX rot x k 0) X))
    (fun k X => putWords (F := F) k 1 (wordsX rot x k 1) (putWords (F := F) k 0 (wordsX rot x k 0) X))
    (fun k X => putExps (F := F) k 1 (expsOf rot x k 1) (putExps (F := F) k 0 (expsOf rot x k 0) X)) chunks s).trans ?_
  rw [fill_words, fill_exps, ← slabsAfter]

/-- What all chunks of the second operand leave. -/
theorem chunksY_eq (rot : Vec F S128x128 .bf16) (x : Vec F S1920x256 .bf16) (r : Vec F S2x480x128 .i32) (s : StateY F) :
    chunks.foldl (fun s k => afterY rot x r k s) s
      = (dytG (quantY rot x r), wordsG (wordsY rot x r), expsG (expsOf rot x)) := by
  have e : (fun (s : StateY F) k => afterY rot x r k s) = fun s k =>
      (putDyt k 1 (quantY rot x r k 1) (putDyt k 0 (quantY rot x r k 0) s.1),
        putWords (F := F) k 1 (wordsY rot x r k 1) (putWords (F := F) k 0 (wordsY rot x r k 0) s.2.1),
        putExps (F := F) k 1 (expsOf rot x k 1) (putExps (F := F) k 0 (expsOf rot x k 0) s.2.2)) := by
    funext s k
    unfold afterY stepY quantY expsOf
    rfl
  rw [e]
  refine (foldl_prod3 (fun k X => putDyt k 1 (quantY rot x r k 1) (putDyt k 0 (quantY rot x r k 0) X))
    (fun k X => putWords (F := F) k 1 (wordsY rot x r k 1) (putWords (F := F) k 0 (wordsY rot x r k 0) X))
    (fun k X => putExps (F := F) k 1 (expsOf rot x k 1) (putExps (F := F) k 0 (expsOf rot x k 0) X)) chunks s).trans ?_
  rw [fill_dyt, fill_words, fill_exps]

/-- The scales of a tile. -/
def scalesOf (rot : Vec F S128x128 .bf16) (x : Vec F S1920x256 .bf16) : Vec F S256x60 .i8 := scalesG (expsG (F := F) (expsOf rot x))

/-- The codes of a tile of the first operand. -/
def codesX (rot : Vec F S128x128 .bf16) (x : Vec F S1920x256 .bf16) : Vec F S256x960 .i8 := codesG (wordsG (F := F) (wordsX rot x))

/-- The codes of a tile of the second operand. -/
def codesY (rot : Vec F S128x128 .bf16) (x : Vec F S1920x256 .bf16) (r : Vec F S1920x256 .i8) : Vec F S256x960 .i8 :=
  codesG (wordsG (F := F) (wordsY rot x (randsG r)))

/-- The quantised rows of a tile of the second operand. -/
def rowsY (rot : Vec F S128x128 .bf16) (x : Vec F S1920x256 .bf16) (r : Vec F S1920x256 .i8) : Vec F S256x1920 .bf16 :=
  dytG (quantY rot x (randsG r))

variable {defs : Defs nD τ sig (Elt F) Λ₀} {𝒱 : Variants} {c : Dev nD} {bd : Option 𝒱.V} {E : Set ℕ}

/-- Loading all of a memref reads its contents. -/
theorem load_all (rot : Vec F S128x128 .bf16) :
    (fun x => rot ((Rect.unit (s := S128x128) ![0, 0] S128x128.size inb_S128x128_S128x128_0_0).toLoadRect.idx x)) = rot := by
  funext x
  congr 1
  funext a
  fin_cases a
  · exact Fin.ext (by show 0 + 1 * (x 0).val = (x 0).val; omega)
  · exact Fin.ext (by show 0 + 1 * (x 1).val = (x 1).val; omega)

/-- The branch for the first operand. -/
theorem wp_branchX (i : grid0.Coords) (hi : k0_cond2 i = 1#1) (src : Memref sig .tc .vmem S1920x256 .bf16)
    (codes : Memref sig .tc .vmem S256x960 .i8) (hcodes : codes.IsWhole)
    (scales : Memref sig .tc .vmem S256x60 .i8) (hscales : scales.IsWhole)
    (rotm : Memref sig .tc .vmem S128x128 .bf16)
    (slabs : Memref sig .tc .vmem S8x1920x256 .bf16) (hslabs : slabs.IsWhole)
    (words : Memref sig .tc .vmem S2x240x128 .i32) (exps : Memref sig .tc .vmem S2x120x128 .i32)
    (x : Vec F S1920x256 .bf16) (C : Vec F S256x960 .i8) (D : Vec F S256x60 .i8) (rot : Vec F S128x128 .bf16) (S : Vec F S8x1920x256 .bf16)
    (W : Vec F S2x240x128 .i32) (X : Vec F S2x120x128 .i32) :
    iprop((owns (c : Thread nD τ) src fullShare x : sProp 𝕄) ∗ owns (c : Thread nD τ) codes fullShare C
        ∗ owns (c : Thread nD τ) scales fullShare D ∗ owns (c : Thread nD τ) rotm fullShare rot ∗ owns (c : Thread nD τ) slabs fullShare S
        ∗ owns (c : Thread nD τ) words fullShare W ∗ owns (c : Thread nD τ) exps fullShare X)
      ⊢ wp frame (wpE defs 𝒱 c bd) E (branchX i hi src codes hcodes scales hscales rotm slabs hslabs words exps) fun _ =>
        iprop((owns (c : Thread nD τ) src fullShare x) ∗ owns (c : Thread nD τ) codes fullShare (codesX rot x)
        ∗ owns (c : Thread nD τ) scales fullShare (scalesOf rot x) ∗ owns (c : Thread nD τ) rotm fullShare rot
        ∗ owns (c : Thread nD τ) slabs fullShare (slabsAfter i hi rot x S)
        ∗ (∃ W, owns (c : Thread nD τ) words fullShare W) ∗ (∃ X, owns (c : Thread nD τ) exps fullShare X)) := by
  unfold branchX
  simp only [Prog.bind_lift]
  iintro ⟨Hx, HC, HD, HR, HS, HW, HX⟩
  iapply Mem.wp_load
  isplitl [HR]; · iexact HR
  iintro HR
  rw [load_all]
  have hc := wp_each (defs := defs) (𝒱 := 𝒱) (c := c) (bd := bd) (E := E) (chunkX i hi src slabs hslabs words exps rot)
    (fun s : StateX F => iprop((owns (c : Thread nD τ) src fullShare x : sProp 𝕄) ∗ owns (c : Thread nD τ) slabs fullShare s.1
        ∗ owns (c : Thread nD τ) words fullShare s.2.1 ∗ owns (c : Thread nD τ) exps fullShare s.2.2))
    (afterX i hi rot x) (fun k s => wp_chunkX i hi src slabs hslabs words exps rot x k s) chunks (S, W, X)
  have hf := wp_each (defs := defs) (𝒱 := 𝒱) (c := c) (bd := bd) (E := E) (finish words exps codes hcodes scales hscales)
    (fun s : Vec F S256x960 .i8 × Vec F S256x60 .i8 => iprop((owns (c : Thread nD τ) words fullShare (wordsG (wordsX rot x)) : sProp 𝕄)
        ∗ owns (c : Thread nD τ) exps fullShare (expsG (expsOf rot x))
        ∗ owns (c : Thread nD τ) codes fullShare s.1 ∗ owns (c : Thread nD τ) scales fullShare s.2))
    (stepOut (wordsG (wordsX rot x)) (expsG (expsOf rot x))) (fun h s => wp_finish words exps codes hcodes scales hscales _ _ h s) [0, 1] (C, D)
  rw [chunksX_eq] at hc
  rw [fill_out] at hf
  iapply wp_seq hc
  isplitl [Hx HS HW HX]
  · isplitl [Hx]; · iexact Hx
    isplitl [HS]; · iexact HS
    isplitl [HW]
    · iexact HW
    · iexact HX
  iintro %_ ⟨Hx, HS, HW, HX⟩
  iapply wp_wand_r
  isplitl [HC HD HW HX]
  · iapply hf
    isplitl [HW]; · iexact HW
    isplitl [HX]; · iexact HX
    isplitl [HC]
    · iexact HC
    · iexact HD
  iintro %_ ⟨HW, HX, HC, HD⟩
  isplitl [Hx]; · iexact Hx
  isplitl [HC]; · iexact HC
  isplitl [HD]; · iexact HD
  isplitl [HR]; · iexact HR
  isplitl [HS]; · iexact HS
  isplitl [HW]
  · iexists _; iexact HW
  · iexists _; iexact HX

/-- The branch for the second operand. -/
theorem wp_branchY (src : Memref sig .tc .vmem S1920x256 .bf16) (rand : Memref sig .tc .vmem S1920x256 .i8)
    (dw : Memref sig .tc .vmem S256x2048 .f32)
    (codes : Memref sig .tc .vmem S256x960 .i8) (hcodes : codes.IsWhole)
    (scales : Memref sig .tc .vmem S256x60 .i8) (hscales : scales.IsWhole)
    (rotm : Memref sig .tc .vmem S128x128 .bf16)
    (slabs : Memref sig .tc .vmem S8x1920x256 .bf16)
    (dyt : Memref sig .tc .vmem S256x1920 .bf16) (hdyt : dyt.IsWhole) (rands : Memref sig .tc .vmem S2x480x128 .i32)
    (words : Memref sig .tc .vmem S2x240x128 .i32) (exps : Memref sig .tc .vmem S2x120x128 .i32)
    (x : Vec F S1920x256 .bf16) (r : Vec F S1920x256 .i8) (P : Vec F S256x2048 .f32) (C : Vec F S256x960 .i8) (D : Vec F S256x60 .i8)
    (rot : Vec F S128x128 .bf16) (S : Vec F S8x1920x256 .bf16) (T : Vec F S256x1920 .bf16) (Rd : Vec F S2x480x128 .i32)
    (W : Vec F S2x240x128 .i32) (X : Vec F S2x120x128 .i32) :
    iprop((owns (c : Thread nD τ) src fullShare x : sProp 𝕄) ∗ owns (c : Thread nD τ) rand fullShare r
        ∗ owns (c : Thread nD τ) dw fullShare P ∗ owns (c : Thread nD τ) codes fullShare C
        ∗ owns (c : Thread nD τ) scales fullShare D ∗ owns (c : Thread nD τ) rotm fullShare rot ∗ owns (c : Thread nD τ) slabs fullShare S
        ∗ owns (c : Thread nD τ) dyt fullShare T ∗ owns (c : Thread nD τ) rands fullShare Rd
        ∗ owns (c : Thread nD τ) words fullShare W ∗ owns (c : Thread nD τ) exps fullShare X)
      ⊢ wp frame (wpE defs 𝒱 c bd) E (branchY src rand dw codes hcodes scales hscales rotm slabs dyt hdyt rands words exps) fun _ =>
        iprop((owns (c : Thread nD τ) src fullShare x) ∗ owns (c : Thread nD τ) rand fullShare r
        ∗ owns (c : Thread nD τ) dw fullShare (productG (rowsY rot x r) S) ∗ owns (c : Thread nD τ) codes fullShare (codesY rot x r)
        ∗ owns (c : Thread nD τ) scales fullShare (scalesOf rot x) ∗ owns (c : Thread nD τ) rotm fullShare rot
        ∗ owns (c : Thread nD τ) slabs fullShare S
        ∗ (∃ T, owns (c : Thread nD τ) dyt fullShare T) ∗ (∃ R, owns (c : Thread nD τ) rands fullShare R)
        ∗ (∃ W, owns (c : Thread nD τ) words fullShare W) ∗ (∃ X, owns (c : Thread nD τ) exps fullShare X)) := by
  unfold branchY
  simp only [Prog.bind_lift]
  iintro ⟨Hx, Hr, HP, HC, HD, HR, HS, HT, HRd, HW, HX⟩
  iapply Mem.wp_load
  isplitl [HR]; · iexact HR
  iintro HR
  rw [load_all]
  have hr := wp_each (defs := defs) (𝒱 := 𝒱) (c := c) (bd := bd) (E := E) (loadRand rand rands)
    (fun s : Vec F S2x480x128 .i32 => iprop((owns (c : Thread nD τ) rand fullShare r : sProp 𝕄) ∗ owns (c : Thread nD τ) rands fullShare s))
    (stepRand r) (fun h s => wp_loadRand rand rands r h s) [0, 1] Rd
  have hc := wp_each (defs := defs) (𝒱 := 𝒱) (c := c) (bd := bd) (E := E) (chunkY src dyt hdyt rands words exps rot)
    (fun s : StateY F => iprop((owns (c : Thread nD τ) src fullShare x : sProp 𝕄) ∗ owns (c : Thread nD τ) rands fullShare (randsG r)
        ∗ owns (c : Thread nD τ) dyt fullShare s.1
        ∗ owns (c : Thread nD τ) words fullShare s.2.1 ∗ owns (c : Thread nD τ) exps fullShare s.2.2))
    (afterY rot x (randsG r)) (fun k s => wp_chunkY src dyt hdyt rands words exps rot x _ k s) chunks (T, W, X)
  have hf := wp_each (defs := defs) (𝒱 := 𝒱) (c := c) (bd := bd) (E := E) (finish words exps codes hcodes scales hscales)
    (fun s : Vec F S256x960 .i8 × Vec F S256x60 .i8 => iprop((owns (c : Thread nD τ) words fullShare (wordsG (wordsY rot x (randsG r))) : sProp 𝕄)
        ∗ owns (c : Thread nD τ) exps fullShare (expsG (expsOf rot x))
        ∗ owns (c : Thread nD τ) codes fullShare s.1 ∗ owns (c : Thread nD τ) scales fullShare s.2))
    (stepOut (wordsG (wordsY rot x (randsG r))) (expsG (expsOf rot x))) (fun h s => wp_finish words exps codes hcodes scales hscales _ _ h s) [0, 1] (C, D)
  have hp := wp_each (defs := defs) (𝒱 := 𝒱) (c := c) (bd := bd) (E := E) (product dw slabs dyt)
    (fun s : Vec F S256x2048 .f32 => iprop((owns (c : Thread nD τ) dyt fullShare (rowsY rot x r) : sProp 𝕄)
        ∗ owns (c : Thread nD τ) slabs fullShare S ∗ owns (c : Thread nD τ) dw fullShare s))
    (stepProduct (rowsY rot x r) S) (fun j s => wp_product dw slabs dyt _ _ j s) [0, 1, 2, 3, 4, 5, 6, 7] P
  rw [fill_rands] at hr
  rw [chunksY_eq] at hc
  rw [fill_out] at hf
  rw [fill_product] at hp
  iapply wp_seq hr
  isplitl [Hr HRd]
  · isplitl [Hr]
    · iexact Hr
    · iexact HRd
  iintro %_ ⟨Hr, HRd⟩
  iapply wp_seq hc
  isplitl [Hx HRd HT HW HX]
  · isplitl [Hx]; · iexact Hx
    isplitl [HRd]; · iexact HRd
    isplitl [HT]; · iexact HT
    isplitl [HW]
    · iexact HW
    · iexact HX
  iintro %_ ⟨Hx, HRd, HT, HW, HX⟩
  iapply wp_seq hf
  isplitl [HC HD HW HX]
  · isplitl [HW]; · iexact HW
    isplitl [HX]; · iexact HX
    isplitl [HC]
    · iexact HC
    · iexact HD
  iintro %_ ⟨HW, HX, HC, HD⟩
  iapply wp_wand_r
  isplitl [HT HS HP]
  · iapply hp
    isplitl [HT]; · iexact HT
    isplitl [HS]
    · iexact HS
    · iexact HP
  iintro %_ ⟨HT, HS, HP⟩
  isplitl [Hx]; · iexact Hx
  isplitl [Hr]; · iexact Hr
  isplitl [HP]; · iexact HP
  isplitl [HC]; · iexact HC
  isplitl [HD]; · iexact HD
  isplitl [HR]; · iexact HR
  isplitl [HS]; · iexact HS
  isplitl [HT]; · iexists _; iexact HT
  isplitl [HRd]; · iexists _; iexact HRd
  isplitl [HW]
  · iexists _; iexact HW
  · iexists _; iexact HX

/-- The first step's rotation is stored. -/
theorem wp_branchR (signs : Memref sig .tc .vmem S1x32 .f32) (rotm : Memref sig .tc .vmem S128x128 .bf16) (hrotm : rotm.IsWhole)
    (s : Vec F S1x32 .f32) (R : Vec F S128x128 .bf16) :
    iprop((owns (c : Thread nD τ) signs fullShare s : sProp 𝕄) ∗ owns (c : Thread nD τ) rotm fullShare R)
      ⊢ wp frame (wpE defs 𝒱 c bd) E (branchR signs rotm hrotm) fun _ =>
        iprop((owns (c : Thread nD τ) signs fullShare s) ∗ owns (c : Thread nD τ) rotm fullShare (rotation s)) := by
  have hs : (fun x => s ((Rect.unit (s := S1x32) ![0, 0] S1x32.size inb_S1x32_S1x32_0_0).toLoadRect.idx x)) = s := by
    funext x
    congr 1
    funext a
    fin_cases a
    · exact Fin.ext (by show 0 + 1 * (x 0).val = (x 0).val; omega)
    · exact Fin.ext (by show 0 + 1 * (x 1).val = (x 1).val; omega)
  have hp : put (Rect.unit (s := S128x128) ![0, 0] S128x128.size inb_S128x128_S128x128_0_0)
      (shapeCast S128x128 (rotation s) shapeCasts_S128x128_S128x128) R = rotation s := by
    funext y
    refine put_at _ _ _ (rotation s) (fun x => ?_) y y ?_
    · obtain ⟨b, l, rfl⟩ : ∃ b l, x = ix2 b l := ⟨x 0, x 1, eq_ix2 x⟩
      generalize rotation s = v
      pointwise
      congr 1
      funext a
      fin_cases a
      · exact Fin.ext (by show b.val = 0 + 1 * b.val; omega)
      · exact Fin.ext (by show l.val = 0 + 1 * l.val; omega)
    · funext a
      fin_cases a
      · exact Fin.ext (by show 0 + 1 * (y 0).val = (y 0).val; omega)
      · exact Fin.ext (by show 0 + 1 * (y 1).val = (y 1).val; omega)
  unfold branchR
  simp only [Prog.bind_lift]
  iintro ⟨Hs, HR⟩
  iapply Mem.wp_load
  isplitl [Hs]; · iexact Hs
  iintro Hs
  rw [hs]
  iapply Mem.wp_load
  isplitl [HR]; · iexact HR
  iintro HR
  iapply Mem.wp_store
  isplitl [HR]; · iexact HR
  iintro HR
  rw [hp]
  iapply le_wp_ret
  isplitl [Hs]
  · iexact Hs
  · iexact HR

end Cert.KernelIdeal.Body

end
-- ==== Proof.Body.Equal.lean ====
/- The printed body IS the body written with loops. -/
module

public import proofs.«01_k».proof.Proof.Body.Prog
public import proofs.«01_k».proof.KernelIdeal
public import Idealize.ShloMosaic.Lib.Tactic

@[expose] public section

set_option maxRecDepth 65536
set_option maxHeartbeats 0

noncomputable section

namespace Cert.KernelIdeal.Body

open Idealize.ShloMosaic Idealize.SL.Sem
open Cert.KernelIdeal Facts₀ Facts

variable {F : FTy → Type} [FloatOps F] [Facts]

/-- The kernel's body, with loops. -/
def body (i : grid0.Coords) (arg1 : Memref sig .tc .vmem S1920x256 .bf16) (harg1 : arg1.IsWhole) (arg2 : Memref sig .tc .vmem S1920x256 .bf16) (harg2 : arg2.IsWhole) (arg3 : Memref sig .tc .vmem S1x32 .f32) (harg3 : arg3.IsWhole) (arg4 : Memref sig .tc .vmem S1920x256 .i8) (harg4 : arg4.IsWhole) (arg5 : Memref sig .tc .vmem S256x2048 .f32) (harg5 : arg5.IsWhole) (arg6 : Memref sig .tc .vmem S256x960 .i8) (harg6 : arg6.IsWhole) (arg7 : Memref sig .tc .vmem S256x60 .i8) (harg7 : arg7.IsWhole) (arg8 : Memref sig .tc .vmem S256x960 .i8) (harg8 : arg8.IsWhole) (arg9 : Memref sig .tc .vmem S256x60 .i8) (harg9 : arg9.IsWhole) (arg10 : Memref sig .tc .vmem S128x128 .bf16) (harg10 : arg10.IsWhole) (arg11 : Memref sig .tc .vmem S8x1920x256 .bf16) (harg11 : arg11.IsWhole) (arg12 : Memref sig .tc .vmem S256x1920 .bf16) (harg12 : arg12.IsWhole) (arg13 : Memref sig .tc .vmem S2x480x128 .i32) (harg13 : arg13.IsWhole) (arg14 : Memref sig .tc .vmem S2x240x128 .i32) (harg14 : arg14.IsWhole) (arg15 : Memref sig .tc .vmem S2x120x128 .i32) (harg15 : arg15.IsWhole) : BodyProg (F := F) PUnit := do
  if k0_h1 : condR i = 1#1 then do
    branchR arg3 arg10 harg10
    pure ⟨⟩
  else do
    pure ⟨⟩
  if k0_h2 : k0_cond2 i = 1#1 then do
    branchX i k0_h2 arg1 arg6 harg6 arg7 harg7 arg10 arg11 harg11 arg14 arg15
    pure ⟨⟩
  else do
    pure ⟨⟩
  if k0_h3 : k0_cond3 i = 1#1 then do
    branchY arg2 arg4 arg5 arg8 harg8 arg9 harg9 arg10 arg11 arg12 harg12 arg13 arg14 arg15
    pure ⟨⟩
  else do
    pure ⟨⟩
  pure ⟨⟩

/-- Two conditionals on the same condition with equal branches. -/
theorem dite_eq {α : Type*} {c : Prop} [Decidable c] {t t' : c → α} {e e' : ¬c → α} (ht : ∀ h, t h = t' h)
    (he : ∀ h, e h = e' h) : dite c t e = dite c t' e' := by
  by_cases h : c
  · rw [dif_pos h, dif_pos h, ht]
  · rw [dif_neg h, dif_neg h, he]

/-- The printed body is the body with loops. -/
theorem cc0_eq (i : grid0.Coords) (arg1 : Memref sig .tc .vmem S1920x256 .bf16) (harg1 : arg1.IsWhole) (arg2 : Memref sig .tc .vmem S1920x256 .bf16) (harg2 : arg2.IsWhole) (arg3 : Memref sig .tc .vmem S1x32 .f32) (harg3 : arg3.IsWhole) (arg4 : Memref sig .tc .vmem S1920x256 .i8) (harg4 : arg4.IsWhole) (arg5 : Memref sig .tc .vmem S256x2048 .f32) (harg5 : arg5.IsWhole) (arg6 : Memref sig .tc .vmem S256x960 .i8) (harg6 : arg6.IsWhole) (arg7 : Memref sig .tc .vmem S256x60 .i8) (harg7 : arg7.IsWhole) (arg8 : Memref sig .tc .vmem S256x960 .i8) (harg8 : arg8.IsWhole) (arg9 : Memref sig .tc .vmem S256x60 .i8) (harg9 : arg9.IsWhole) (arg10 : Memref sig .tc .vmem S128x128 .bf16) (harg10 : arg10.IsWhole) (arg11 : Memref sig .tc .vmem S8x1920x256 .bf16) (harg11 : arg11.IsWhole) (arg12 : Memref sig .tc .vmem S256x1920 .bf16) (harg12 : arg12.IsWhole) (arg13 : Memref sig .tc .vmem S2x480x128 .i32) (harg13 : arg13.IsWhole) (arg14 : Memref sig .tc .vmem S2x240x128 .i32) (harg14 : arg14.IsWhole) (arg15 : Memref sig .tc .vmem S2x120x128 .i32) (harg15 : arg15.IsWhole) :
    cc0_mxfp4_weight_grad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = body i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  unfold cc0_mxfp4_weight_grad body
  extract_lets -merge -underBinder +onlyGivenNames arg0 c0 v0 v1 c1 v2 p q
  have e : p = q := by
    refine funext fun r => ?_
    unfold p q
    extract_lets -merge -underBinder +onlyGivenNames c0 v0 v1 c1 v2 p q
    have e : p = q := by
      refine funext fun r => ?_
      unfold p q
      extract_lets -merge -underBinder +onlyGivenNames c0 v0 v1 c1 p
      clear_value p
      exact dite_eq (fun h => by sl_kernel_rfl) (fun h => rfl)
    clear_value p q
    subst e
    exact dite_eq (fun h => by sl_kernel_rfl) (fun h => rfl)
  clear_value p q
  subst e
  exact dite_eq (fun h => by sl_kernel_rfl) (fun h => rfl)

end Cert.KernelIdeal.Body

end
-- ==== Proof.Body.Points.lean ====
/- The triples of the whole body: at the first step, at the later steps of the first operand, and at those of the second. -/
module

public import proofs.«01_k».proof.Proof.Body.Branches
public import proofs.«01_k».proof.Proof.Body.Equal

@[expose] public section

set_option maxRecDepth 4096

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts Cert.Mem

variable {F : FTy → Type} [FloatOps F] [Facts]

local notation "𝕄" => MT nD τ sig Unit (Elt F) ℕ (UR sig nD τ) ℕ

section

variable (i : grid0.Coords) (arg1 : Memref sig .tc .vmem S1920x256 .bf16) (harg1 : arg1.IsWhole)
  (arg2 : Memref sig .tc .vmem S1920x256 .bf16) (harg2 : arg2.IsWhole) (arg3 : Memref sig .tc .vmem S1x32 .f32) (harg3 : arg3.IsWhole)
  (arg4 : Memref sig .tc .vmem S1920x256 .i8) (harg4 : arg4.IsWhole) (arg5 : Memref sig .tc .vmem S256x2048 .f32) (harg5 : arg5.IsWhole)
  (arg6 : Memref sig .tc .vmem S256x960 .i8) (harg6 : arg6.IsWhole) (arg7 : Memref sig .tc .vmem S256x60 .i8) (harg7 : arg7.IsWhole)
  (arg8 : Memref sig .tc .vmem S256x960 .i8) (harg8 : arg8.IsWhole) (arg9 : Memref sig .tc .vmem S256x60 .i8) (harg9 : arg9.IsWhole)
  (arg10 : Memref sig .tc .vmem S128x128 .bf16) (harg10 : arg10.IsWhole)
  (arg11 : Memref sig .tc .vmem S8x1920x256 .bf16) (harg11 : arg11.IsWhole)
  (arg12 : Memref sig .tc .vmem S256x1920 .bf16) (harg12 : arg12.IsWhole)
  (arg13 : Memref sig .tc .vmem S2x480x128 .i32) (harg13 : arg13.IsWhole)
  (arg14 : Memref sig .tc .vmem S2x240x128 .i32) (harg14 : arg14.IsWhole)
  (arg15 : Memref sig .tc .vmem S2x120x128 .i32) (harg15 : arg15.IsWhole)

/-- At the first step the body is the rotation and the first operand's branch. -/
theorem body_first (h1 : condR i = 1#1) (h2 : k0_cond2 i = 1#1) (h3 : ¬ k0_cond3 i = 1#1) :
    body (F := F) i arg1 harg1 arg2 harg2 arg3 harg3 arg4 harg4 arg5 harg5 arg6 harg6 arg7 harg7 arg8 harg8 arg9 harg9 arg10 harg10
        arg11 harg11 arg12 harg12 arg13 harg13 arg14 harg14 arg15 harg15
      = branchR arg3 arg10 harg10 >>= fun _ => branchX i h2 arg1 arg6 harg6 arg7 harg7 arg10 arg11 harg11 arg14 arg15 := by
  unfold body
  simp only [h1, h2, h3, dite_true, dite_false, bind_assoc, pure_bind]
  exact congrArg _ (funext fun _ => bind_pure _)

/-- At the later steps below 8 the body is the first operand's branch. -/
theorem body_early (h1 : ¬ condR i = 1#1) (h2 : k0_cond2 i = 1#1) (h3 : ¬ k0_cond3 i = 1#1) :
    body (F := F) i arg1 harg1 arg2 harg2 arg3 harg3 arg4 harg4 arg5 harg5 arg6 harg6 arg7 harg7 arg8 harg8 arg9 harg9 arg10 harg10
        arg11 harg11 arg12 harg12 arg13 harg13 arg14 harg14 arg15 harg15
      = branchX i h2 arg1 arg6 harg6 arg7 harg7 arg10 arg11 harg11 arg14 arg15 := by
  unfold body
  simp only [h1, h2, h3, dite_true, dite_false, bind_assoc, pure_bind]
  exact bind_pure _

/-- From step 8 on the body is the second operand's branch. -/
theorem body_late (h1 : ¬ condR i = 1#1) (h2 : ¬ k0_cond2 i = 1#1) (h3 : k0_cond3 i = 1#1) :
    body (F := F) i arg1 harg1 arg2 harg2 arg3 harg3 arg4 harg4 arg5 harg5 arg6 harg6 arg7 harg7 arg8 harg8 arg9 harg9 arg10 harg10
        arg11 harg11 arg12 harg12 arg13 harg13 arg14 harg14 arg15 harg15
      = branchY arg2 arg4 arg5 arg8 harg8 arg9 harg9 arg10 arg11 arg12 harg12 arg13 arg14 arg15 := by
  unfold body
  simp only [h1, h2, h3, dite_true, dite_false, bind_assoc, pure_bind]
  exact bind_pure _

end

/-- The first condition holds at coordinate 0 only. -/
theorem condR_iff : ∀ n : Fin 30, ∀ i : grid0.Coords, (i 0).val = n.val → (condR i = 1#1 ↔ n.val = 0) := by
  intro n i h
  unfold condR
  rw [h]
  clear h
  revert n
  decide +kernel

/-- The second condition holds below coordinate 8. -/
theorem cond2_iff : ∀ n : Fin 30, ∀ i : grid0.Coords, (i 0).val = n.val → (k0_cond2 i = 1#1 ↔ n.val < 8) := by
  intro n i h
  unfold k0_cond2
  rw [h]
  clear h
  revert n
  decide +kernel

/-- The third condition holds from coordinate 8 on. -/
theorem cond3_iff : ∀ n : Fin 30, ∀ i : grid0.Coords, (i 0).val = n.val → (k0_cond3 i = 1#1 ↔ 8 ≤ n.val) := by
  intro n i h
  unfold k0_cond3
  rw [h]
  clear h
  revert n
  decide +kernel

/-- The eight slabs laid side by side. -/
def joinSlabs (Q : Fin 8 → Vec F S1920x256 .bf16) : Vec F S8x1920x256 .bf16 := fun j => Q (j 0) (ix2 (j 1) (j 2))

/-- Slabs all known are the slabs laid side by side. -/
theorem eq_joinSlabs (S : Vec F S8x1920x256 .bf16) (Q : Fin 8 → Vec F S1920x256 .bf16) (h : ∀ n, slabAt S n = Q n) : S = joinSlabs Q := by
  funext j
  exact (congrArg S (eq_ix3 j)).trans (congrFun (h (j 0)) (ix2 (j 1) (j 2)))

/-- A step fills its own slab and keeps those filled before. -/
theorem slabsAfter_at (i : grid0.Coords) (hi : k0_cond2 i = 1#1) (rot : Vec F S128x128 .bf16) (x : Vec F S1920x256 .bf16)
    (S : Vec F S8x1920x256 .bf16) (Q : Fin 8 → Vec F S1920x256 .bf16) (N : ℕ) (hN : (i 0).val = N)
    (hx : ∀ n : Fin 8, n.val = N → Q n = slabG (quantX rot x)) (h : ∀ n : Fin 8, n.val < N → slabAt S n = Q n) :
    ∀ n : Fin 8, n.val < N + 1 → slabAt (slabsAfter i hi rot x S) n = Q n := by
  intro n hn
  by_cases e : n.val = N
  · rw [hx n e]
    exact fill_slab i hi _ S n (by omega)
  · rw [← h n (by omega)]
    exact keep_slab i hi _ S n (by omega)

end Cert.KernelIdeal.Body

end
-- ==== Proof.Run.lean ====
/- The idealized kernel's run: the proof data of its pipeline, the body obligation, and the launch. -/
module

public import proofs.«01_k».proof.Proof.Body.Points
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.TableIdle

@[expose] public section

set_option maxRecDepth 4096

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

/-- The scratch operands, whole. -/
abbrev scM0_0 : Memref sig .tc .vmem S128x128 .bf16 := Memref.whole cc0_scratch0
abbrev scM0_1 : Memref sig .tc .vmem S8x1920x256 .bf16 := Memref.whole cc0_scratch1
abbrev scM0_2 : Memref sig .tc .vmem S256x1920 .bf16 := Memref.whole cc0_scratch2
abbrev scM0_3 : Memref sig .tc .vmem S2x480x128 .i32 := Memref.whole cc0_scratch3
abbrev scM0_4 : Memref sig .tc .vmem S2x240x128 .i32 := Memref.whole cc0_scratch4
abbrev scM0_5 : Memref sig .tc .vmem S2x120x128 .i32 := Memref.whole cc0_scratch5

/-- The class's invariant is the scratch at anything beside the generator register. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ (∃ d, owns (c : Thread nD τ) scM0_4 fullShare d) ∗ (∃ d, owns (c : Thread nD τ) scM0_5 fullShare d)) ∗ (∃ r, prngReg c r)) := by
  unfold Pipeline.ΦA
  rw [scopedRest0_eq]
  simp only [scM0_0, scM0_1, scM0_2, scM0_3, scM0_4, scM0_5, owns_whole]
  try rfl

variable (m : (ℓ : Loc nD τ sig) → Buf (Elt F) ℓ) (ρ : Dev nD → PrngReg)

/-- The point of a step of the grid. -/
abbrev pt (n : ℕ) (h : n < 30) : Fin cfg0.N := ⟨n, lt_of_lt_of_eq h (show 30 = cfg0.N from N_0.symm)⟩

/-- The tile of the first operand quantised at a point. -/
abbrev tileX (c : Dev nD) (t : Fin cfg0.N) : Vec F S1920x256 .bf16 := iblk m c 0 t
/-- The tile of the second operand quantised at a point. -/
abbrev tileY (c : Dev nD) (t : Fin cfg0.N) : Vec F S1920x256 .bf16 := iblk m c 1 t
/-- The signs. -/
abbrev signsAt (c : Dev nD) : Vec F S1x32 .f32 := iblk m c 2 (pt 0 (by omega))
/-- The random bytes of a point. -/
abbrev tileR (c : Dev nD) (t : Fin cfg0.N) : Vec F S1920x256 .i8 := iblk m c 3 t

/-- The rotation of the whole run. -/
def rotOf (c : Dev nD) : Vec F S128x128 .bf16 := rotation (signsAt m c)

/-- The point that quantises the first operand's block written back at `t`. -/
def ptX (t : Fin cfg0.N) : Fin cfg0.N := ⟨min t.val 7, lt_of_le_of_lt (Nat.min_le_left _ _) t.isLt⟩

/-- The point that quantises the second operand's block written back at `t`. -/
def ptY (t : Fin cfg0.N) : Fin cfg0.N := pt (max t.val 8) (by
  have : t.val < 30 := lt_of_lt_of_eq t.isLt (show cfg0.N = 30 from N_0)
  omega)

/-- The quantised slabs of the first operand. -/
def slabsX (c : Dev nD) (n : Fin 8) : Vec F S1920x256 .bf16 :=
  slabG (quantX (rotOf m c) (tileX m c (pt n.val (by omega))))

/-- The block of the weight gradient a point of the second operand leaves. -/
def outDw (c : Dev nD) (t : Fin cfg0.N) : Vec F S256x2048 .f32 :=
  productG (rowsY (rotOf m c) (tileY m c t) (tileR m c t)) (joinSlabs (slabsX m c))

/-- The codes and the scales each point leaves. -/
def outXc (c : Dev nD) (t : Fin cfg0.N) : Vec F S256x960 .i8 := codesX (rotOf m c) (tileX m c t)
def outXs (c : Dev nD) (t : Fin cfg0.N) : Vec F S256x60 .i8 := scalesOf (rotOf m c) (tileX m c t)
def outYc (c : Dev nD) (t : Fin cfg0.N) : Vec F S256x960 .i8 := codesY (rotOf m c) (tileY m c t) (tileR m c t)
def outYs (c : Dev nD) (t : Fin cfg0.N) : Vec F S256x60 .i8 := scalesOf (rotOf m c) (tileY m c t)

/-- The invariant between points: before the first the scratch at anything; later the rotation in place and the slabs of
    the points gone by filled. -/
def PhiS (c : Dev nD) : ℕ → sProp 𝕄
  | 0 => Pipeline.ΦA spec0 c
  | n + 1 => iprop(iprop(owns (c : Thread nD τ) scM0_0 fullShare (rotOf m c)
      ∗ (∃ S, iprop(⌜∀ k : Fin 8, k.val < n + 1 → slabAt S k = slabsX m c k⌝ ∗ owns (c : Thread nD τ) scM0_1 fullShare S))
      ∗ (∃ d, owns (c : Thread nD τ) scM0_2 fullShare d) ∗ (∃ d, owns (c : Thread nD τ) scM0_3 fullShare d)
      ∗ (∃ d, owns (c : Thread nD τ) scM0_4 fullShare d) ∗ (∃ d, owns (c : Thread nD τ) scM0_5 fullShare d)) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outDw m c (ptY t)
    | ⟨5, _⟩ => outXc m c (ptX t)
    | ⟨6, _⟩ => outXs m c (ptX t)
    | ⟨7, _⟩ => outYc m c (ptY t)
    | ⟨8, _⟩ => outYs m c (ptY t)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outDw m c (ptY t) := by dsimp only [dats]
theorem after0_5 (c : Dev nD) (t : Fin cfg0.N) : (dats m 0 c).after 5 t = outXc m c (ptX t) := by dsimp only [dats]
theorem after0_6 (c : Dev nD) (t : Fin cfg0.N) : (dats m 0 c).after 6 t = outXs m c (ptX t) := by dsimp only [dats]
theorem after0_7 (c : Dev nD) (t : Fin cfg0.N) : (dats m 0 c).after 7 t = outYc m c (ptY t) := by dsimp only [dats]
theorem after0_8 (c : Dev nD) (t : Fin cfg0.N) : (dats m 0 c).after 8 t = outYs m c (ptY t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The grid's coordinate at a point is the point. -/
theorem coords_val : ∀ t : Fin cfg0.N, (cfg0.grid.coords t 0).val = t.val := by decide +kernel

/-- Where each output's window is idle. -/
theorem idle_in : ∀ w : Fin cfg0.W, w.val < 4 → ∀ t : Fin cfg0.N, cfg0.idle w (cfg0.grid.coords t) = false := by decide +kernel
theorem idle_x : ∀ w : Fin cfg0.W, (w.val = 5 ∨ w.val = 6) → ∀ t : Fin cfg0.N, cfg0.idle w (cfg0.grid.coords t) = decide (8 ≤ t.val) := by
  decide +kernel
theorem idle_y : ∀ w : Fin cfg0.W, (w.val = 4 ∨ w.val = 7 ∨ w.val = 8) → ∀ t : Fin cfg0.N,
    cfg0.idle w (cfg0.grid.coords t) = decide (t.val < 8) := by decide +kernel
/-- Where an output's window is written back though idle, and what is fresh. -/
theorem flush_y : ∀ w : Fin cfg0.W, (w.val = 4 ∨ w.val = 7 ∨ w.val = 8) → ∀ t : Fin cfg0.N, t.val < 8 → (cfg0.win w).flush t = false := by
  decide +kernel
theorem fresh_x : ∀ w : Fin cfg0.W, (w.val = 5 ∨ w.val = 6) → ∀ t : Fin cfg0.N, 8 ≤ t.val → cfg0.fresh w t.val = false := by
  decide +kernel

/-- A buffer named after a live point. -/
theorem live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact
  rw [h]

/-- The second operand's results before its first point: left as they were. -/
theorem idleY (c : Dev nD) (w : Fin cfg0.W) (hw : w.val = 4 ∨ w.val = 7 ∨ w.val = 8) (t : Fin cfg0.N) (h : t.val < 8) :
    (dats m 0 c).leavesExact w t
      = iprop(∃ d, owns (c : Thread nD τ) ((cfg0.win w).stage (cfg0.slots t w)) fullShare ((dats m 0 c).before w t d)) :=
  (dats m 0 c).leavesExact_idle w t ((idle_y w hw t).trans (by simpa using h)) (flush_y w hw t h)

/-- The first operand's results after its last point: what that point left. -/
theorem before_x (c : Dev nD) (w : Fin cfg0.W) (hw : w.val = 5 ∨ w.val = 6) (ho : (cfg0.win w).isOut = true)
    (hc : ∀ (i : cfg0.grid.Coords) a, (cfg0.win w).clip i a = none)
    (he : ∀ t t' : Fin cfg0.N, ptX t = ptX t' → (dats m 0 c).after w t = (dats m 0 c).after w t')
    (t : Fin cfg0.N) (h : 8 ≤ t.val) (d) : (dats m 0 c).before w t d = (dats m 0 c).after w t := by
  have e : ∀ (t : Fin cfg0.N) (h : 8 ≤ t.val), ptX t = ptX ⟨t.val - 1, by omega⟩ := fun t h => Fin.ext (by
    show min t.val 7 = min (t.val - 1) 7
    omega)
  refine ((dats m 0 c).before_out_traj w ho hc (fun t _ hi _ => ?_) t.val t rfl d).trans ?_
  · rw [idle_x w hw t] at hi
    exact he _ _ (e t (by simpa using hi))
  · rw [fresh_x w hw t h]
    exact (he _ _ (e t h)).symm

theorem idleX (c : Dev nD) (w : Fin cfg0.W) (hw : w.val = 5 ∨ w.val = 6) (ho : (cfg0.win w).isOut = true)
    (hc : ∀ (i : cfg0.grid.Coords) a, (cfg0.win w).clip i a = none)
    (he : ∀ t t' : Fin cfg0.N, ptX t = ptX t' → (dats m 0 c).after w t = (dats m 0 c).after w t')
    (t : Fin cfg0.N) (h : 8 ≤ t.val) :
    iprop(∃ d, owns (c : Thread nD τ) ((cfg0.win w).stage (cfg0.slots t w)) fullShare ((dats m 0 c).before w t d))
      ⊢ ((dats m 0 c).leavesExact w t : sProp 𝕄) := by
  unfold Dat.leavesExact
  rw [idle_x w hw t, decide_eq_true h]
  cases (cfg0.win w).flush t
  · exact .rfl
  · iintro ⟨%d, H⟩
    rw [before_x m c w hw ho hc he t h]
    iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- The first point. -/
theorem sound_first (c : Dev nD) (t : Fin cfg0.N) (hz : t.val = 0) :
    bodyPre m c t ⊢ wp frame (wpE (defs₀ (F := F)) Variants.none c none) Set.univ (bodyAt0 t) (fun _ => bodyPost m c t) := by
  have ht : pt 0 (by omega) = t := Fin.ext hz.symm
  have hv : (grid0.coords t 0).val = (0 : Fin 30).val := (coords_val t).trans hz
  have h2 := (cond2_iff 0 (grid0.coords t) hv).mpr (by decide)
  unfold bodyPre bodyPost bodyAt0
  rw [cc0_eq, body_first _ _ _ _ _ _ _ _ _ _ _ _ _ _ _ _ _ _ _ _ _ _ _ _ _ _ _ _ _ _ _ ((condR_iff 0 (grid0.coords t) hv).mpr rfl)
    h2 (fun h => absurd ((cond3_iff 0 (grid0.coords t) hv).mp h) (by decide))]
  simp only [before0_0, before0_1, before0_2, before0_3]
  rw [show (dats m 0 c).owesAt () t.succ = (dats m 0 c).owesAt () t.castSucc from rfl,
    show (dats m 0 c).Φ t.castSucc = PhiS m c t.val from rfl, show (dats m 0 c).Φ t.succ = PhiS m c (t.val + 1) from rfl, hz]
  unfold PhiS
  rw [PhiA0_eq, live m c 0 t (idle_in 0 (by decide) t), live m c 1 t (idle_in 1 (by decide) t), live m c 2 t (idle_in 2 (by decide) t),
    live m c 3 t (idle_in 3 (by decide) t), idleY m c 4 (by decide) t (by omega), idleY m c 7 (by decide) t (by omega),
    idleY m c 8 (by decide) t (by omega), live m c 5 t ((idle_x 5 (by decide) t).trans (by simp [hz])),
    live m c 6 t ((idle_x 6 (by decide) t).trans (by simp [hz])),
    after0_0, after0_1, after0_2, after0_3, after0_5, after0_6]
  have hp : ptX t = t := Fin.ext (by show min t.val 7 = t.val; omega)
  rw [hp]
  iintro ⟨⟨⟨⟨%R, HS0⟩, ⟨%S, HS1⟩, HS2, HS3, ⟨%W, HS4⟩, ⟨%X, HS5⟩⟩, Hg⟩, Ho, ⟨%d0, H0⟩, ⟨%d1, H1⟩, ⟨%d2, H2⟩, ⟨%d3, H3⟩, H4, ⟨%d5, H5⟩, ⟨%d6, H6⟩, H7, H8⟩
  iapply wp_seq (wp_branchR _ scM0_0 _ (iblk m c 2 t) R)
  isplitl [H2 HS0]
  · isplitl [H2]
    · iexact H2
    · iexact HS0
  iintro %_ ⟨H2, HS0⟩
  iapply wp_wand_r
  isplitl [H0 H5 H6 HS0 HS1 HS4 HS5]
  · iapply wp_branchX (grid0.coords t) h2 _ _ _ _ _ scM0_0 scM0_1 _ scM0_4 scM0_5 (iblk m c 0 t) _ _ (rotation (iblk m c 2 t)) S W X
    isplitl [H0]; · iexact H0
    isplitl [H5]; · iexact H5
    isplitl [H6]; · iexact H6
    isplitl [HS0]; · iexact HS0
    isplitl [HS1]; · iexact HS1
    isplitl [HS4]
    · iexact HS4
    · iexact HS5
  iintro %_ ⟨H0, H5, H6, HS0, HS1, HS4, HS5⟩
  have hr : rotation (iblk m c 2 t) = rotOf m c := by rw [← ht]; rfl
  rw [hr]
  isplitl [HS0 HS1 HS2 HS3 HS4 HS5 Hg]
  · isplitl [HS0 HS1 HS2 HS3 HS4 HS5]
    · isplitl [HS0]; · iexact HS0
      isplitl [HS1]
      · iexists (slabsAfter (grid0.coords t) h2 (rotOf m c) (iblk m c 0 t) S)
        isplitl []
        · ipureintro
          refine slabsAfter_at _ h2 _ _ S (slabsX m c) 0 hv (fun n hn => ?_) (fun n hn => absurd hn (Nat.not_lt_zero _))
          have e : pt n.val (by omega) = t := Fin.ext (hn.trans hz.symm)
          unfold slabsX
          rw [e]
        · iexact HS1
      isplitl [HS2]; · iexact HS2
      isplitl [HS3]; · iexact HS3
      isplitl [HS4]
      · iexact HS4
      · iexact HS5
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · unfold outXc; iexact H5
  isplitl [H6]; · unfold outXs; iexact H6
  isplitl [H7]
  · iexact H7
  · iexact H8

/-- The later points of the first operand. -/
theorem sound_early (c : Dev nD) (t : Fin cfg0.N) (hz : t.val ≠ 0) (h8 : t.val < 8) :
    bodyPre m c t ⊢ wp frame (wpE (defs₀ (F := F)) Variants.none c none) Set.univ (bodyAt0 t) (fun _ => bodyPost m c t) := by
  have hv : (grid0.coords t 0).val = (⟨t.val, by omega⟩ : Fin 30).val := coords_val t
  have h2 := (cond2_iff _ (grid0.coords t) hv).mpr h8
  unfold bodyPre bodyPost bodyAt0
  rw [cc0_eq, body_early _ _ _ _ _ _ _ _ _ _ _ _ _ _ _ _ _ _ _ _ _ _ _ _ _ _ _ _ _ _ _ (fun h => hz ((condR_iff _ (grid0.coords t) hv).mp h))
    h2 (fun h => absurd ((cond3_iff _ (grid0.coords t) hv).mp h) (by show ¬ 8 ≤ t.val; omega))]
  simp only [before0_0, before0_1, before0_2, before0_3]
  obtain ⟨n, hn⟩ : ∃ n, t.val = n + 1 := ⟨t.val - 1, by omega⟩
  rw [show (dats m 0 c).owesAt () t.succ = (dats m 0 c).owesAt () t.castSucc from rfl,
    show (dats m 0 c).Φ t.castSucc = PhiS m c t.val from rfl, show (dats m 0 c).Φ t.succ = PhiS m c (t.val + 1) from rfl, hn]
  unfold PhiS
  rw [live m c 0 t (idle_in 0 (by decide) t), live m c 1 t (idle_in 1 (by decide) t), live m c 2 t (idle_in 2 (by decide) t),
    live m c 3 t (idle_in 3 (by decide) t), idleY m c 4 (by decide) t (by omega), idleY m c 7 (by decide) t (by omega),
    idleY m c 8 (by decide) t (by omega), live m c 5 t ((idle_x 5 (by decide) t).trans (by simp; omega)),
    live m c 6 t ((idle_x 6 (by decide) t).trans (by simp; omega)),
    after0_0, after0_1, after0_2, after0_3, after0_5, after0_6]
  have hp : ptX t = t := Fin.ext (by show min t.val 7 = t.val; omega)
  rw [hp]
  iintro ⟨⟨⟨HS0, ⟨%S, ⟨%hS, HS1⟩⟩, HS2, HS3, ⟨%W, HS4⟩, ⟨%X, HS5⟩⟩, Hg⟩, Ho, ⟨%d0, H0⟩, ⟨%d1, H1⟩, ⟨%d2, H2⟩, ⟨%d3, H3⟩, H4, ⟨%d5, H5⟩, ⟨%d6, H6⟩, H7, H8⟩
  iapply wp_wand_r
  isplitl [H0 H5 H6 HS0 HS1 HS4 HS5]
  · iapply wp_branchX (grid0.coords t) h2 _ _ _ _ _ scM0_0 scM0_1 _ scM0_4 scM0_5 (iblk m c 0 t) _ _ (rotOf m c) S W X
    isplitl [H0]; · iexact H0
    isplitl [H5]; · iexact H5
    isplitl [H6]; · iexact H6
    isplitl [HS0]; · iexact HS0
    isplitl [HS1]; · iexact HS1
    isplitl [HS4]
    · iexact HS4
    · iexact HS5
  iintro %_ ⟨H0, H5, H6, HS0, HS1, HS4, HS5⟩
  isplitl [HS0 HS1 HS2 HS3 HS4 HS5 Hg]
  · isplitl [HS0 HS1 HS2 HS3 HS4 HS5]
    · isplitl [HS0]; · iexact HS0
      isplitl [HS1]
      · iexists (slabsAfter (grid0.coords t) h2 (rotOf m c) (iblk m c 0 t) S)
        isplitl []
        · ipureintro
          refine slabsAfter_at _ h2 _ _ S (slabsX m c) (n + 1) (hv.trans hn) (fun k hk => ?_) hS
          have e : pt k.val (by omega) = t := Fin.ext (hk.trans hn.symm)
          unfold slabsX
          rw [e]
        · iexact HS1
      isplitl [HS2]; · iexact HS2
      isplitl [HS3]; · iexact HS3
      isplitl [HS4]
      · iexact HS4
      · iexact HS5
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · unfold outXc; iexact H5
  isplitl [H6]; · unfold outXs; iexact H6
  isplitl [H7]
  · iexact H7
  · iexact H8

/-- The points of the second operand. -/
theorem sound_late (c : Dev nD) (t : Fin cfg0.N) (h8 : 8 ≤ t.val) :
    bodyPre m c t ⊢ wp frame (wpE (defs₀ (F := F)) Variants.none c none) Set.univ (bodyAt0 t) (fun _ => bodyPost m c t) := by
  have ht : t.val < 30 := lt_of_lt_of_eq t.isLt (show cfg0.N = 30 from N_0)
  have hv : (grid0.coords t 0).val = (⟨t.val, ht⟩ : Fin 30).val := coords_val t
  unfold bodyPre bodyPost bodyAt0
  rw [cc0_eq, body_late _ _ _ _ _ _ _ _ _ _ _ _ _ _ _ _ _ _ _ _ _ _ _ _ _ _ _ _ _ _ _
    (fun h => absurd ((condR_iff _ (grid0.coords t) hv).mp h) (by show ¬ t.val = 0; omega))
    (fun h => absurd ((cond2_iff _ (grid0.coords t) hv).mp h) (by show ¬ t.val < 8; omega)) ((cond3_iff _ (grid0.coords t) hv).mpr h8)]
  have hx5 := idleX m c 5 (by decide) rfl (fun _ _ => rfl) (fun t t' e => by rw [after0_5, after0_5, e]) t h8
  have hx6 := idleX m c 6 (by decide) rfl (fun _ _ => rfl) (fun t t' e => by rw [after0_6, after0_6, e]) t h8
  simp only [before0_0, before0_1, before0_2, before0_3]
  obtain ⟨n, hn⟩ : ∃ n, t.val = n + 1 := ⟨t.val - 1, by omega⟩
  rw [show (dats m 0 c).owesAt () t.succ = (dats m 0 c).owesAt () t.castSucc from rfl,
    show (dats m 0 c).Φ t.castSucc = PhiS m c t.val from rfl, show (dats m 0 c).Φ t.succ = PhiS m c (t.val + 1) from rfl, hn]
  unfold PhiS
  rw [live m c 0 t (idle_in 0 (by decide) t), live m c 1 t (idle_in 1 (by decide) t), live m c 2 t (idle_in 2 (by decide) t),
    live m c 3 t (idle_in 3 (by decide) t), live m c 4 t ((idle_y 4 (by decide) t).trans (by simp; omega)),
    live m c 7 t ((idle_y 7 (by decide) t).trans (by simp; omega)), live m c 8 t ((idle_y 8 (by decide) t).trans (by simp; omega)),
    after0_0, after0_1, after0_2, after0_3, after0_4, after0_7, after0_8]
  have hp : ptY t = t := Fin.ext (by show max t.val 8 = t.val; omega)
  rw [hp]
  iintro ⟨⟨⟨HS0, ⟨%S, ⟨%hS, HS1⟩⟩, ⟨%T, HS2⟩, ⟨%Rd, HS3⟩, ⟨%W, HS4⟩, ⟨%X, HS5⟩⟩, Hg⟩, Ho, ⟨%d0, H0⟩, ⟨%d1, H1⟩, ⟨%d2, H2⟩, ⟨%d3, H3⟩, ⟨%d4, H4⟩, H5, H6, ⟨%d7, H7⟩, ⟨%d8, H8⟩⟩
  obtain rfl := eq_joinSlabs S (slabsX m c) (fun k => hS k (by omega))
  iapply wp_wand_r
  isplitl [H1 H3 H4 H7 H8 HS0 HS1 HS2 HS3 HS4 HS5]
  · iapply wp_branchY _ _ _ _ _ _ _ scM0_0 scM0_1 scM0_2 _ scM0_3 scM0_4 scM0_5 (iblk m c 1 t) (iblk m c 3 t) _ _ _ (rotOf m c)
      (joinSlabs (slabsX m c)) T Rd W X
    isplitl [H1]; · iexact H1
    isplitl [H3]; · iexact H3
    isplitl [H4]; · iexact H4
    isplitl [H7]; · iexact H7
    isplitl [H8]; · iexact H8
    isplitl [HS0]; · iexact HS0
    isplitl [HS1]; · iexact HS1
    isplitl [HS2]; · iexact HS2
    isplitl [HS3]; · iexact HS3
    isplitl [HS4]
    · iexact HS4
    · iexact HS5
  iintro %_ ⟨H1, H3, H4, H7, H8, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]
      · iexists (joinSlabs (slabsX m c))
        isplitl []
        · ipureintro
          exact fun k _ => hS k (by omega)
        · iexact HS1
      isplitl [HS2]; · iexact HS2
      isplitl [HS3]; · iexact HS3
      isplitl [HS4]
      · iexact HS4
      · iexact HS5
    · iexact Hg
  isplitl [Ho]; · iexact Ho
  isplitl [H0]; · iexact H0
  isplitl [H1]; · iexact H1
  isplitl [H2]; · iexact H2
  isplitl [H3]; · iexact H3
  isplitl [H4]; · unfold outDw; iexact H4
  isplitl [H5]; · iapply hx5; iexact H5
  isplitl [H6]; · iapply hx6; iexact H6
  isplitl [H7]
  · unfold outYc; iexact H7
  · unfold outYs; iexact H8

/-- The body obligation. -/
theorem body_obligation (c : Dev nD) : BodyObligation (dats m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  by_cases hz : t.val = 0
  · exact sound_first m c t hz
  · by_cases h8 : t.val < 8
    · exact sound_early m c t hz h8
    · exact sound_late m c t (by omega)

/-- The invariant after the last point gives the scratch back at anything. -/
theorem phi_last (c : Dev nD) (n : ℕ) (hn : n ≠ 0) : PhiS m c n ⊢ (Pipeline.ΦA spec0 c : sProp 𝕄) := by
  obtain ⟨n, rfl⟩ := Nat.exists_eq_succ_of_ne_zero hn
  unfold PhiS
  rw [PhiA0_eq]
  iintro ⟨⟨HS0, ⟨%S, ⟨%hS, HS1⟩⟩, HS2, HS3, HS4, HS5⟩, Hg⟩
  isplitl [HS0 HS1 HS2 HS3 HS4 HS5]
  · isplitl [HS0]; · iexists _; iexact HS0
    isplitl [HS1]; · iexists S; iexact HS1
    isplitl [HS2]; · iexact HS2
    isplitl [HS3]; · iexact HS3
    isplitl [HS4]
    · iexact HS4
    · iexact HS5
  · iexact Hg

/-- The run: every array ends at what the proof data say, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ Variants.none m ρ main (fun c => (body_obligation m c).loose)
    (hshare := fun c w => by unfold Dat.share; split <;> rfl) (howed := fun _ _ => rfl) (V m) (hmain m Variants.none) (A_eq m) (fun _ => .rfl)
    (fun c => (show (dats m 0 c).Φ (Fin.last cfg0.N) ⊢ (Pipeline.ΦA spec0 c : sProp 𝕄) from
      phi_last m c cfg0.N (by rw [show cfg0.N = 30 from N_0]; decide))) (Q' := _) (hQ' := fun _ h => h)

/-- The frame claim's run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Run

end
-- ==== Proof.FrameBits.lean ====
/- The kernel's frame: the idealized kernel is the same program, so its run at bits is the kernel's. -/
module

public import proofs.«01_k».proof.Proof.Run
public import proofs.«01_k».proof.Proof.Gen.Kernel
public import proofs.«01_k».proof.Defs

@[expose] public section

set_option maxRecDepth 10000

noncomputable section

namespace Cert

open Idealize.ShloMosaic Idealize.ShloMosaic.Tactic Idealize.SL.Sem

/-- The kernel's frame. -/
theorem frame_kernel : quiescent_Kernel := fun m g _ => by
  have h := KernelIdeal.Run.frame (F := Bits) m g
  exact cast (by sl_kernel_rfl) h

end Cert

end
-- ==== Proof.FrameRef.lean ====
/- The frame of the reference. -/
module

public import proofs.«01_k».proof.Defs
public import proofs.«01_k».proof.Proof.Gen.ReferenceIdeal.Run

@[expose] public section

noncomputable section

namespace Cert

open Idealize.ShloMosaic Idealize.SL.Sem

/-- The reference leaves its arguments and every semaphore counter. -/
theorem frame_reference [ReferenceIdeal.Facts] : quiescent_ReferenceIdeal := fun m g _ =>
  (θ_run ReferenceIdeal.defs _ _).mono
    (fun r h => ⟨fun c => (h c).2.2.2.2.2, sem_eq_zero_of_no_sems (by decide) r.2⟩)
    (ReferenceIdeal.Value.run m g)

end Cert

end
-- ==== Proof.Math.Round.lean ====
/- Facts of real numbers: counting the powers of two a number reaches, and rounding a number to one mantissa bit. -/
module

public import Idealize.ShloMosaic.PureOps.Ideal
public import Mathlib.Data.Nat.Count
public import Mathlib.Tactic.Linarith
public import Mathlib.Tactic.NormNum
public import Mathlib.Tactic.Ring
public import Mathlib.Tactic.Positivity

@[expose] public section

noncomputable section

namespace Cert.Math

open Idealize.ShloMosaic

/-- The `k`-th power of two from the smallest normal number on. -/
def pow2 (k : ℕ) : ℝ := (2 : ℝ) ^ ((k : ℤ) - 126)

theorem pow2_pos (k : ℕ) : 0 < pow2 k := by unfold pow2; positivity

theorem pow2_mono {a b : ℕ} (h : a ≤ b) : pow2 a ≤ pow2 b := by
  unfold pow2
  exact zpow_le_zpow_right₀ (by norm_num) (by omega)

open Classical in
/-- How many of the 254 powers a number reaches. -/
def expCount (f : ℝ) : ℕ := Nat.count (fun k => pow2 k ≤ f) 254

open Classical in
/-- A number reaches exactly the powers below its count. -/
theorem lt_expCount (f : ℝ) {k : ℕ} (hk : k < 254) : k < expCount f ↔ pow2 k ≤ f := by
  unfold expCount
  constructor
  · intro h
    by_contra hn
    have e : Nat.count (fun k => pow2 k ≤ f) 254 = Nat.count (fun k => pow2 k ≤ f) k := by
      have := Nat.count_add (fun k => pow2 k ≤ f) k (254 - k)
      rw [show k + (254 - k) = 254 by omega] at this
      rw [this, Nat.add_eq_left, Nat.count_iff_forall_not]
      intro n _ hp
      exact hn ((pow2_mono (Nat.le_add_right k n)).trans hp)
    have := Nat.count_le (p := fun k => pow2 k ≤ f) (n := k)
    omega
  · intro h
    have e : Nat.count (fun k => pow2 k ≤ f) (k + 1) = k + 1 := by
      rw [Nat.count_iff_forall]
      intro n hn
      exact (pow2_mono (by omega)).trans h
    have := Nat.count_monotone (fun k => pow2 k ≤ f) (show k + 1 ≤ 254 by omega)
    omega

theorem expCount_le (f : ℝ) : expCount f ≤ 254 := Nat.count_le _

/-- A number is below the power its count names. -/
theorem lt_pow2_expCount (f : ℝ) (h : expCount f < 254) : f < pow2 (expCount f) := by
  by_contra hn
  exact absurd ((lt_expCount f h).mpr (not_lt.mp hn)) (lt_irrefl _)

/-- The count of a number of known size. -/
theorem expCount_eq (f : ℝ) (n : ℕ) (hn : n + 1 < 254) (h : pow2 n ≤ f) (h' : f < pow2 (n + 1)) : expCount f = n + 1 := by
  have a := (lt_expCount f (show n < 254 by omega)).mpr h
  have b := mt (lt_expCount f hn).mp (not_le.mpr h')
  omega

/-- The nearest of the eight magnitudes, by its index, a tie to the even index. -/
def nearK (m : ℝ) : ℕ :=
  (if (0.25 : ℝ) < m then 1 else 0) + (if (0.75 : ℝ) ≤ m then 1 else 0) + (if (1.25 : ℝ) < m then 1 else 0)
    + (if (1.75 : ℝ) ≤ m then 1 else 0) + (if (2.5 : ℝ) < m then 1 else 0) + (if (3.5 : ℝ) ≤ m then 1 else 0)
    + (if (5 : ℝ) < m then 1 else 0)

/-- The largest of the eight magnitudes not above the number, by its index. -/
def floorK (m : ℝ) : ℕ :=
  (if (0.5 : ℝ) ≤ m then 1 else 0) + (if (1 : ℝ) ≤ m then 1 else 0) + (if (1.5 : ℝ) ≤ m then 1 else 0)
    + (if (2 : ℝ) ≤ m then 1 else 0) + (if (3 : ℝ) ≤ m then 1 else 0) + (if (4 : ℝ) ≤ m then 1 else 0)
    + (if (6 : ℝ) ≤ m then 1 else 0)

/-- The magnitude itself. -/
def floorG (m : ℝ) : ℝ :=
  if (6 : ℝ) ≤ m then 6 else if (4 : ℝ) ≤ m then 4 else if (3 : ℝ) ≤ m then 3 else if (2 : ℝ) ≤ m then 2
    else if (1.5 : ℝ) ≤ m then 1.5 else if (1 : ℝ) ≤ m then 1 else if (0.5 : ℝ) ≤ m then 0.5 else 0

/-- The magnitude above. -/
def ceilG (m : ℝ) : ℝ :=
  if (6 : ℝ) ≤ m then 6 else if (4 : ℝ) ≤ m then 6 else if (3 : ℝ) ≤ m then 4 else if (2 : ℝ) ≤ m then 3
    else if (1.5 : ℝ) ≤ m then 2 else if (1 : ℝ) ≤ m then 1.5 else if (0.5 : ℝ) ≤ m then 1 else 0.5

/-- The magnitude the random number `r` picks of the two, by its index. -/
def randK (m r : ℝ) : ℕ :=
  floorK m + if r < (if floorG m < ceilG m then (m - floorG m) / (if floorG m < ceilG m then ceilG m - floorG m else 1) else 0) then 1 else 0

/-- Of a number between 2 and 4 the nearest integer. -/
theorem roundHalfEven_eq (t : ℝ) (h2 : 2 ≤ t) (h4 : t < 4) :
    Ideal.roundHalfEven t = 2 + (if (2.5 : ℝ) < t then 1 else 0) + (if (3.5 : ℝ) ≤ t then 1 else 0) := by
  unfold Ideal.roundHalfEven
  by_cases h3 : t < 3
  · have e : ⌊t⌋ = 2 := by rw [Int.floor_eq_iff]; constructor <;> push_cast <;> linarith
    simp only [e]
    push_cast
    have e2 : Even (2 : ℤ) := by decide
    split_ifs <;> first | rfl | (exfalso; linarith) | (norm_num at *; linarith)
  · have e : ⌊t⌋ = 3 := by rw [Int.floor_eq_iff]; constructor <;> push_cast <;> linarith
    simp only [e]
    push_cast
    have e2 : ¬ Even (3 : ℤ) := by decide
    split_ifs <;> first | rfl | (exfalso; linarith) | (exfalso; contradiction) | (norm_num at *; linarith)

/-- Of a number between 2 and 4 lowered by less than one the ceiling. -/
theorem ceil_eq (t r : ℝ) (h2 : 2 ≤ t) (h4 : t < 4) (hr : 0 < r) (hr' : r < 1) :
    ⌈t - r⌉ = 2 + (if r < t - 2 then 1 else 0) + (if r < t - 3 then 1 else 0) := by
  rw [Int.ceil_eq_iff]
  split_ifs <;> push_cast <;> constructor <;> linarith

/-- The lifted magnitude, its count of powers and its mantissa, case by case. -/
theorem lifted_cases (m : ℝ) (h0 : 0 ≤ m) (h6 : m < 6) :
    (m < 1 ∧ expCount (m + max m 1) = 127 ∧ m + max m 1 = m + 1)
      ∨ (1 ≤ m ∧ m < 2 ∧ expCount (m + max m 1) = 128 ∧ m + max m 1 = 2 * m)
      ∨ (2 ≤ m ∧ m < 4 ∧ expCount (m + max m 1) = 129 ∧ m + max m 1 = 2 * m)
      ∨ (4 ≤ m ∧ m < 6 ∧ expCount (m + max m 1) = 130 ∧ m + max m 1 = 2 * m) := by
  by_cases h1 : m < 1
  · have e : m + max m 1 = m + 1 := by rw [max_eq_right h1.le]
    refine Or.inl ⟨h1, ?_, e⟩
    rw [e]
    exact expCount_eq _ 126 (by norm_num) (by unfold pow2; norm_num; linarith) (by unfold pow2; norm_num; linarith)
  · have h1' := not_lt.mp h1
    have e : m + max m 1 = 2 * m := by rw [max_eq_left h1']; ring
    by_cases h2 : m < 2
    · refine Or.inr (Or.inl ⟨h1', h2, ?_, e⟩)
      rw [e]
      exact expCount_eq _ 127 (by norm_num) (by unfold pow2; norm_num; linarith) (by unfold pow2; norm_num; linarith)
    · have h2' := not_lt.mp h2
      by_cases h4 : m < 4
      · refine Or.inr (Or.inr (Or.inl ⟨h2', h4, ?_, e⟩))
        rw [e]
        exact expCount_eq _ 128 (by norm_num) (by unfold pow2; norm_num; linarith) (by unfold pow2; norm_num; linarith)
      · have h4' := not_lt.mp h4
        refine Or.inr (Or.inr (Or.inr ⟨h4', h6, ?_, e⟩))
        rw [e]
        exact expCount_eq _ 129 (by norm_num) (by unfold pow2; norm_num; linarith) (by unfold pow2; norm_num; linarith)

/-- A mantissa's power of two. -/
def mant (m : ℝ) : ℝ := (m + max m 1) * (2 : ℝ) ^ (((255 - expCount (m + max m 1) : ℕ) : ℤ) - 127)

/-- The mantissa lies between 2 and 4. -/
theorem mant_mem (m : ℝ) (h0 : 0 ≤ m) (h6 : m < 6) : 2 ≤ mant m ∧ mant m < 4 := by
  unfold mant
  rcases lifted_cases m h0 h6 with ⟨a, b, c⟩ | ⟨a, a', b, c⟩ | ⟨a, a', b, c⟩ | ⟨a, a', b, c⟩ <;> rw [b, c] <;> norm_num <;>
    constructor <;> linarith

/-- A sum of marks of a number below each of the marks' bounds. -/
theorem nearK_of (m : ℝ) (a b c d e f g : Prop) [Decidable a] [Decidable b] [Decidable c] [Decidable d] [Decidable e] [Decidable f]
    [Decidable g] (ha : (0.25 : ℝ) < m ↔ a) (hb : (0.75 : ℝ) ≤ m ↔ b) (hc : (1.25 : ℝ) < m ↔ c) (hd : (1.75 : ℝ) ≤ m ↔ d)
    (he : (2.5 : ℝ) < m ↔ e) (hf : (3.5 : ℝ) ≤ m ↔ f) (hg : (5 : ℝ) < m ↔ g) :
    nearK m = (if a then 1 else 0) + (if b then 1 else 0) + (if c then 1 else 0) + (if d then 1 else 0) + (if e then 1 else 0)
      + (if f then 1 else 0) + (if g then 1 else 0) := by
  unfold nearK
  simp only [ha, hb, hc, hd, he, hf, hg]

/-- Twice the count beside the rounded mantissa is the index of the nearest magnitude. -/
theorem near_word (m : ℝ) (h0 : 0 ≤ m) (h6 : m < 6) :
    2 * (expCount (m + max m 1) : ℤ) - 2 + Ideal.roundHalfEven (mant m) = 254 + nearK m := by
  obtain ⟨h2, h4⟩ := mant_mem m h0 h6
  rw [roundHalfEven_eq _ h2 h4]
  unfold mant
  rcases lifted_cases m h0 h6 with ⟨a, b, c⟩ | ⟨a, a', b, c⟩ | ⟨a, a', b, c⟩ | ⟨a, a', b, c⟩ <;> rw [b, c] <;> clear b c h2 h4
  · rw [nearK_of m (0.25 < m) (0.75 ≤ m) False False False False False (by rfl) (by rfl) (iff_of_false (by linarith) id)
      (iff_of_false (by linarith) id) (iff_of_false (by linarith) id) (iff_of_false (by linarith) id) (iff_of_false (by linarith) id)]
    norm_num
    have e1 : (5 / 2 < (m + 1) * 2) ↔ (1 / 4 < m) := by constructor <;> intro h <;> linarith
    have e2 : (7 / 2 ≤ (m + 1) * 2) ↔ (3 / 4 ≤ m) := by constructor <;> intro h <;> linarith
    simp only [e1, e2]
    ring
  · rw [nearK_of m True True (1.25 < m) (1.75 ≤ m) False False False (iff_of_true (by linarith) trivial) (iff_of_true (by linarith) trivial)
      (by rfl) (by rfl) (iff_of_false (by linarith) id) (iff_of_false (by linarith) id) (iff_of_false (by linarith) id)]
    norm_num
    have e1 : (5 / 2 < 2 * m) ↔ (5 / 4 < m) := by constructor <;> intro h <;> linarith
    have e2 : (7 / 2 ≤ 2 * m) ↔ (7 / 4 ≤ m) := by constructor <;> intro h <;> linarith
    simp only [e1, e2]
  · rw [nearK_of m True True True True (2.5 < m) (3.5 ≤ m) False (iff_of_true (by linarith) trivial) (iff_of_true (by linarith) trivial)
      (iff_of_true (by linarith) trivial) (iff_of_true (by linarith) trivial) (by rfl) (by rfl) (iff_of_false (by linarith) id)]
    norm_num
    have e1 : (5 / 2 < 2 * m * (1 / 2)) ↔ (5 / 2 < m) := by constructor <;> intro h <;> linarith
    have e2 : (7 / 2 ≤ 2 * m * (1 / 2)) ↔ (7 / 2 ≤ m) := by constructor <;> intro h <;> linarith
    simp only [e1, e2]
    ring
  · rw [nearK_of m True True True True True True (5 < m) (iff_of_true (by linarith) trivial) (iff_of_true (by linarith) trivial)
      (iff_of_true (by linarith) trivial) (iff_of_true (by linarith) trivial) (iff_of_true (by linarith) trivial)
      (iff_of_true (by linarith) trivial) (by rfl)]
    norm_num
    have e1 : (5 / 2 < 2 * m * (1 / 4)) ↔ (5 < m) := by constructor <;> intro h <;> linarith
    have e2 : ¬ (7 / 2 ≤ 2 * m * (1 / 4)) := by intro h; linarith
    simp only [e1, e2]
    norm_num
    split_ifs <;> rfl

/-- The index picked at random, for a number between two neighbouring magnitudes. -/
theorem randK_of (m r : ℝ) (k : ℕ) (lo hi : ℝ) (hk : floorK m = k) (hlo : floorG m = lo) (hhi : ceilG m = hi) (h : lo < hi) :
    randK m r = k + if r < (m - lo) / (hi - lo) then 1 else 0 := by
  unfold randK
  simp only [hk, hlo, hhi, if_pos h]

/-- Between two neighbouring magnitudes the three readings of the grid. -/
theorem grid_cases (m : ℝ) (h0 : 0 ≤ m) (h6 : m < 6) :
    (m < 0.5 ∧ floorK m = 0 ∧ floorG m = 0 ∧ ceilG m = 0.5) ∨ (0.5 ≤ m ∧ m < 1 ∧ floorK m = 1 ∧ floorG m = 0.5 ∧ ceilG m = 1)
      ∨ (1 ≤ m ∧ m < 1.5 ∧ floorK m = 2 ∧ floorG m = 1 ∧ ceilG m = 1.5) ∨ (1.5 ≤ m ∧ m < 2 ∧ floorK m = 3 ∧ floorG m = 1.5 ∧ ceilG m = 2)
      ∨ (2 ≤ m ∧ m < 3 ∧ floorK m = 4 ∧ floorG m = 2 ∧ ceilG m = 3) ∨ (3 ≤ m ∧ m < 4 ∧ floorK m = 5 ∧ floorG m = 3 ∧ ceilG m = 4)
      ∨ (4 ≤ m ∧ floorK m = 6 ∧ floorG m = 4 ∧ ceilG m = 6) := by
  have e6 : ¬ (6 : ℝ) ≤ m := not_le.mpr h6
  unfold floorK floorG ceilG
  simp only [if_neg e6]
  by_cases h4 : (4 : ℝ) ≤ m
  · simp only [if_pos h4, if_pos (show (3 : ℝ) ≤ m by linarith), if_pos (show (2 : ℝ) ≤ m by linarith),
      if_pos (show (1.5 : ℝ) ≤ m by linarith), if_pos (show (1 : ℝ) ≤ m by linarith), if_pos (show (0.5 : ℝ) ≤ m by linarith)]
    exact Or.inr (Or.inr (Or.inr (Or.inr (Or.inr (Or.inr ⟨h4, by norm_num⟩)))))
  by_cases h3 : (3 : ℝ) ≤ m
  · simp only [if_neg h4, if_pos h3, if_pos (show (2 : ℝ) ≤ m by linarith),
      if_pos (show (1.5 : ℝ) ≤ m by linarith), if_pos (show (1 : ℝ) ≤ m by linarith), if_pos (show (0.5 : ℝ) ≤ m by linarith)]
    exact Or.inr (Or.inr (Or.inr (Or.inr (Or.inr (Or.inl ⟨h3, not_le.mp h4, by norm_num⟩)))))
  by_cases h2 : (2 : ℝ) ≤ m
  · simp only [if_neg h4, if_neg h3, if_pos h2,
      if_pos (show (1.5 : ℝ) ≤ m by linarith), if_pos (show (1 : ℝ) ≤ m by linarith), if_pos (show (0.5 : ℝ) ≤ m by linarith)]
    exact Or.inr (Or.inr (Or.inr (Or.inr (Or.inl ⟨h2, not_le.mp h3, by norm_num⟩))))
  by_cases h15 : (1.5 : ℝ) ≤ m
  · simp only [if_neg h4, if_neg h3, if_neg h2, if_pos h15, if_pos (show (1 : ℝ) ≤ m by linarith), if_pos (show (0.5 : ℝ) ≤ m by linarith)]
    exact Or.inr (Or.inr (Or.inr (Or.inl ⟨h15, not_le.mp h2, by norm_num⟩)))
  by_cases h1 : (1 : ℝ) ≤ m
  · simp only [if_neg h4, if_neg h3, if_neg h2, if_neg h15, if_pos h1, if_pos (show (0.5 : ℝ) ≤ m by linarith)]
    exact Or.inr (Or.inr (Or.inl ⟨h1, not_le.mp h15, by norm_num⟩))
  by_cases h5 : (0.5 : ℝ) ≤ m
  · simp only [if_neg h4, if_neg h3, if_neg h2, if_neg h15, if_neg h1, if_pos h5]
    exact Or.inr (Or.inl ⟨h5, not_le.mp h1, by norm_num⟩)
  · simp only [if_neg h4, if_neg h3, if_neg h2, if_neg h15, if_neg h1, if_neg h5]
    exact Or.inl ⟨not_le.mp h5, by norm_num⟩

/-- The same of the mantissa rounded at random. -/
theorem rand_word (m r : ℝ) (h0 : 0 ≤ m) (h6 : m < 6) (hr : 0 < r) (hr' : r < 1) :
    2 * (expCount (m + max m 1) : ℤ) - 2 + ⌈mant m - r⌉ = 254 + randK m r := by
  obtain ⟨h2, h4⟩ := mant_mem m h0 h6
  rw [ceil_eq _ r h2 h4 hr hr']
  unfold mant
  rcases grid_cases m h0 h6 with ⟨p', k, lo, hi⟩ | ⟨p, p', k, lo, hi⟩ | ⟨p, p', k, lo, hi⟩ | ⟨p, p', k, lo, hi⟩ | ⟨p, p', k, lo, hi⟩
      | ⟨p, p', k, lo, hi⟩ | ⟨p, k, lo, hi⟩ <;>
    rw [randK_of m r _ _ _ k lo hi (by norm_num)] <;>
    rcases lifted_cases m h0 h6 with ⟨a, b, c⟩ | ⟨a, a', b, c⟩ | ⟨a, a', b, c⟩ | ⟨a, a', b, c⟩ <;>
    first
    | (exfalso; linarith)
    | (rw [b, c]
       clear b c h2 h4 k lo hi
       norm_num
       split_ifs <;> first | rfl | (exfalso; linarith))

end Cert.Math

end
-- ==== Proof.Math.Words.lean ====
/- Words and extended reals: powers of two by their bits, counts as words, the word of a rounded number. -/
module

public import proofs.«01_k».proof.Proof.Math.Round
public import Idealize.ShloMosaic.Lib.WordSum
public import Idealize.ShloMosaic.Lib.IndicatorCount

@[expose] public section

noncomputable section

namespace Cert.Math

open Idealize.ShloMosaic

theorem shifted_fields : ∀ n : Fin 256, ((BitVec.ofNat 32 n.val <<< (23 : ℕ)).extractLsb' 23 8).toNat = n.val
    ∧ ((BitVec.ofNat 32 n.val <<< (23 : ℕ)).extractLsb' 0 23).toNat = 0
    ∧ ((BitVec.ofNat 32 n.val <<< (23 : ℕ)).extractLsb' 31 1 == 1#1) = false := by decide

/-- A normal pattern with a zero mantissa is a power of two. -/
theorem ofBits_pow (b : BitVec 32) (n : ℕ) (h1 : 1 ≤ n) (h : n ≤ 254) (a : (b.extractLsb' 23 8).toNat = n)
    (f : (b.extractLsb' 0 23).toNat = 0) (c : (b.extractLsb' 31 1 == 1#1) = false) :
    Ideal.ofBits .f32 b = (((2 : ℝ) ^ ((n : ℤ) - 127) : ℝ) : EReal) := by
  have e : Ideal.ofBits .f32 b = Ideal.ieee 8 23 b := rfl
  rw [e, Ideal.ieee]
  simp only [a, f, show 8 + 23 = 31 from rfl, c]
  rw [if_neg (by omega), if_neg (by omega)]
  congr 1
  push_cast
  norm_num
  rw [show (8388608 : ℝ) = (2 : ℝ) ^ (23 : ℤ) by norm_num, ← zpow_add₀ (by norm_num)]
  congr 1
  ring

/-- An exponent field over a zero mantissa is a power of two. -/
theorem ofBits_shift (n : ℕ) (h1 : 1 ≤ n) (h : n ≤ 254) :
    Ideal.ofBits .f32 ((BitVec.ofNat 32 n <<< (23 : ℕ) : BitVec 32)) = (((2 : ℝ) ^ ((n : ℤ) - 127) : ℝ) : EReal) := by
  obtain ⟨a, b, c⟩ := shifted_fields ⟨n, by omega⟩
  exact ofBits_pow _ n h1 h a b c

/-- The field of all ones is the infinity. -/
theorem ofBits_shift_top : Ideal.ofBits .f32 ((BitVec.ofNat 32 255 <<< (23 : ℕ) : BitVec 32)) = ⊤ := by
  simp [Ideal.ofBits, Ideal.ieee]

open Classical in
/-- The count of powers as a cardinal. -/
theorem card_pow2 (f : ℝ) : (Finset.univ.filter fun k : Fin 254 => pow2 k.val ≤ f).card = expCount f := by
  unfold expCount
  rw [Nat.count_eq_card_filter_range]
  refine Finset.card_bij (fun k _ => k.val) ?_ ?_ ?_
  · intro k hk
    simp only [Finset.mem_filter, Finset.mem_univ, true_and] at hk
    simp [hk, k.isLt]
  · intro a _ b _ h
    exact Fin.ext h
  · intro b hb
    simp only [Finset.mem_filter, Finset.mem_range] at hb
    exact ⟨⟨b, hb.1⟩, by simp [hb.2], rfl⟩

/-- The real of a rotation's scale. -/
def nu : ℝ := 11863283 * (2 : ℝ) ^ (-26 : ℤ)
/-- The real nearest a sixth. -/
def kappa : ℝ := 11184811 * (2 : ℝ) ^ (-26 : ℤ)

theorem ofBits_nu : Ideal.ofBits .f32 0x3E3504F3#32 = (nu : EReal) := by
  simp [Ideal.ofBits, Ideal.ieee, -EReal.coe_mul, nu]
theorem ofBits_kappa : Ideal.ofBits .f32 0x3E2AAAAB#32 = (kappa : EReal) := by
  simp [Ideal.ofBits, Ideal.ieee, -EReal.coe_mul, kappa]

theorem nu_pos : 0 < nu := by unfold nu; positivity
theorem nu_lt : nu < 1 := by unfold nu; norm_num
theorem kappa_pos : 0 < kappa := by unfold kappa; positivity
theorem kappa_lt : kappa < 1 := by unfold kappa; norm_num
theorem sixth_lt_kappa : 1 < 6 * kappa := by unfold kappa; norm_num

/-- The word of a rounded number: its code's index `k` above the exponent of one, and its sign. -/
def wordOf (k : ℕ) (neg : Bool) : BitVec 32 := (BitVec.ofNat 32 (254 + k) <<< (22 : ℕ)) ||| (if neg then 0x80000000#32 else 0#32)

theorem min_cut : ∀ k : Fin 8, IntOp.minsi (BitVec.ofNat 32 (254 + k.val) <<< (22 : ℕ)) 1094713344#32
    = BitVec.ofNat 32 (254 + k.val) <<< (22 : ℕ) := by decide

/-- Twice an exponent, less two, beside a rounded mantissa. -/
theorem word_add (E : ℕ) (N : ℤ) (k : ℕ) (h : 2 * (E : ℤ) - 2 + N = 254 + k) :
    BitVec.ofNat 32 E + BitVec.ofNat 32 E - 2#32 + BitVec.ofInt 32 N = BitVec.ofNat 32 (254 + k) := by
  have e : N = 256 + k - 2 * E := by omega
  subst e
  apply BitVec.eq_of_toInt_eq
  simp only [BitVec.toInt_add, BitVec.toInt_sub, BitVec.toInt_ofNat', BitVec.toInt_ofInt]
  simp only [Int.bmod_add_bmod, Int.add_bmod_bmod, Int.bmod_sub_bmod, Int.sub_bmod_bmod]
  congr 1
  simp
  ring

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem coe_abs (a : ℝ) : ((|a| : ℝ) : EReal) = max (a : EReal) (-(a : EReal)) := by
  rw [← EReal.coe_neg, ← coe_max]; rfl

end Cert.Math

end
-- ==== Proof.Math.Nibble.lean ====
/- The four-bit codes, a byte of two of them, and the word operations that gather eight. -/
module

public import proofs.«01_k».proof.Proof.Math.Words

@[expose] public section

noncomputable section

namespace Cert.Math

/-- A code with its sign, minus zero included. -/
def rawNib (k : ℕ) (s : Bool) : BitVec 4 := BitVec.ofNat 4 k ||| (if s then 8#4 else 0#4)

/-- A code with its sign, zero unsigned. -/
def nib (k : ℕ) (s : Bool) : BitVec 4 := BitVec.ofNat 4 k ||| (if s && decide (0 < k) then 8#4 else 0#4)

/-- Two codes in a byte. -/
def nibPair (a b : BitVec 4) : BitVec 8 := a.setWidth 8 ||| (b.setWidth 8 <<< (4 : ℕ))

/-- The byte of the codes of two tokens. -/
def byteOf (K : Fin 1920 → Fin 8) (S : Fin 1920 → Bool) (p : Fin 960) : BitVec 8 :=
  nibPair (nib (K ⟨2 * p.val, by omega⟩).val (S ⟨2 * p.val, by omega⟩)) (nib (K ⟨2 * p.val + 1, by omega⟩).val (S ⟨2 * p.val + 1, by omega⟩))

/-- A byte whose bits are those of two codes. -/
theorem eq_nibPair (w : BitVec 8) (a b : BitVec 4) (h : ∀ (e : Fin 2) (j : Fin 4), w.getLsbD (4 * e.val + j.val) = (if e.val = 0 then a else b).getLsbD j.val) :
    w = nibPair a b := by
  apply BitVec.eq_of_getLsbD_eq
  intro i hi
  have l := h ⟨i / 4, by omega⟩ ⟨i % 4, by omega⟩
  have e : 4 * (i / 4) + i % 4 = i := by omega
  simp only [e] at l
  rw [l]
  unfold nibPair
  interval_cases i <;> simp

/-- The bits of a code with zero unsigned. -/
theorem nib_bit : ∀ (k : Fin 8) (s : Bool) (j : Fin 4), (nib k.val s).getLsbD j.val
    = ((rawNib k.val s).getLsbD j.val && (decide (j.val ≠ 3) || ((rawNib k.val s).getLsbD 0 || (rawNib k.val s).getLsbD 1 || (rawNib k.val s).getLsbD 2))) := by
  decide

/-- The bits of the mask of magnitudes. -/
theorem mask_bit : ∀ (q : Fin 8) (j : Fin 4), (2004318071#32).getLsbD (4 * q.val + j.val) = decide (j.val ≠ 3) := by decide
theorem top_bit : ∀ (q : Fin 8) (j : Fin 4), (2290649224#32).getLsbD (4 * q.val + j.val) = decide (j.val = 3) := by decide

/-- No carry passes from a code's magnitude to the next code. -/
theorem carry_none (w : BitVec 32) (q : ℕ) (hq : q < 8) : BitVec.carry (4 * q) (w &&& 2004318071#32) 2004318071#32 false = false := by
  cases q with
  | zero => simp [BitVec.carry_zero]
  | succ q =>
    have e : 4 * (q + 1) = 4 * q + 3 + 1 := by ring
    have m := mask_bit ⟨q, by omega⟩ 3
    have m' : (2004318071#32).getLsbD (4 * q + 3) = false := m
    rw [e, BitVec.carry_succ, BitVec.getLsbD_and, m']
    simp [Bool.atLeastTwo]

/-- Adding seven to a magnitude carries into its sign's place unless it is zero. -/
theorem carry_nonzero (w : BitVec 32) (q : Fin 8) : ((w &&& 2004318071#32) + 2004318071#32).getLsbD (4 * q.val + 3)
    = (w.getLsbD (4 * q.val) || w.getLsbD (4 * q.val + 1) || w.getLsbD (4 * q.val + 2)) := by
  have m0 : (2004318071#32).getLsbD (4 * q.val) = true := mask_bit q 0
  have m1 : (2004318071#32).getLsbD (4 * q.val + 1) = true := mask_bit q 1
  have m2 : (2004318071#32).getLsbD (4 * q.val + 2) = true := mask_bit q 2
  have m3 : (2004318071#32).getLsbD (4 * q.val + 3) = false := mask_bit q 3
  have e : 4 * q.val + 3 = 4 * q.val + 2 + 1 := rfl
  have e2 : 4 * q.val + 2 = 4 * q.val + 1 + 1 := rfl
  rw [BitVec.getLsbD_add (by omega), BitVec.getLsbD_and, m3, e, BitVec.carry_succ, e2, BitVec.carry_succ, BitVec.carry_succ, carry_none w q.val q.isLt]
  simp only [BitVec.getLsbD_and, m0, m1, ← e2, m2]
  cases w.getLsbD (4 * q.val) <;> cases w.getLsbD (4 * q.val + 1) <;> cases w.getLsbD (4 * q.val + 2) <;> simp [Bool.atLeastTwo]

/-- A word of raw codes with its minus zeros made zero. -/
theorem unsign_bit (w : BitVec 32) (q : Fin 8) (k : Fin 8) (s : Bool) (h : ∀ j : Fin 4, w.getLsbD (4 * q.val + j.val) = (rawNib k.val s).getLsbD j.val)
    (j : Fin 4) :
    (w &&& ((((w &&& 2004318071#32) + 2004318071#32) &&& 2290649224#32) ||| 2004318071#32)).getLsbD (4 * q.val + j.val) = (nib k.val s).getLsbD j.val := by
  rw [nib_bit, BitVec.getLsbD_and, BitVec.getLsbD_or, BitVec.getLsbD_and, mask_bit, top_bit, h]
  by_cases e : j.val = 3
  · rw [e, carry_nonzero]
    have h0 := h 0
    have h1 := h 1
    have h2 := h 2
    simp only [Fin.val_zero, Nat.add_zero, Fin.val_one] at h0 h1
    have h2' : w.getLsbD (4 * q.val + 2) = (rawNib k.val s).getLsbD 2 := h2
    rw [h0, h1, h2']
    simp
  · simp [e]

/-- Eight raw codes gathered in a word. -/
theorem gather_bit (c : Fin 4 → BitVec 32) (a b : Fin 4 → BitVec 4) (h : ∀ n, c n = (a n).setWidth 32 ||| ((b n).setWidth 32 <<< (16 : ℕ)))
    (n : Fin 4) (p : Fin 2) (j : Fin 4) :
    (c 0 ||| (c 1 <<< (4 : ℕ)) ||| (c 2 <<< (8 : ℕ)) ||| (c 3 <<< (12 : ℕ))).getLsbD (4 * (n.val + 4 * p.val) + j.val)
      = (if p.val = 0 then a n else b n).getLsbD j.val := by
  rw [h 0, h 1, h 2, h 3]
  fin_cases n <;> fin_cases p <;> fin_cases j <;> simp

end Cert.Math

end
-- ==== Proof.Math.Spec.lean ====
/- What the quantisation of one block of 32 numbers is, in real numbers. -/
module

public import proofs.«01_k».proof.Proof.Math.Words

@[expose] public section

noncomputable section

namespace Cert.Math

/-- The largest magnitude of a block. -/
def maxAbs (s : Fin 32 → ℝ) : ℝ := Finset.univ.sup' ⟨0, Finset.mem_univ _⟩ fun i => |s i|

theorem maxAbs_le (s : Fin 32 → ℝ) (b : ℝ) : maxAbs s ≤ b ↔ ∀ i, |s i| ≤ b := by
  exact (Finset.sup'_le_iff _ _).trans ⟨fun h i => h i (Finset.mem_univ _), fun h i _ => h i⟩

theorem le_maxAbs (s : Fin 32 → ℝ) (i : Fin 32) : |s i| ≤ maxAbs s := (maxAbs_le s _).mp le_rfl i

theorem maxAbs_nonneg (s : Fin 32 → ℝ) : 0 ≤ maxAbs s := (abs_nonneg _).trans (le_maxAbs s 0)

/-- The largest magnitude is the number with the same upper bounds. -/
theorem eq_maxAbs (s : Fin 32 → ℝ) (M : ℝ) (h : ∀ b, M ≤ b ↔ ∀ i, |s i| ≤ b) : M = maxAbs s :=
  eq_of_forall_ge_iff fun b => (h b).trans (maxAbs_le s b).symm

/-- The block's exponent, biased by 126. -/
def efOf (s : Fin 32 → ℝ) : ℕ := if maxAbs s = 0 then 126 else expCount (maxAbs s * nu * kappa)

/-- The block's scaled magnitudes. -/
def mOf (s : Fin 32 → ℝ) (i : Fin 32) : ℝ := |s i| * ((2 : ℝ) ^ ((126 : ℤ) - efOf s) * nu)

theorem efOf_le (s : Fin 32 → ℝ) (h : ∀ i, |s i| ≤ 2 ^ (125 : ℤ)) : efOf s ≤ 252 := by
  unfold efOf
  split_ifs
  · norm_num
  · by_contra hn
    have h252 : 252 < expCount (maxAbs s * nu * kappa) := by omega
    have a := (lt_expCount _ (by norm_num)).mp h252
    have b := (maxAbs_le s _).mpr h
    have c : maxAbs s * nu * kappa ≤ 2 ^ (125 : ℤ) := by
      have e1 : maxAbs s * nu ≤ 2 ^ (125 : ℤ) :=
        (mul_le_of_le_one_right (maxAbs_nonneg s) nu_lt.le).trans b
      exact (mul_le_of_le_one_right (mul_nonneg (maxAbs_nonneg s) nu_pos.le) kappa_lt.le).trans e1
    have d : pow2 252 = 2 ^ (126 : ℤ) := by unfold pow2; norm_num
    rw [d] at a
    have e : (2 : ℝ) ^ (125 : ℤ) < 2 ^ (126 : ℤ) := zpow_lt_zpow_right₀ (by norm_num) (by norm_num)
    linarith

theorem mOf_nonneg (s : Fin 32 → ℝ) (i : Fin 32) : 0 ≤ mOf s i :=
  mul_nonneg (abs_nonneg _) (mul_nonneg (by positivity) nu_pos.le)

/-- A scaled magnitude is below six. -/
theorem mOf_lt (s : Fin 32 → ℝ) (h : ∀ i, |s i| ≤ 2 ^ (125 : ℤ)) (i : Fin 32) : mOf s i < 6 := by
  unfold mOf
  by_cases h0 : maxAbs s = 0
  · have : |s i| = 0 := le_antisymm (h0 ▸ le_maxAbs s i) (abs_nonneg _)
    rw [this]; norm_num
  · have hE := efOf_le s h
    have e : efOf s = expCount (maxAbs s * nu * kappa) := by unfold efOf; rw [if_neg h0]
    have f := lt_pow2_expCount (maxAbs s * nu * kappa) (by omega)
    rw [← e] at f
    unfold pow2 at f
    have p : (0 : ℝ) < 2 ^ ((126 : ℤ) - efOf s) := by positivity
    have q : (2 : ℝ) ^ ((efOf s : ℤ) - 126) * 2 ^ ((126 : ℤ) - efOf s) = 1 := by
      rw [← zpow_add₀ (by norm_num)]; simp
    have a : maxAbs s * nu * kappa * 2 ^ ((126 : ℤ) - efOf s) < 1 := by
      calc _ < (2 : ℝ) ^ ((efOf s : ℤ) - 126) * 2 ^ ((126 : ℤ) - efOf s) := mul_lt_mul_of_pos_right f p
        _ = 1 := q
    have b : |s i| * (2 ^ ((126 : ℤ) - efOf s) * nu) ≤ maxAbs s * (2 ^ ((126 : ℤ) - efOf s) * nu) :=
      mul_le_mul_of_nonneg_right (le_maxAbs s i) (mul_nonneg p.le nu_pos.le)
    have c : 0 ≤ maxAbs s * (2 ^ ((126 : ℤ) - efOf s) * nu) := mul_nonneg (maxAbs_nonneg s) (mul_nonneg p.le nu_pos.le)
    have d : maxAbs s * (2 ^ ((126 : ℤ) - efOf s) * nu) * kappa < 1 := by
      have : maxAbs s * (2 ^ ((126 : ℤ) - efOf s) * nu) * kappa = maxAbs s * nu * kappa * 2 ^ ((126 : ℤ) - efOf s) := by ring
      rw [this]; exact a
    have g := sixth_lt_kappa
    nlinarith [kappa_pos]

theorem nearK_lt (m : ℝ) : nearK m < 8 := by unfold nearK; split_ifs <;> norm_num

theorem randK_lt (m r : ℝ) (h0 : 0 ≤ m) (h6 : m < 6) : randK m r < 8 := by
  rcases grid_cases m h0 h6 with ⟨_, k, _, _⟩ | ⟨_, _, k, _, _⟩ | ⟨_, _, k, _, _⟩ | ⟨_, _, k, _, _⟩ | ⟨_, _, k, _, _⟩
      | ⟨_, _, k, _, _⟩ | ⟨_, k, _, _⟩ <;> unfold randK <;> rw [k] <;> split_ifs <;> norm_num

end Cert.Math

end
-- ==== Proof.Math.Rotate.lean ====
/- The rotation of 32 numbers by a signed Hadamard matrix. -/
module

public import proofs.«01_k».proof.Proof.Math.Spec

@[expose] public section

noncomputable section

namespace Cert.Math

open Idealize.ShloMosaic

/-- The bits of a word below 32 folded into the lowest. -/
def fold5 (p : BitVec 32) : BitVec 32 :=
  let p := p ^^^ p.sshiftRight' 4#32
  let p := p ^^^ p.sshiftRight' 2#32
  p ^^^ p.sshiftRight' 1#32

/-- Entry `i`, `j` of the Hadamard matrix. -/
def hadW (i j : ℕ) : BitVec 32 := 1#32 - 2#32 * (fold5 (BitVec.ofNat 32 i &&& BitVec.ofNat 32 j) &&& 1#32)
def had (i j : ℕ) : ℝ := ((hadW i j).toInt : ℝ)

set_option maxRecDepth 20000 in
theorem hadW_unit : ∀ i j : Fin 32, (hadW i.val j.val).toInt = 1 ∨ (hadW i.val j.val).toInt = -1 := by decide

theorem abs_had (i j : Fin 32) : |had i.val j.val| = 1 := by
  unfold had
  rcases hadW_unit i j with h | h <;> rw [h] <;> norm_num

/-- The rotated numbers. -/
def rotR (sg x : Fin 32 → ℝ) (i : Fin 32) : ℝ := ∑ j : Fin 32, had i.val j.val * sg j * x j

theorem rotR_le (sg x : Fin 32 → ℝ) (hs : ∀ j, |sg j| ≤ 2 ^ (60 : ℤ)) (hx : ∀ j, |x j| ≤ 2 ^ (60 : ℤ)) (i : Fin 32) :
    |rotR sg x i| ≤ 2 ^ (125 : ℤ) := by
  unfold rotR
  refine (Finset.abs_sum_le_sum_abs _ _).trans ?_
  have e : ∀ j ∈ (Finset.univ : Finset (Fin 32)), |had i.val j.val * sg j * x j| ≤ 2 ^ (60 : ℤ) * 2 ^ (60 : ℤ) := by
    intro j _
    rw [abs_mul, abs_mul, abs_had, one_mul]
    exact mul_le_mul (hs j) (hx j) (abs_nonneg _) (by positivity)
  refine (Finset.sum_le_card_nsmul _ _ _ e).trans (le_of_eq ?_)
  simp
  norm_num

/-- A sum of reals as extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over 128 of which only one block of 32 counts. -/
theorem sum_block (g : Fin 4) (f : Fin 128 → ℝ) :
    (∑ p : Fin 128, if p.val / 32 = g.val then f p else 0) = ∑ j : Fin 32, f ⟨32 * g.val + j.val, by omega⟩ := by
  rw [← Finset.sum_filter]
  symm
  refine Finset.sum_bij (fun j _ => ⟨32 * g.val + j.val, by omega⟩) ?_ ?_ ?_ ?_
  · intro j _
    simp only [Finset.mem_filter, Finset.mem_univ, true_and]
    omega
  · intro a _ b _ h
    have := congrArg Fin.val h
    simp only at this
    exact Fin.ext (by omega)
  · intro p hp
    simp only [Finset.mem_filter, Finset.mem_univ, true_and] at hp
    exact ⟨⟨p.val % 32, by omega⟩, Finset.mem_univ _, Fin.ext (by simp only; omega)⟩
  · intro j _; rfl

end Cert.Math

end
-- ==== Proof.Math.Column.lean ====
/- A column of an operand on the real numbers: its rotated blocks, and the code, the sign and the exponent of each of its tokens. -/
module

public import proofs.«01_k».proof.Proof.Math.Rotate
public import proofs.«01_k».proof.Proof.Math.Spec

@[expose] public section

noncomputable section

namespace Cert.Math

/-- The eight magnitudes. -/
def grid (k : ℕ) : ℝ := if k = 0 then 0 else if k = 1 then 0.5 else if k = 2 then 1 else if k = 3 then 1.5 else if k = 4 then 2
  else if k = 5 then 3 else if k = 6 then 4 else 6

/-- A quantised number: its magnitude, its sign and its block's exponent. -/
def numOf (k : ℕ) (neg : Bool) (ef : ℕ) : ℝ := grid k * 2 ^ ((ef : ℤ) - 126) * (if neg then -1 else 1)

variable (sg : Fin 32 → ℝ) (x : Fin 1920 → ℝ)

/-- The rotated block `g` of a column. -/
def rotBlock (g : Fin 60) : Fin 32 → ℝ := rotR sg (fun j => x ⟨32 * g.val + j.val, by omega⟩)

/-- The block a token lies in, and its place there. -/
def blk (t : Fin 1920) : Fin 60 := ⟨t.val / 32, by omega⟩
def mem (t : Fin 1920) : Fin 32 := ⟨t.val % 32, by omega⟩

/-- A token's scaled magnitude. -/
def magAt (t : Fin 1920) : ℝ := mOf (rotBlock sg x (blk t)) (mem t)

/-- Whether a token's rotated number is negative. -/
def negAt (t : Fin 1920) : Bool := decide (rotBlock sg x (blk t) (mem t) < 0)

/-- The exponent of a block. -/
def exAt (g : Fin 60) : ℕ := efOf (rotBlock sg x g)

/-- A token's code, rounded to nearest. -/
def nearAt (t : Fin 1920) : Fin 8 := ⟨nearK (magAt sg x t), nearK_lt _⟩

/-- A token's code, rounded by a random byte. -/
def randAt (u : Fin 1920 → BitVec 8) (t : Fin 1920) : Fin 8 :=
  Fin.ofNat 8 (randK (magAt sg x t) ((((u t).toNat : ℝ) + 1 / 2) * (1 / 256)))

/-- A token's quantised number, of its code. -/
def numAt (K : Fin 1920 → Fin 8) (t : Fin 1920) : ℝ := numOf (K t).val (negAt sg x t) (exAt sg x (blk t))

theorem rotBlock_le (hs : ∀ j, |sg j| ≤ 2 ^ (60 : ℤ)) (hx : ∀ t, |x t| ≤ 2 ^ (60 : ℤ)) (g : Fin 60) (i : Fin 32) :
    |rotBlock sg x g i| ≤ 2 ^ (125 : ℤ) := rotR_le _ _ hs (fun _ => hx _) i

theorem exAt_le (hs : ∀ j, |sg j| ≤ 2 ^ (60 : ℤ)) (hx : ∀ t, |x t| ≤ 2 ^ (60 : ℤ)) (g : Fin 60) : exAt sg x g ≤ 252 :=
  efOf_le _ (rotBlock_le sg x hs hx g)

theorem magAt_nonneg (t : Fin 1920) : 0 ≤ magAt sg x t := mOf_nonneg _ _

theorem magAt_lt (hs : ∀ j, |sg j| ≤ 2 ^ (60 : ℤ)) (hx : ∀ t, |x t| ≤ 2 ^ (60 : ℤ)) (t : Fin 1920) : magAt sg x t < 6 :=
  mOf_lt _ (rotBlock_le sg x hs hx _) _

theorem randAt_val (hs : ∀ j, |sg j| ≤ 2 ^ (60 : ℤ)) (hx : ∀ t, |x t| ≤ 2 ^ (60 : ℤ)) (u : Fin 1920 → BitVec 8) (t : Fin 1920) :
    (randAt sg x u t).val = randK (magAt sg x t) ((((u t).toNat : ℝ) + 1 / 2) * (1 / 256)) :=
  Nat.mod_eq_of_lt (randK_lt _ _ (magAt_nonneg sg x t) (magAt_lt sg x hs hx t))

/-- An entry of the weight gradient: a column of the second operand with its random bytes against a column of the first. -/
def gradOf (y : Fin 1920 → ℝ) (u : Fin 1920 → BitVec 8) : ℝ := ∑ t, numAt sg y (randAt sg y u) t * numAt sg x (nearAt sg x) t

end Cert.Math

end
-- ==== Proof.Value.Tile.lean ====
/- One element of the kernel's tiles on the extended reals: exponent, scaled magnitude, rounded word. -/
module

public import proofs.«01_k».proof.Proof.Math.Words
public import proofs.«01_k».proof.Proof.Body.Values
public import Idealize.ShloMosaic.Lib.Pointwise
public import Idealize.ShloMosaic.Lib.IdealHost
public import Idealize.ShloMosaic.Lib.MatmulPlain

@[expose] public section

noncomputable section

namespace Cert.KernelIdeal.Body

open Idealize.ShloMosaic Idealize.SL.Sem
open Cert.KernelIdeal Facts₀ Facts Cert.Math

variable [Facts]

theorem fin255_card (p : ℕ → Prop) [DecidablePred p] (h : ¬ p 254) :
    (Finset.univ.filter fun k : Fin 255 => p k.val).card = (Finset.univ.filter fun k : Fin 254 => p k.val).card := by
  symm
  refine Finset.card_bij (fun k _ => ⟨k.val, by omega⟩) ?_ ?_ ?_
  · intro k hk
    simpa using hk
  · intro a _ b _ h
    exact Fin.ext (by simpa using h)
  · intro b hb
    simp only [Finset.mem_filter, Finset.mem_univ, true_and] at hb
    have : b.val ≠ 254 := fun e => h (e ▸ hb)
    exact ⟨⟨b.val, by omega⟩, by simpa using hb, rfl⟩

/-- Power `k` of the table. -/
theorem powers_at (k : Fin 255) (r : Fin 8) (l : Fin 128) : powers (F := Ideal) (ix3 k r l) =
    Ideal.ofBits .f32 ((BitVec.ofNat 32 (k.val + 1) <<< (23 : ℕ) : BitVec 32)) := by
  have e : ∀ k : Fin 255, IntOp.shli .vector (IntOp.addi (BitVec.ofNat 32 k.val) 1#32) 23#32 = BitVec.ofNat 32 (k.val + 1) <<< (23 : ℕ) := by
    decide
  rw [← e k]
  pointwise [powers]

theorem ge_powers (f : ℝ) (k : Fin 255) : Ideal.cmp .oge (f : EReal) (Ideal.ofBits .f32 ((BitVec.ofNat 32 (k.val + 1) <<< (23 : ℕ) : BitVec 32))) = 1#1
    ↔ (k.val < 254 ∧ pow2 k.val ≤ f) := by
  by_cases h : k.val < 254
  · rw [ofBits_shift _ (by omega) (by omega)]
    have e : (((k.val + 1 : ℕ) : ℤ) - 127) = (k.val : ℤ) - 126 := by push_cast; ring
    rw [e]
    simp only [Ideal.cmp, EReal.coe_le_coe_iff, h, true_and]
    show BitVec.ofBool (decide (pow2 k.val ≤ f)) = 1#1 ↔ _
    by_cases q : pow2 k.val ≤ f <;> simp [q]
  · have : k.val + 1 = 255 := by omega
    rw [this, ofBits_shift_top]
    simp [Ideal.cmp, h]

theorem lift_row (k : Fin 255) (r : Fin 8) (l : Fin 128) : (reduces_S255x8x128_S8x128).lift (ix2 r l) k = ix3 k r l := by
  funext a
  match a with
  | ⟨0, _⟩ => rfl
  | ⟨1, _⟩ => rfl
  | ⟨2, _⟩ => rfl

/-- The exponent of a real. -/
theorem expo_at (x : FVec Ideal S8x128 .f32) (r : Fin 8) (l : Fin 128) (f : ℝ) (h : x (ix2 r l) = (f : EReal)) :
    expo x (ix2 r l) = BitVec.ofNat 32 (expCount f) := by
  classical
  unfold expo
  refine (multiReductionI_eq_fold _ _ _ _ _ _).trans ?_
  rw [Shape.Reduces.fold_filter_drop_single]
  have e : ∀ k : Fin 255, (extui 32 (cmpf .oge (broadcastTo S255x8x128 (shapeCast S1x8x128 x shapeCasts_S8x128_S1x8x128)
      broadcasts_S1x8x128_S255x8x128) powers) natLt_1_32) ((reduces_S255x8x128_S8x128).lift (ix2 r l) k)
      = (Ideal.cmp .oge (x (ix2 r l)) (powers (F := Ideal) (ix3 k r l))).setWidth 32 := by
    intro k
    rw [lift_row]
    pointwise
  refine (Finset.fold_congr (g := fun k : Fin 255 => (Ideal.cmp .oge (x (ix2 r l)) (powers (F := Ideal) (ix3 k r l))).setWidth 32)
    (fun k _ => e k)).trans ?_
  refine (IndicatorCount.fold_addi_setWidth_eq_card (w := 32)
    (fun k : Fin 255 => Ideal.cmp .oge (x (ix2 r l)) (powers (F := Ideal) (ix3 k r l))) Finset.univ).trans ?_
  congr 1
  have c := card_pow2 f
  have d := fin255_card (fun k => k < 254 ∧ pow2 k ≤ f) (by omega)
  rw [← c]
  refine Eq.trans ?_ (d.trans ?_)
  · congr 1
    ext k
    simp only [Finset.mem_filter, Finset.mem_univ, true_and]
    rw [h, powers_at, ge_powers]
  · congr 1
    ext k
    simp only [Finset.mem_filter, Finset.mem_univ, true_and]
    exact and_iff_right k.isLt

/-- The lifted magnitude of a real. -/
theorem lifted_at (s inv : FVec Ideal S8x128 .f32) (j : S8x128.Idx) (a b : ℝ) (hs : s j = (a : EReal)) (hi : inv j = (b : EReal)) :
    lifted s inv j = ((|a| * b + max (|a| * b) 1 : ℝ) : EReal) := by
  have e : lifted s inv j = max (s j) (-(s j)) * inv j + max (max (s j) (-(s j)) * inv j) (Ideal.ofBits .f32 0x3F800000#32) := rfl
  rw [e, hs, hi, Ideal.ofBits_one_f32, ← coe_abs, ← EReal.coe_mul, ← EReal.coe_one, ← coe_max, ← EReal.coe_add]

/-- The mantissa of a lifted magnitude. -/
theorem mantissa_at (y : FVec Ideal S8x128 .f32) (r : Fin 8) (l : Fin 128) (m : ℝ) (h0 : 0 ≤ m) (h6 : m < 6)
    (hy : y (ix2 r l) = ((m + max m 1 : ℝ) : EReal)) : mantissa y (ix2 r l) = (mant m : EReal) := by
  have e : mantissa y (ix2 r l) = y (ix2 r l) * Ideal.ofBits .f32 (IntOp.shli .vector (255#32 - expo y (ix2 r l)) 23#32) := rfl
  have hE : 127 ≤ expCount (m + max m 1) ∧ expCount (m + max m 1) ≤ 130 := by
    rcases lifted_cases m h0 h6 with ⟨a, b, c⟩ | ⟨a, a', b, c⟩ | ⟨a, a', b, c⟩ | ⟨a, a', b, c⟩ <;> omega
  have w : IntOp.shli .vector (255#32 - BitVec.ofNat 32 (expCount (m + max m 1))) 23#32
      = BitVec.ofNat 32 (255 - expCount (m + max m 1)) <<< (23 : ℕ) := by
    have : ∀ n : Fin 4, IntOp.shli .vector (255#32 - BitVec.ofNat 32 (127 + n.val)) 23#32 = BitVec.ofNat 32 (255 - (127 + n.val)) <<< (23 : ℕ) := by decide
    have t := this ⟨expCount (m + max m 1) - 127, by omega⟩
    simp only at t
    rwa [show 127 + (expCount (m + max m 1) - 127) = expCount (m + max m 1) by omega] at t
  rw [e, expo_at y r l _ hy, w, hy, ofBits_shift _ (by omega) (by omega), ← EReal.coe_mul]
  rfl

/-- The word of a rounded number. -/
theorem signedWord_at (s y n : FVec Ideal S8x128 .f32) (r : Fin 8) (l : Fin 128) (a m : ℝ) (N : ℤ) (k : ℕ) (hk : k < 8)
    (hs : s (ix2 r l) = (a : EReal)) (hy : y (ix2 r l) = ((m + max m 1 : ℝ) : EReal)) (hn : n (ix2 r l) = ((N : ℝ) : EReal))
    (hN : 0 ≤ N ∧ N ≤ 4) (hw : 2 * (expCount (m + max m 1) : ℤ) - 2 + N = 254 + k) :
    signedWord s y n (ix2 r l) = wordOf k (decide (a < 0)) := by
  have e : signedWord s y n (ix2 r l) = IntOp.minsi (IntOp.shli .vector (expo y (ix2 r l) + expo y (ix2 r l) - 2#32
      + Ideal.fptosi 32 (n (ix2 r l))) 22#32) 1094713344#32
      ||| IntOp.shli .vector ((Ideal.cmp .olt (s (ix2 r l)) (Ideal.ofBits .f32 0x00000000#32)).setWidth 32) 31#32 := rfl
  have f : Ideal.fptosi 32 ((N : ℝ) : EReal) = BitVec.ofInt 32 N := by
    unfold Ideal.fptosi
    rw [Ideal.toIntClamped_coe, if_pos (by exact_mod_cast hN.1), Int.floor_intCast]
    congr 1
    norm_num
    omega
  have g : IntOp.shli .vector ((Ideal.cmp .olt (a : EReal) (Ideal.ofBits .f32 0x00000000#32)).setWidth 32) 31#32
      = if decide (a < 0) then 0x80000000#32 else 0#32 := by
    have z : Ideal.ofBits .f32 0x00000000#32 = ((0 : ℝ) : EReal) := by simp [Ideal.ofBits, Ideal.ieee]
    rw [z]
    simp only [Ideal.cmp, EReal.coe_lt_coe_iff]
    by_cases q : a < 0 <;> simp only [q, decide_true, decide_false] <;> decide
  rw [e, expo_at y r l _ hy, hn, f, word_add _ N k hw, hs, g]
  have c := min_cut ⟨k, hk⟩
  simp only at c
  have d : IntOp.shli .vector (BitVec.ofNat 32 (254 + k)) 22#32 = BitVec.ofNat 32 (254 + k) <<< (22 : ℕ) := rfl
  rw [d, c]
  rfl

end Cert.KernelIdeal.Body

end
-- ==== Proof.Value.Block.lean ====
/- One block of the kernel's tiles on the extended reals: its largest magnitude, its exponent, its words. -/
module

public import proofs.«01_k».proof.Proof.Math.Spec
public import proofs.«01_k».proof.Proof.Value.Tile

@[expose] public section

noncomputable section

namespace Cert.KernelIdeal.Body

open Idealize.ShloMosaic Idealize.SL.Sem
open Cert.KernelIdeal Facts₀ Facts Cert.Math

variable [Facts]

/-- The tiles `s` hold the blocks `B` of a lane: row `r`, tile `v` is member `16 (r mod 2) + v` of block `r / 2`. -/
def Holds (s : Fin 16 → FVec Ideal S8x128 .f32) (B : Fin 4 → Fin 128 → Fin 32 → ℝ) : Prop :=
  ∀ (v : Fin 16) (r : Fin 8) (l : Fin 128),
    s v (ix2 r l) = (B ⟨r.val / 2, by omega⟩ l ⟨16 * (r.val % 2) + v.val, by omega⟩ : EReal)

theorem foldl_max (L : List (Fin 16)) (s : Fin 16 → FVec Ideal S8x128 .f32) (t : Fin 16 → ℝ) (j : S8x128.Idx)
    (h : ∀ v, s v j = (t v : EReal)) (x : FVec Ideal S8x128 .f32) (a : ℝ) (hx : x j = (a : EReal)) :
    L.foldl (fun m v => maximumf m (absf (s v))) x j = ((L.foldl (fun m v => max m |t v|) a : ℝ) : EReal) := by
  induction L generalizing x a with
  | nil => exact hx
  | cons v L ih =>
    refine ih _ _ ?_
    show max (x j) (max (s v j) (-(s v j))) = _
    rw [hx, h, ← coe_abs, ← coe_max]

theorem foldl_max_le (L : List (Fin 16)) (t : Fin 16 → ℝ) (a b : ℝ) :
    L.foldl (fun m v => max m |t v|) a ≤ b ↔ a ≤ b ∧ ∀ v ∈ L, |t v| ≤ b := by
  induction L generalizing a with
  | nil => simp
  | cons v L ih =>
    rw [List.foldl_cons, ih, max_le_iff, List.forall_mem_cons, and_assoc]

theorem mem_tail : ∀ v : Fin 16, v = 0 ∨ v ∈ ([1, 2, 3, 4, 5, 6, 7, 8, 9, 10, 11, 12, 13, 14, 15] : List (Fin 16)) := by decide

/-- The largest magnitude of sixteen tiles. -/
theorem tileMax_at (s : Fin 16 → FVec Ideal S8x128 .f32) (t : Fin 16 → ℝ) (j : S8x128.Idx) (h : ∀ v, s v j = (t v : EReal)) :
    ∃ M : ℝ, tileMax s j = (M : EReal) ∧ ∀ b, M ≤ b ↔ ∀ v, |t v| ≤ b := by
  refine ⟨_, foldl_max _ s t j h (absf (s 0)) |t 0| ?_, fun b => ?_⟩
  · show max (s 0 j) (-(s 0 j)) = _
    rw [h, ← coe_abs]
  · rw [foldl_max_le]
    constructor
    · rintro ⟨a, c⟩ v
      rcases mem_tail v with rfl | q
      · exact a
      · exact c v q
    · exact fun q => ⟨q 0, fun v _ => q v⟩

theorem row_parity : ∀ r : Fin 8, IntOp.cmpi .eq (IntOp.andi (BitVec.ofNat 32 r.val) 1#32) 1#32 = BitVec.ofBool (r.val % 2 = 1) := by decide

theorem rotate_at (m : FVec Ideal S8x128 .f32) (n : BitVec 32) (r : Fin 8) (l : Fin 128) :
    dynamicRotate 0 n none m rotates_S8x128_d0 (ix2 r l) = m (ix2 ⟨(r.val + 8 - n.toNat % 8) % 8, by omega⟩ l) := by
  unfold dynamicRotate
  refine congrArg m (funext fun b => ?_)
  match b with
  | ⟨0, _⟩ => rfl
  | ⟨1, _⟩ => rfl

/-- The other row of a row's pair. -/
def other (r : Fin 8) : Fin 8 := if r.val % 2 = 1 then ⟨r.val - 1, by omega⟩ else ⟨(r.val + 1) % 8, by omega⟩

/-- The larger number of a pair of neighbouring rows. -/
theorem pairMax_at (m : FVec Ideal S8x128 .f32) (r : Fin 8) (l : Fin 128) :
    pairMax m (ix2 r l) = max (m (ix2 r l)) (m (ix2 (other r) l)) := by
  have e : pairMax m (ix2 r l) = max (m (ix2 r l)) (if IntOp.cmpi .eq (IntOp.andi (BitVec.ofNat 32 r.val) 1#32) 1#32 = 1#1
      then dynamicRotate 0 1#32 none m rotates_S8x128_d0 (ix2 r l) else dynamicRotate 0 7#32 none m rotates_S8x128_d0 (ix2 r l)) := by
    pointwise [pairMax]
    rfl
  rw [e, row_parity, rotate_at, rotate_at]
  unfold other
  by_cases q : r.val % 2 = 1
  · simp only [q, decide_true, if_true]
    refine congrArg (max _) (congrArg (fun q => m (ix2 q l)) (Fin.ext ?_))
    show (r.val + 8 - 1 % 8) % 8 = r.val - 1
    omega
  · simp only [q, decide_false, if_false]
    refine congrArg (max _) (congrArg (fun q => m (ix2 q l)) (Fin.ext ?_))
    show (r.val + 8 - 7 % 8) % 8 = (r.val + 1) % 8
    omega

/-- A block's members seen from one of its two rows. -/
theorem block_members (B : Fin 4 → Fin 128 → Fin 32 → ℝ) (r : Fin 8) (l : Fin 128) (p : ℝ → Prop) :
    ((∀ v : Fin 16, p (B ⟨r.val / 2, by omega⟩ l ⟨16 * (r.val % 2) + v.val, by omega⟩))
      ∧ ∀ v : Fin 16, p (B ⟨(other r).val / 2, by omega⟩ l ⟨16 * ((other r).val % 2) + v.val, by omega⟩))
    ↔ ∀ i : Fin 32, p (B ⟨r.val / 2, by omega⟩ l i) := by
  have hv : (other r).val = if r.val % 2 = 1 then r.val - 1 else r.val + 1 := by
    unfold other; split_ifs <;> simp <;> omega
  have hd : (⟨(other r).val / 2, by omega⟩ : Fin 4) = ⟨r.val / 2, by omega⟩ := Fin.ext (by simp only [hv]; split_ifs <;> omega)
  have hm : (other r).val % 2 = 1 - r.val % 2 := by rw [hv]; split_ifs <;> omega
  rw [hd]
  constructor
  · rintro ⟨a, b⟩ i
    by_cases q : i.val / 16 = r.val % 2
    · have := a ⟨i.val % 16, by omega⟩
      rwa [show (⟨16 * (r.val % 2) + i.val % 16, by omega⟩ : Fin 32) = i from Fin.ext (by simp only; omega)] at this
    · have := b ⟨i.val % 16, by omega⟩
      rwa [show (⟨16 * ((other r).val % 2) + i.val % 16, by omega⟩ : Fin 32) = i from Fin.ext (by simp only [hm]; omega)] at this
  · exact fun a => ⟨fun v => a _, fun v => a _⟩

/-- The largest magnitude of a block, in both its rows. -/
theorem blockMax_at (s : Fin 16 → FVec Ideal S8x128 .f32) (B : Fin 4 → Fin 128 → Fin 32 → ℝ) (h : Holds s B) (r : Fin 8) (l : Fin 128) :
    pairMax (tileMax s) (ix2 r l) = (maxAbs (B ⟨r.val / 2, by omega⟩ l) : EReal) := by
  obtain ⟨M, a, b⟩ := tileMax_at s _ (ix2 r l) (fun v => h v r l)
  obtain ⟨M', a', b'⟩ := tileMax_at s _ (ix2 (other r) l) (fun v => h v (other r) l)
  rw [pairMax_at, a, a', ← coe_max]
  congr 1
  refine eq_maxAbs _ _ fun c => ?_
  rw [max_le_iff, b, b']
  exact block_members B r l (fun x => |x| ≤ c)

/-- The block's exponent. -/
theorem blockExp_at (s : Fin 16 → FVec Ideal S8x128 .f32) (B : Fin 4 → Fin 128 → Fin 32 → ℝ) (h : Holds s B) (r : Fin 8) (l : Fin 128) :
    blockExp s (ix2 r l) = BitVec.ofNat 32 (efOf (B ⟨r.val / 2, by omega⟩ l)) := by
  set M := maxAbs (B ⟨r.val / 2, by omega⟩ l) with hM
  have f : sixth s (ix2 r l) = ((M * nu * kappa : ℝ) : EReal) := by
    have e : sixth s (ix2 r l) = pairMax (tileMax s) (ix2 r l) * Ideal.ofBits .f32 0x3E3504F3#32 * Ideal.ofBits .f32 0x3E2AAAAB#32 := rfl
    rw [e, blockMax_at s B h, ofBits_nu, ofBits_kappa, ← EReal.coe_mul, ← EReal.coe_mul]
  have e : blockExp s (ix2 r l) = if Ideal.cmp .oeq (sixth s (ix2 r l)) (Ideal.ofBits .f32 0x00000000#32) = 1#1 then 126#32
      else expo (sixth s) (ix2 r l) := by
    pointwise [blockExp]
    by_cases q : sixth s (ix2 r l) = 0 <;> simp [q]
  have z : Ideal.ofBits .f32 0x00000000#32 = ((0 : ℝ) : EReal) := by simp [Ideal.ofBits, Ideal.ieee]
  rw [e, expo_at _ r l _ f, f, z]
  simp only [Ideal.cmp, EReal.coe_eq_coe_iff]
  unfold efOf
  by_cases q : M = 0
  · rw [if_pos (by rw [q]; simp), if_pos (hM ▸ q)]
  · have : M * nu * kappa ≠ 0 := mul_ne_zero (mul_ne_zero q nu_pos.ne') kappa_pos.ne'
    rw [if_neg (by simp [this]), if_neg (hM ▸ q)]

/-- What a block is multiplied by. -/
theorem inv_at (ef : IVec S8x128 32) (j : S8x128.Idx) (n : ℕ) (hn : n ≤ 252) (h : ef j = BitVec.ofNat 32 n) :
    inv (F := Ideal) ef j = ((2 ^ ((126 : ℤ) - n) * nu : ℝ) : EReal) := by
  have e : inv (F := Ideal) ef j = Ideal.ofBits .f32 (IntOp.shli .vector (253#32 - ef j) 23#32) * Ideal.ofBits .f32 0x3E3504F3#32 := rfl
  have w : 253#32 - BitVec.ofNat 32 n = BitVec.ofNat 32 (253 - n) := by
    apply BitVec.eq_of_toNat_eq
    simp [BitVec.toNat_sub]
    omega
  have d : IntOp.shli .vector (BitVec.ofNat 32 (253 - n)) 23#32 = BitVec.ofNat 32 (253 - n) <<< (23 : ℕ) := rfl
  have x : (((253 - n : ℕ) : ℤ) - 127) = 126 - n := by omega
  rw [e, h, w, d, ofBits_shift _ (by omega) (by omega), ofBits_nu, ← EReal.coe_mul, x]

/-- The words of a block rounded to nearest. -/
theorem nearestWords_at (s : Fin 16 → FVec Ideal S8x128 .f32) (B : Fin 4 → Fin 128 → Fin 32 → ℝ) (h : Holds s B)
    (hB : ∀ k l i, |B k l i| ≤ 2 ^ (125 : ℤ)) (v : Fin 16) (r : Fin 8) (l : Fin 128) :
    nearestWords s v (ix2 r l) = wordOf (nearK (mOf (B ⟨r.val / 2, by omega⟩ l) ⟨16 * (r.val % 2) + v.val, by omega⟩))
      (decide (B ⟨r.val / 2, by omega⟩ l ⟨16 * (r.val % 2) + v.val, by omega⟩ < 0)) := by
  have h0 := mOf_nonneg (B ⟨r.val / 2, by omega⟩ l) ⟨16 * (r.val % 2) + v.val, by omega⟩
  have h6 := mOf_lt (B ⟨r.val / 2, by omega⟩ l) (hB _ l) ⟨16 * (r.val % 2) + v.val, by omega⟩
  have hy : lifted (s v) (inv (blockExp s)) (ix2 r l) = ((mOf (B ⟨r.val / 2, by omega⟩ l) ⟨16 * (r.val % 2) + v.val, by omega⟩
      + max (mOf (B ⟨r.val / 2, by omega⟩ l) ⟨16 * (r.val % 2) + v.val, by omega⟩) 1 : ℝ) : EReal) :=
    lifted_at (s v) (inv (blockExp s)) (ix2 r l) _ _ (h v r l)
    (inv_at _ _ _ (efOf_le _ (hB _ l)) (blockExp_at s B h r l))
  obtain ⟨m2, m4⟩ := mant_mem _ h0 h6
  refine signedWord_at _ _ _ r l _ _ _ _ (nearK_lt _) (h v r l) hy ?_ ?_ (near_word _ h0 h6)
  · have e : roundNearest (lifted (s v) (inv (blockExp s))) (ix2 r l)
        = Ideal.liftRound Ideal.roundHalfEven (mantissa (lifted (s v) (inv (blockExp s))) (ix2 r l)) := rfl
    rw [e, mantissa_at _ r l _ h0 h6 hy]
    rfl
  · rw [roundHalfEven_eq _ m2 m4]
    constructor <;> split_ifs <;> norm_num

/-- The words of a block rounded at random, `b` the random bytes. -/
theorem randomWords_at (s : Fin 16 → FVec Ideal S8x128 .f32) (w : Fin 4 → IVec S8x128 32) (B : Fin 4 → Fin 128 → Fin 32 → ℝ) (h : Holds s B)
    (hB : ∀ k l i, |B k l i| ≤ 2 ^ (125 : ℤ)) (v : Fin 16) (r : Fin 8) (l : Fin 128) (b : BitVec 8)
    (hb : randBits w v (ix2 r l) = b.setWidth 32 <<< (14 : ℕ)) :
    randomWords s w v (ix2 r l) = wordOf (randK (mOf (B ⟨r.val / 2, by omega⟩ l) ⟨16 * (r.val % 2) + v.val, by omega⟩)
        (((b.toNat : ℝ) + 1 / 2) * (1 / 256)))
      (decide (B ⟨r.val / 2, by omega⟩ l ⟨16 * (r.val % 2) + v.val, by omega⟩ < 0)) := by
  have h0 := mOf_nonneg (B ⟨r.val / 2, by omega⟩ l) ⟨16 * (r.val % 2) + v.val, by omega⟩
  have h6 := mOf_lt (B ⟨r.val / 2, by omega⟩ l) (hB _ l) ⟨16 * (r.val % 2) + v.val, by omega⟩
  have hy : lifted (s v) (inv (blockExp s)) (ix2 r l) = ((mOf (B ⟨r.val / 2, by omega⟩ l) ⟨16 * (r.val % 2) + v.val, by omega⟩
      + max (mOf (B ⟨r.val / 2, by omega⟩ l) ⟨16 * (r.val % 2) + v.val, by omega⟩) 1 : ℝ) : EReal) :=
    lifted_at (s v) (inv (blockExp s)) (ix2 r l) _ _ (h v r l)
    (inv_at _ _ _ (efOf_le _ (hB _ l)) (blockExp_at s B h r l))
  obtain ⟨m2, m4⟩ := mant_mem _ h0 h6
  have hlt : (b.toNat : ℝ) < 256 := by exact_mod_cast b.isLt
  have hge : (0 : ℝ) ≤ b.toNat := by positivity
  have r0 : 0 < ((b.toNat : ℝ) + 1 / 2) * (1 / 256) := by positivity
  have r1 : ((b.toNat : ℝ) + 1 / 2) * (1 / 256) < 1 := by
    have : (b.toNat : ℝ) ≤ 255 := by exact_mod_cast (by have := b.isLt; omega : b.toNat ≤ 255)
    linarith
  refine signedWord_at _ _ _ r l _ _ _ _ (randK_lt _ _ h0 h6) (h v r l) hy ?_ ?_ (rand_word _ _ h0 h6 r0 r1)
  · have e : roundRandom (randBits w v) (lifted (s v) (inv (blockExp s))) (ix2 r l)
        = Ideal.liftRound Int.ceil (mantissa (lifted (s v) (inv (blockExp s))) (ix2 r l)
          - (((randBits w v (ix2 r l) + 8192#32).toInt : ℝ) : EReal) * Ideal.ofBits .f32 0x34800000#32) := rfl
    have q : (b.setWidth 32 <<< (14 : ℕ) + 8192#32).toInt = (b.toNat : ℤ) * 16384 + 8192 := by
      have t : (b.setWidth 32 <<< (14 : ℕ) + 8192#32).toNat = b.toNat * 16384 + 8192 := by
        have := b.isLt
        simp [BitVec.toNat_add, BitVec.toNat_shiftLeft, Nat.shiftLeft_eq]
        omega
      have := b.isLt
      rw [BitVec.toInt_eq_toNat_of_lt (by omega), t]
      push_cast
      rfl
    have c : Ideal.ofBits .f32 0x34800000#32 = ((2 ^ (-22 : ℤ) : ℝ) : EReal) := by
      exact ofBits_shift 105 (by norm_num) (by norm_num)
    have z : (((b.toNat : ℤ) * 16384 + 8192 : ℤ) : ℝ) * 2 ^ (-22 : ℤ) = ((b.toNat : ℝ) + 1 / 2) * (1 / 256) := by
      push_cast
      norm_num
      ring
    rw [e, mantissa_at _ r l _ h0 h6 hy, hb, q, c, ← EReal.coe_mul, z, ← EReal.coe_sub, Ideal.liftRound_coe]
  · rw [ceil_eq _ _ m2 m4 r0 r1]
    constructor <;> split_ifs <;> norm_num

end Cert.KernelIdeal.Body

end
-- ==== Proof.Value.Rotate.lean ====
/- The kernel's rotation of a chunk on the extended reals. -/
module

public import proofs.«01_k».proof.Proof.Math.Rotate
public import proofs.«01_k».proof.Proof.Value.Block

@[expose] public section

noncomputable section

namespace Cert.KernelIdeal.Body

open Idealize.ShloMosaic Idealize.SL.Sem
open Cert.KernelIdeal Facts₀ Facts Cert.Math

variable [Facts]

set_option maxRecDepth 20000 in
theorem row_index : ∀ q : Fin 128, IntOp.addi (IntOp.muli (IntOp.andi (IntOp.andi (BitVec.ofNat 32 q.val) 7#32) 1#32) 16#32)
    (IntOp.shrsi .vector (BitVec.ofNat 32 q.val) 3#32) = BitVec.ofNat 32 (16 * (q.val % 2) + q.val / 8) := by decide

set_option maxRecDepth 20000 in
theorem lane_index : ∀ q : Fin 128, IntOp.andi (BitVec.ofNat 32 q.val) 31#32 = BitVec.ofNat 32 (q.val % 32) := by decide

set_option maxRecDepth 20000 in
theorem row_block : ∀ q : Fin 128, IntOp.shrsi .vector (IntOp.andi (BitVec.ofNat 32 q.val) 7#32) 1#32 = BitVec.ofNat 32 (q.val % 8 / 2) := by decide

set_option maxRecDepth 20000 in
theorem lane_block : ∀ q : Fin 128, IntOp.shrsi .vector (BitVec.ofNat 32 q.val) 5#32 = BitVec.ofNat 32 (q.val / 32) := by decide

theorem same_block : ∀ a b : Fin 4, Scalar.select (IntOp.cmpi .eq (BitVec.ofNat 32 b.val) (BitVec.ofNat 32 a.val)) true false = decide (a.val = b.val) := by decide

/-- An entry of the rotation. -/
theorem rotation_at (signs : Vec Ideal S1x32 .f32) (sg : Fin 32 → ℝ) (hs : ∀ j, signs (ix2 0 j) = (sg j : EReal)) (q p : Fin 128) :
    rotation signs (ix2 q p) = ((if p.val / 32 = q.val % 8 / 2 then had (16 * (q.val % 2) + q.val / 8) (p.val % 32) * sg ⟨p.val % 32, by omega⟩ else 0 : ℝ) : EReal) := by
  have c : (if h : p.val < 32 then signs (ix2 0 ⟨p.val, h⟩) else if h : p.val - 32 < 32 then signs (ix2 0 ⟨p.val - 32, h⟩)
      else if h : p.val - 32 - 32 < 32 then signs (ix2 0 ⟨p.val - 32 - 32, h⟩) else signs (ix2 0 ⟨p.val - 32 - 32 - 32, by omega⟩))
      = (sg ⟨p.val % 32, by omega⟩ : EReal) := by
    split_ifs <;> rw [hs] <;> congr 2 <;> exact Fin.ext (by simp only; omega)
  have t : ∀ (b : BitVec 1) (x y : EReal), Scalar.select b x y = if Scalar.select b true false then x else y := by
    intro b x y
    unfold Scalar.select
    split_ifs <;> simp_all
  unfold rotation
  pointwise
  rw [row_block, lane_block, row_index, lane_index, t, same_block ⟨p.val / 32, by omega⟩ ⟨q.val % 8 / 2, by omega⟩]
  refine Eq.trans (congrArg₂ (fun (x y : EReal) => if decide (p.val / 32 = q.val % 8 / 2) = true then x * y else 0)
    (show _ = (had (16 * (q.val % 2) + q.val / 8) (p.val % 32) : EReal) from rfl) c) ?_
  by_cases e : p.val / 32 = q.val % 8 / 2
  · simp only [e, decide_true, if_true]
    rw [← EReal.coe_mul]
  · simp [e]

/-- The rotated rows of a chunk hold the rotated blocks of its columns. -/
theorem holds_tiles (signs : Vec Ideal S1x32 .f32) (sg : Fin 32 → ℝ) (hs : ∀ j, signs (ix2 0 j) = (sg j : EReal))
    (x : Vec Ideal S128x256 .bf16) (X : Fin 128 → Fin 256 → ℝ) (hx : ∀ p c, x (ix2 p c) = (X p c : EReal)) (h : Fin 2) :
    Holds (tiles (rotated (rotation signs) x) h)
      (fun k l i => rotR sg (fun j => X ⟨32 * k.val + j.val, by omega⟩ ⟨128 * h.val + l.val, by omega⟩) i) := by
  intro v r l
  have e : tiles (rotated (rotation signs) x) h v (ix2 r l) = ∑ p : Fin 128, rotation signs (ix2 ⟨8 * v.val + r.val, by omega⟩ p)
      * x (ix2 p ⟨128 * h.val + l.val, by omega⟩) := by
    unfold tiles rotated
    pointwise
  rw [e]
  have g : ∀ p : Fin 128, rotation signs (ix2 ⟨8 * v.val + r.val, by omega⟩ p) * x (ix2 p ⟨128 * h.val + l.val, by omega⟩)
      = ((if p.val / 32 = (⟨r.val / 2, by omega⟩ : Fin 4).val then had (16 * (r.val % 2) + v.val) (p.val % 32) * sg ⟨p.val % 32, by omega⟩ * X p ⟨128 * h.val + l.val, by omega⟩ else 0 : ℝ) : EReal) := by
    intro p
    rw [rotation_at signs sg hs, hx, ← EReal.coe_mul]
    congr 1
    simp only
    rw [show (8 * v.val + r.val) % 8 / 2 = r.val / 2 by omega, show (8 * v.val + r.val) % 2 = r.val % 2 by omega,
      show (8 * v.val + r.val) / 8 = v.val by omega]
    split_ifs <;> ring
  rw [Finset.sum_congr rfl (fun p _ => g p), ← coe_sum, sum_block]
  congr 1
  unfold rotR
  refine Finset.sum_congr rfl fun j _ => ?_
  have a : (32 * (r.val / 2) + j.val) % 32 = j.val := by omega
  simp only [a]

end Cert.KernelIdeal.Body

end
-- ==== Proof.Value.Number.lean ====
/- The numbers the kernel reads back out of its rounded words, on the extended reals. -/
module

public import proofs.«01_k».proof.Proof.Value.Rotate
public import proofs.«01_k».proof.Proof.Math.Column
public import Idealize.ShloMosaic.Lib.BitcastPair
public import Idealize.ShloMosaic.Lib.BitcastFour

@[expose] public section

noncomputable section

namespace Cert.Math

open Idealize.ShloMosaic

/-- Half of a pair of rounded words. -/
def halfBits (k : ℕ) (neg : Bool) : BitVec 16 := (BitVec.ofNat 16 (254 + k) <<< (6 : ℕ)) ||| (if neg then 0x8000#16 else 0#16)

/-- A half-precision power of two by its bits. -/
theorem ofBits_half (b : BitVec 16) (n : ℕ) (h1 : 1 ≤ n) (h : n ≤ 254) (a : (b.extractLsb' 7 8).toNat = n)
    (f : (b.extractLsb' 0 7).toNat = 0) (c : (b.extractLsb' 15 1 == 1#1) = false) :
    Ideal.ofBits .bf16 b = (((2 : ℝ) ^ ((n : ℤ) - 127) : ℝ) : EReal) := by
  have e : Ideal.ofBits .bf16 b = Ideal.ieee 8 7 b := rfl
  rw [e, Ideal.ieee]
  simp only [a, f, show 8 + 7 = 15 from rfl, c]
  rw [if_neg (by omega), if_neg (by omega)]
  congr 1
  push_cast
  norm_num
  rw [show (128 : ℝ) = (2 : ℝ) ^ (7 : ℤ) by norm_num, ← zpow_add₀ (by norm_num)]
  congr 1
  ring

theorem scale_fields : ∀ n : Fin 255, ((BitVec.ofNat 16 n.val <<< (7 : ℕ)).extractLsb' 7 8).toNat = n.val
    ∧ ((BitVec.ofNat 16 n.val <<< (7 : ℕ)).extractLsb' 0 7).toNat = 0
    ∧ ((BitVec.ofNat 16 n.val <<< (7 : ℕ)).extractLsb' 15 1 == 1#1) = false := by decide

theorem ofBits_scale (n : ℕ) (h1 : 1 ≤ n) (h : n ≤ 254) :
    Ideal.ofBits .bf16 (BitVec.ofNat 16 n <<< (7 : ℕ) : BitVec 16) = (((2 : ℝ) ^ ((n : ℤ) - 127) : ℝ) : EReal) := by
  obtain ⟨a, b, c⟩ := scale_fields ⟨n, by omega⟩
  exact ofBits_half _ n h1 h a b c

/-- Twice the magnitude, as the kernel reads it out of the word. -/
def twice (k : ℕ) : ℝ := if k = 0 then 1 else if k = 1 then 1.5 else if k = 2 then 2 else if k = 3 then 3 else if k = 4 then 4
  else if k = 5 then 6 else if k = 6 then 8 else 12

set_option maxRecDepth 4000 in
theorem ofBits_twice (k : Fin 8) : Ideal.ofBits .bf16 (BitVec.ofNat 16 (254 + k.val) <<< (6 : ℕ) : BitVec 16) = (twice k.val : EReal) := by
  fin_cases k <;> simp [Ideal.ofBits, Ideal.ieee, twice, -EReal.coe_mul] <;> norm_num

theorem grid_of_twice (k : Fin 8) : min (twice k.val) 12 - max (min (twice k.val) 12 * (1 / 2)) 1 = grid k.val := by
  fin_cases k <;> simp [twice, grid] <;> norm_num

end Cert.Math

namespace Cert.KernelIdeal.Body

open Idealize.ShloMosaic Idealize.SL.Sem
open Cert.KernelIdeal Facts₀ Facts Cert.Math

variable [Facts]

/-- The half words of a word tile. -/
theorem halves_at (x : IVec S8x128 32) (r : Fin 8) (e : Fin 2) (l : Fin 128) :
    halves (F := Ideal) x (ix2 ⟨2 * r.val + e.val, by omega⟩ l) = Ideal.ofBits .bf16 ((x (ix2 r l)).extractLsb' (16 * e.val) 16) := by
  have b := bitcast_32_16 x bitcasts_S8x128_w32_S16x128_w16 (ix2 ⟨2 * r.val + e.val, by omega⟩ l)
  have hr : S16x128.row (ix2 (⟨2 * r.val + e.val, by omega⟩ : Fin 16) l) = 2 * r.val + e.val := rfl
  refine congrArg (Ideal.ofBits .bf16) (b.trans ?_)
  refine congrArg₂ (fun (y : S8x128.Idx) n => (x y).extractLsb' n 16) (funext fun c => ?_) (by rw [hr]; omega)
  match c with
  | ⟨0, _⟩ => exact Fin.ext ((Shape.Bitcasts.srcIdx_row _ _ _ _ ⟨0, Nat.zero_lt_two⟩ rfl).trans (by rw [hr]; show _ = r.val; omega))
  | ⟨1, _⟩ => exact Fin.ext (Shape.Bitcasts.srcIdx_other _ _ _ _ ⟨1, Nat.one_lt_two⟩ (by show ¬ 1 + 2 = 2; omega))

set_option maxRecDepth 20000 in
theorem packed_mag : ∀ (a b : Fin 8) (s t : Bool) (e : Fin 2),
    (IntOp.andi (IntOp.ori (IntOp.shrui .vector (wordOf a.val s) 16#32) (IntOp.andi (wordOf b.val t) 4294901760#32)) 2143322048#32).extractLsb' (16 * e.val) 16
      = BitVec.ofNat 16 (254 + (if e.val = 0 then a.val else b.val)) <<< (6 : ℕ) := by decide

set_option maxRecDepth 20000 in
theorem packed_sign : ∀ (a b : Fin 8) (s t : Bool) (e : Fin 2),
    (IntOp.ori (IntOp.andi (IntOp.ori (IntOp.shrui .vector (wordOf a.val s) 16#32) (IntOp.andi (wordOf b.val t) 4294901760#32)) 2147516416#32) 1065369472#32).extractLsb' (16 * e.val) 16
      = if (if e.val = 0 then s else t) then 0xBF80#16 else 0x3F80#16 := by decide

set_option maxRecDepth 20000 in
theorem scale_bits : ∀ (n : Fin 253) (e : Fin 2),
    (IntOp.ori (IntOp.shli .vector (BitVec.ofNat 32 n.val + 1#32) 23#32) (IntOp.shrui .vector (IntOp.shli .vector (BitVec.ofNat 32 n.val + 1#32) 23#32) 16#32)).extractLsb' (16 * e.val) 16
      = BitVec.ofNat 16 (n.val + 1) <<< (7 : ℕ) := by decide

/-- The scale of a block in half precision. -/
theorem scaleUp_at (ef : IVec S8x128 32) (r : Fin 8) (e : Fin 2) (l : Fin 128) (n : ℕ) (hn : n ≤ 252) (h : ef (ix2 r l) = BitVec.ofNat 32 n) :
    scaleUp (F := Ideal) ef (ix2 ⟨2 * r.val + e.val, by omega⟩ l) = ((2 ^ ((n : ℤ) - 126) : ℝ) : EReal) := by
  unfold scaleUp
  rw [halves_at]
  have t := scale_bits ⟨n, by omega⟩ e
  simp only at t
  rw [← h] at t
  have x : (((n + 1 : ℕ) : ℤ) - 127) = n - 126 := by push_cast; ring
  refine (congrArg (Ideal.ofBits .bf16) t).trans ?_
  rw [ofBits_scale _ (by omega) (by omega), x]

theorem ofBits_sign (s : Bool) : Ideal.ofBits .bf16 (if s then 0xBF80#16 else 0x3F80#16) = ((if s then -1 else 1 : ℝ) : EReal) := by
  cases s
  · simp
  · simpa using Ideal.ofBits_neg_one_bf16

/-- A quantised number of a pair of words. -/
theorem value_at (up : FVec Ideal S16x128 .bf16) (lo hi : IVec S8x128 32) (r : Fin 8) (e : Fin 2) (l : Fin 128) (a b : Fin 8) (s t : Bool)
    (n : ℕ) (hlo : lo (ix2 r l) = wordOf a.val s) (hhi : hi (ix2 r l) = wordOf b.val t)
    (hu : up (ix2 ⟨2 * r.val + e.val, by omega⟩ l) = ((2 ^ ((n : ℤ) - 126) : ℝ) : EReal)) :
    value up (packed lo hi) (ix2 ⟨2 * r.val + e.val, by omega⟩ l)
      = (numOf (if e.val = 0 then a.val else b.val) (if e.val = 0 then s else t) n : EReal) := by
  set J : S16x128.Idx := ix2 ⟨2 * r.val + e.val, by omega⟩ l
  obtain ⟨k, hk⟩ : ∃ k : Fin 8, k.val = if e.val = 0 then a.val else b.val := ⟨if e.val = 0 then a else b, by split_ifs <;> rfl⟩
  have d : doubled (F := Ideal) (packed lo hi) J = ((min (twice k.val) 12 : ℝ) : EReal) := by
    have m : halves (F := Ideal) (magOf (packed lo hi)) J = (twice k.val : EReal) := by
      rw [halves_at, ← ofBits_twice, hk, ← packed_mag a b s t e, ← hlo, ← hhi]
      rfl
    have e1 : doubled (F := Ideal) (packed lo hi) J = min (halves (F := Ideal) (magOf (packed lo hi)) J) (Ideal.ofBits .bf16 0x4140#16) := rfl
    have e2 : Ideal.ofBits .bf16 0x4140#16 = ((12 : ℝ) : EReal) := by simp [Ideal.ofBits, Ideal.ieee, -EReal.coe_mul]; norm_num
    rw [e1, m, e2, ← coe_min]
  have g : halves (F := Ideal) (ori (signOf (packed lo hi)) (word 1065369472#32)) J = ((if (if e.val = 0 then s else t) then -1 else 1 : ℝ) : EReal) := by
    rw [halves_at, ← ofBits_sign, ← packed_sign a b s t e, ← hlo, ← hhi]
    rfl
  have e1 : value up (packed lo hi) J = (doubled (F := Ideal) (packed lo hi) J - max (doubled (F := Ideal) (packed lo hi) J * Ideal.ofBits .bf16 0x3F00#16) (Ideal.ofBits .bf16 0x3F80#16))
      * up J * halves (F := Ideal) (ori (signOf (packed lo hi)) (word 1065369472#32)) J := rfl
  have e2 : Ideal.ofBits .bf16 0x3F00#16 = ((1 / 2 : ℝ) : EReal) := by simp [Ideal.ofBits, Ideal.ieee, -EReal.coe_mul]; norm_num
  rw [e1, d, g, hu, e2, Ideal.ofBits_one_bf16, ← EReal.coe_one, ← EReal.coe_mul, ← coe_max, ← EReal.coe_sub, ← EReal.coe_mul, ← EReal.coe_mul,
    grid_of_twice, hk]
  rfl

/-- The token of a chunk that row `q` of its quantised tile holds. -/
def tok (q : Fin 128) : Fin 128 := ⟨32 * (q.val % 16 / 4) + 16 * (q.val % 16 / 2 % 2) + 8 * (q.val / 64) + q.val / 16 % 4 + 4 * (q.val % 2), by omega⟩

theorem value_congr (up : FVec Ideal S16x128 .bf16) (y : Fin 16 → IVec S8x128 32) (l : Fin 128) {c c' : Fin 2} {n n' : Fin 4} {p p' : Fin 16} (hc : c.val = c'.val)
    (hn : n.val = n'.val) (hp : p.val = p'.val) : value up (pair y c n) (ix2 p l) = value up (pair y c' n') (ix2 p' l) := by
  rw [Fin.ext hc, Fin.ext hn, Fin.ext hp]

/-- The quantised numbers of a chunk: tile `v`'s words hold the codes `K` and signs `S` of the blocks, `E` their exponents. -/
theorem tile_at (up : FVec Ideal S16x128 .bf16) (y : Fin 16 → IVec S8x128 32) (K : Fin 4 → Fin 128 → Fin 32 → Fin 8) (S : Fin 4 → Fin 128 → Fin 32 → Bool)
    (E : Fin 4 → Fin 128 → ℕ)
    (hy : ∀ (v : Fin 16) (r : Fin 8) (l : Fin 128), y v (ix2 r l) = wordOf (K ⟨r.val / 2, by omega⟩ l ⟨16 * (r.val % 2) + v.val, by omega⟩).val
      (S ⟨r.val / 2, by omega⟩ l ⟨16 * (r.val % 2) + v.val, by omega⟩))
    (hu : ∀ (r : Fin 8) (e : Fin 2) (l : Fin 128), up (ix2 ⟨2 * r.val + e.val, by omega⟩ l) = ((2 ^ ((E ⟨r.val / 2, by omega⟩ l : ℤ) - 126) : ℝ) : EReal))
    (q l : Fin 128) :
    tile up y (ix2 q l) = (numOf (K ⟨(tok q).val / 32, by omega⟩ l ⟨(tok q).val % 32, by omega⟩).val
      (S ⟨(tok q).val / 32, by omega⟩ l ⟨(tok q).val % 32, by omega⟩) (E ⟨(tok q).val / 32, by omega⟩ l) : EReal) := by
  have e : tile up y (ix2 q l) = value up (pair y ⟨q.val / 64, by omega⟩ ⟨q.val / 16 % 4, by omega⟩) (ix2 ⟨q.val % 16, by omega⟩ l) := by
    unfold tile
    pointwise
    split_ifs
    all_goals exact value_congr up y l (by simp; omega) (by simp; omega) (by simp; omega)
  have f := value_at up (y ⟨8 * (q.val / 64) + q.val / 16 % 4, by omega⟩) (y ⟨8 * (q.val / 64) + q.val / 16 % 4 + 4, by omega⟩) ⟨q.val % 16 / 2, by omega⟩
    ⟨q.val % 2, by omega⟩ l _ _ _ _ _ (hy _ _ _) (hy _ _ _) (hu _ _ _)
  have g : (⟨2 * (q.val % 16 / 2) + q.val % 2, by omega⟩ : Fin 16) = ⟨q.val % 16, by omega⟩ := Fin.ext (by simp; omega)
  rw [e]
  simp only [g] at f
  have b : (⟨q.val % 16 / 2 / 2, by omega⟩ : Fin 4) = ⟨(tok q).val / 32, by omega⟩ := Fin.ext (by simp only [tok]; omega)
  have i0 : q.val % 2 = 0 → (⟨16 * (q.val % 16 / 2 % 2) + (8 * (q.val / 64) + q.val / 16 % 4), by omega⟩ : Fin 32) = ⟨(tok q).val % 32, by omega⟩ :=
    fun _ => Fin.ext (by simp only [tok]; omega)
  have i1 : q.val % 2 ≠ 0 → (⟨16 * (q.val % 16 / 2 % 2) + (8 * (q.val / 64) + q.val / 16 % 4 + 4), by omega⟩ : Fin 32) = ⟨(tok q).val % 32, by omega⟩ :=
    fun _ => Fin.ext (by simp only [tok]; omega)
  refine Eq.trans ?_ (f.trans ?_)
  · rfl
  · by_cases h : q.val % 2 = 0
    · simp only [h, if_true, i0 h, b]
    · simp only [h, if_false, i1 h, b]

end Cert.KernelIdeal.Body

end
-- ==== Proof.Value.Chunk.lean ====
/- What the kernel computes from a tile, column by column, on the extended reals. -/
module

public import proofs.«01_k».proof.Proof.Math.Column
public import proofs.«01_k».proof.Proof.Value.Number
public import proofs.«01_k».proof.Proof.Body.Branches

@[expose] public section

noncomputable section

namespace Cert.KernelIdeal.Body

open Idealize.ShloMosaic Idealize.ShloMosaic.TcCoe Cert.Math
open Cert.KernelIdeal Facts₀ Facts

variable [Facts]

variable (signs : Vec Ideal S1x32 .f32) (sg : Fin 32 → ℝ) (x : Vec Ideal S1920x256 .bf16) (T : Fin 1920 → Fin 256 → ℝ)

/-- A tile's column. -/
abbrev col (c : Fin 256) : Fin 1920 → ℝ := fun t => T t c

/-- The lane of half `h`. -/
abbrev lane (h : Fin 2) (l : Fin 128) : Fin 256 := ⟨128 * h.val + l.val, by omega⟩

/-- The token of row `r` of tile `v` of chunk `k`. -/
abbrev token (k : Fin 15) (r : Fin 8) (v : Fin 16) : Fin 1920 := ⟨128 * k.val + 16 * r.val + v.val, by omega⟩

/-- The rotated blocks of a chunk. -/
theorem holds_blocks (hs : ∀ j, signs (ix2 0 j) = (sg j : EReal)) (hx : ∀ t c, x (ix2 t c) = (T t c : EReal)) (k : Fin 15) (h : Fin 2) :
    Holds (blocks (rotation signs) x k h) (fun b l => rotBlock sg (col T (lane h l)) ⟨4 * k.val + b.val, by omega⟩) := by
  have e := holds_tiles signs sg hs (chunkOf x k) (fun p c => T ⟨128 * k.val + p.val, by omega⟩ c) (fun p c => by
    rw [← hx]
    refine congrArg x (funext fun a => ?_)
    match a with
    | ⟨0, _⟩ => exact Fin.ext (by show 128 * k.val + 1 * p.val = 128 * k.val + p.val; omega)
    | ⟨1, _⟩ => exact Fin.ext (by show 0 + 1 * c.val = c.val; omega)) h
  have t : ∀ b j, 128 * k.val + (32 * b + j) = 32 * (4 * k.val + b) + j := fun b j => by omega
  intro v r l
  refine (e v r l).trans ?_
  simp only [rotBlock, col, lane, t]

/-- Words that hold codes and signs, token by token. -/
def WordsHold (y : Words) (K : Fin 1920 → Fin 256 → Fin 8) (S : Fin 1920 → Fin 256 → Bool) : Prop :=
  ∀ k h v r l, y k h v (ix2 r l) = wordOf (K (token k r v) (lane h l)).val (S (token k r v) (lane h l))

theorem blk_token (k : Fin 15) (r : Fin 8) (v : Fin 16) : blk (token k r v) = ⟨4 * k.val + r.val / 2, by omega⟩ :=
  Fin.ext (by simp [blk]; omega)

theorem mem_token (k : Fin 15) (r : Fin 8) (v : Fin 16) : mem (token k r v) = ⟨16 * (r.val % 2) + v.val, by omega⟩ :=
  Fin.ext (by simp [mem]; omega)

variable (hs : ∀ j, signs (ix2 0 j) = (sg j : EReal)) (hx : ∀ t c, x (ix2 t c) = (T t c : EReal))
  (bs : ∀ j, |sg j| ≤ 2 ^ (60 : ℤ)) (bx : ∀ t c, |T t c| ≤ 2 ^ (60 : ℤ))

include hs hx

/-- The exponents of a chunk. -/
theorem expsOf_at (k : Fin 15) (h : Fin 2) (r : Fin 8) (l : Fin 128) :
    expsOf (rotation signs) x k h (ix2 r l) = BitVec.ofNat 32 (exAt sg (col T (lane h l)) ⟨4 * k.val + r.val / 2, by omega⟩) :=
  blockExp_at _ _ (holds_blocks signs sg x T hs hx k h) r l

/-- The scales of a tile. -/
theorem scalesOf_at (bs : ∀ j, |sg j| ≤ 2 ^ (60 : ℤ)) (bx : ∀ t c, |T t c| ≤ 2 ^ (60 : ℤ)) (c : Fin 256) (g : Fin 60) :
    scalesOf (rotation signs) x (ix2 c g) = BitVec.ofNat 8 (exAt sg (col T c) g + 1) := by
  have e : scalesOf (rotation signs) x (ix2 c g) = BitVec.setWidth 8 (addi (expsOf (rotation signs) x ⟨2 * g.val / 8, by omega⟩ ⟨c.val / 128, by omega⟩) (word 1#32)
    (ix2 ⟨2 * g.val % 8, by omega⟩ ⟨c.val % 128, by omega⟩)) := rfl
  have f := expsOf_at signs sg x T hs hx ⟨2 * g.val / 8, by omega⟩ ⟨c.val / 128, by omega⟩ ⟨2 * g.val % 8, by omega⟩ ⟨c.val % 128, by omega⟩
  have a : (⟨4 * (2 * g.val / 8) + 2 * g.val % 8 / 2, by omega⟩ : Fin 60) = g := Fin.ext (by simp; omega)
  have b : lane ⟨c.val / 128, by omega⟩ ⟨c.val % 128, by omega⟩ = c := Fin.ext (by simp; omega)
  simp only [a, b] at f
  rw [e]
  have d : ∀ (y : IVec S8x128 32) i, addi y (word 1#32) i = y i + 1#32 := fun _ _ => rfl
  rw [d, f]
  have := exAt_le sg (col T c) bs (fun t => bx t c) g
  apply BitVec.eq_of_toNat_eq
  simp [BitVec.toNat_setWidth]

include bs bx

/-- The first operand's words. -/
theorem wordsX_hold : WordsHold (wordsX (rotation signs) x) (fun t c => nearAt sg (col T c) t) (fun t c => negAt sg (col T c) t) := by
  intro k h v r l
  refine (nearestWords_at _ _ (holds_blocks signs sg x T hs hx k h) (fun b l i => rotBlock_le sg _ bs (fun t => bx t _) _ i) v r l).trans ?_
  simp only [nearAt, negAt, magAt, blk_token, mem_token]

/-- The second operand's words. -/
theorem wordsY_hold (r : Vec Ideal S2x480x128 .i32) (u : Fin 1920 → Fin 256 → BitVec 8)
    (hr : ∀ k h v b l, randBits (randsOf (F := Ideal) r k h) v (ix2 b l) = (u (token k b v) (lane h l)).setWidth 32 <<< (14 : ℕ)) :
    WordsHold (wordsY (rotation signs) x r) (fun t c => randAt sg (col T c) (fun t => u t c) t) (fun t c => negAt sg (col T c) t) := by
  intro k h v b l
  refine (randomWords_at _ _ _ (holds_blocks signs sg x T hs hx k h) (fun b l i => rotBlock_le sg _ bs (fun t => bx t _) _ i) v b l _ (hr k h v b l)).trans ?_
  simp only [randAt_val sg _ bs (fun t => bx t _), negAt, magAt, blk_token, mem_token]

/-- The quantised numbers of a chunk. -/
theorem quant_at (y : Words) (K : Fin 1920 → Fin 256 → Fin 8) (S : Fin 1920 → Fin 256 → Bool) (hy : WordsHold y K S) (k : Fin 15) (h : Fin 2) (q l : Fin 128) :
    tile (F := Ideal) (scaleUp (expsOf (rotation signs) x k h)) (y k h) (ix2 q l)
      = (numOf (K ⟨128 * k.val + (tok q).val, by omega⟩ (lane h l)).val (S ⟨128 * k.val + (tok q).val, by omega⟩ (lane h l))
        (exAt sg (col T (lane h l)) (blk ⟨128 * k.val + (tok q).val, by omega⟩)) : EReal) := by
  have f := tile_at (scaleUp (expsOf (rotation signs) x k h)) (y k h)
    (fun b l i => K ⟨128 * k.val + 32 * b.val + i.val, by omega⟩ (lane h l)) (fun b l i => S ⟨128 * k.val + 32 * b.val + i.val, by omega⟩ (lane h l))
    (fun b l => exAt sg (col T (lane h l)) ⟨4 * k.val + b.val, by omega⟩)
    (fun v r l => by
      have e : (⟨128 * k.val + 32 * (r.val / 2) + (16 * (r.val % 2) + v.val), by omega⟩ : Fin 1920) = token k r v := Fin.ext (by simp; omega)
      simp only [e]
      exact hy k h v r l)
    (fun r e l => scaleUp_at _ r e l _ (exAt_le sg _ bs (fun t => bx t _) _) (expsOf_at signs sg x T hs hx k h r l)) q l
  have t : 128 * k.val + 32 * ((tok q).val / 32) + (tok q).val % 32 = 128 * k.val + (tok q).val := by omega
  have b : (⟨4 * k.val + (tok q).val / 32, by omega⟩ : Fin 60) = blk ⟨128 * k.val + (tok q).val, by omega⟩ := Fin.ext (by simp [blk]; omega)
  simp only [t, b] at f
  exact f

end Cert.KernelIdeal.Body

end
-- ==== Proof.Value.Rows.lean ====
/- The kernel's random bytes, the quantised rows and columns, and their product, on the extended reals. -/
module

public import proofs.«01_k».proof.Proof.Value.Chunk
public import proofs.«01_k».proof.Proof.Body.Points
public import Idealize.ShloMosaic.Lib.BitcastFour

@[expose] public section

noncomputable section

namespace Cert.KernelIdeal.Body

open Idealize.ShloMosaic Idealize.ShloMosaic.TcCoe Cert.Math
open Cert.KernelIdeal Facts₀ Facts

/-- A byte of a word, shifted to where the rounding adds it. -/
theorem byte0 (w : BitVec 32) : (w <<< (14 : ℕ)) &&& 4177920#32 = (w.extractLsb' 0 8).setWidth 32 <<< (14 : ℕ) := by
  apply BitVec.eq_of_getLsbD_eq
  intro i hi
  interval_cases i <;> simp [BitVec.getLsbD_extractLsb'] <;> decide
theorem byte1 (w : BitVec 32) : (w <<< (6 : ℕ)) &&& 4177920#32 = (w.extractLsb' 8 8).setWidth 32 <<< (14 : ℕ) := by
  apply BitVec.eq_of_getLsbD_eq
  intro i hi
  interval_cases i <;> simp [BitVec.getLsbD_extractLsb'] <;> decide
theorem byte2 (w : BitVec 32) : (w >>> (2 : ℕ)) &&& 4177920#32 = (w.extractLsb' 16 8).setWidth 32 <<< (14 : ℕ) := by
  apply BitVec.eq_of_getLsbD_eq
  intro i hi
  interval_cases i <;> simp [BitVec.getLsbD_extractLsb'] <;> decide
theorem byte3 (w : BitVec 32) : (w >>> (10 : ℕ)) &&& 4177920#32 = (w.extractLsb' 24 8).setWidth 32 <<< (14 : ℕ) := by
  apply BitVec.eq_of_getLsbD_eq
  intro i hi
  interval_cases i <;> simp [BitVec.getLsbD_extractLsb'] <;> decide

variable [Facts]

theorem randByte_at (w : IVec S8x128 32) (p : Fin 4) (i : S8x128.Idx) :
    randByte w p i = ((w i).extractLsb' (8 * p.val) 8).setWidth 32 <<< (14 : ℕ) := by
  match p with
  | 0 => exact byte0 (w i)
  | 1 => exact byte1 (w i)
  | 2 => exact byte2 (w i)
  | 3 => exact byte3 (w i)

/-- The random bytes of a chunk are the tile's. -/
theorem randBits_at (r : Vec Ideal S1920x256 .i8) (k : Fin 15) (h : Fin 2) (v : Fin 16) (b : Fin 8) (l : Fin 128) :
    randBits (randsOf (F := Ideal) (randsG (F := Ideal) r) k h) v (ix2 b l) = (r (ix2 (token k b v) (lane h l)) : BitVec 8).setWidth 32 <<< (14 : ℕ) := by
  unfold randBits
  rw [randByte_at]
  congr 2
  have e : randsOf (F := Ideal) (randsG (F := Ideal) r) k h ⟨v.val / 4, by omega⟩ (ix2 b l)
      = randsG (F := Ideal) r (ix3 h ⟨32 * k.val + v.val / 4 + 4 * b.val, by omega⟩ l) := by
    unfold randsOf
    pointwise
  rw [e]
  apply BitVec.eq_of_getLsbD_eq
  intro i hi
  simp only [BitVec.getLsbD_extractLsb', hi, decide_true, Bool.true_and]
  unfold randsG
  refine (bitcast_8_32_getLsbD_ix2 _ _ _ _ _ (by omega) ⟨128 * k.val + 16 * b.val + v.val, by omega⟩ ?_).trans ?_
  · simp; omega
  · have : (8 * (v.val % 4) + i) % 8 = i := by omega
    simp only [this]
    rfl

/-- The token of row `q` of a quantised tile. -/
def rowTok (q : Fin 1920) : Fin 1920 := ⟨128 * (q.val / 128) + (tok ⟨q.val % 128, by omega⟩).val, by omega⟩

theorem tok_inj : ∀ a b : Fin 128, tok a = tok b → a = b := by decide +kernel

theorem rowTok_bij : Function.Bijective rowTok := by
  refine Finite.injective_iff_bijective.mp ?_
  intro a b h
  have h' := congrArg Fin.val h
  simp only [rowTok] at h'
  have d : a.val / 128 = b.val / 128 := by omega
  have t := tok_inj ⟨a.val % 128, by omega⟩ ⟨b.val % 128, by omega⟩ (Fin.ext (by omega))
  have := congrArg Fin.val t
  simp only at this
  exact Fin.ext (by omega)

/-- The product of quantised rows and columns. -/
theorem productG_at (a : Vec Ideal S256x1920 .bf16) (b : Vec Ideal S8x1920x256 .bf16) (i : Fin 256) (j : Fin 2048) (A B : Fin 1920 → ℝ)
    (ha : ∀ q, a (ix2 i q) = (A (rowTok q) : EReal)) (hb : ∀ q, b (ix3 ⟨j.val / 256, by omega⟩ q ⟨j.val % 256, by omega⟩) = (B (rowTok q) : EReal)) :
    productG a b (ix2 i j) = ((∑ t, A t * B t : ℝ) : EReal) := by
  have e : productG a b (ix2 i j) = ∑ q : Fin 1920, a (ix2 i q) * b (ix3 ⟨j.val / 256, by omega⟩ q ⟨j.val % 256, by omega⟩) := by
    unfold productG
    pointwise
  rw [e]
  simp only [ha, hb, ← EReal.coe_mul]
  rw [← coe_sum]
  exact congrArg _ (Function.Bijective.sum_comp rowTok_bij (fun t => A t * B t))

variable (signs : Vec Ideal S1x32 .f32) (sg : Fin 32 → ℝ) (x : Vec Ideal S1920x256 .bf16) (T : Fin 1920 → Fin 256 → ℝ)
variable (hs : ∀ j, signs (ix2 0 j) = (sg j : EReal)) (hx : ∀ t c, x (ix2 t c) = (T t c : EReal))
  (bs : ∀ j, |sg j| ≤ 2 ^ (60 : ℤ)) (bx : ∀ t c, |T t c| ≤ 2 ^ (60 : ℤ))

include hs hx bs bx

/-- The quantised columns of a tile of the first operand. -/
theorem slab_at (q : Fin 1920) (c : Fin 256) :
    slabG (quantX (rotation signs) x) (ix2 q c) = (numAt sg (col T c) (nearAt sg (col T c)) (rowTok q) : EReal) := by
  have f := quant_at signs sg x T hs hx bs bx _ _ _ (wordsX_hold signs sg x T hs hx bs bx) ⟨q.val / 128, by omega⟩ ⟨c.val / 128, by omega⟩
    ⟨q.val % 128, by omega⟩ ⟨c.val % 128, by omega⟩
  have b : lane ⟨c.val / 128, by omega⟩ ⟨c.val % 128, by omega⟩ = c := Fin.ext (by simp; omega)
  simp only [b] at f
  exact f

/-- The quantised rows of a tile of the second operand. -/
theorem rows_at (r : Vec Ideal S1920x256 .i8) (c : Fin 256) (q : Fin 1920) :
    rowsY (rotation signs) x r (ix2 c q) = (numAt sg (col T c) (randAt sg (col T c) (fun t => r (ix2 t c))) (rowTok q) : EReal) := by
  have f := quant_at signs sg x T hs hx bs bx _ _ _ (wordsY_hold signs sg x T hs hx bs bx (randsG (F := Ideal) r) (fun t c => r (ix2 t c))
    (fun k h v b l => randBits_at r k h v b l)) ⟨q.val / 128, by omega⟩ ⟨c.val / 128, by omega⟩
    ⟨q.val % 128, by omega⟩ ⟨c.val % 128, by omega⟩
  have b : lane ⟨c.val / 128, by omega⟩ ⟨c.val % 128, by omega⟩ = c := Fin.ext (by simp; omega)
  simp only [b] at f
  exact f

end Cert.KernelIdeal.Body

end
-- ==== Proof.Value.Codes.lean ====
/- The bytes of codes the kernel leaves, on the extended reals. -/
module

public import proofs.«01_k».proof.Proof.Math.Nibble
public import proofs.«01_k».proof.Proof.Value.Rows

@[expose] public section

noncomputable section

namespace Cert.KernelIdeal.Body

open Idealize.ShloMosaic Idealize.ShloMosaic.TcCoe Cert.Math
open Cert.KernelIdeal Facts₀ Facts

/-- The codes of a pair of words. -/
theorem code_word : ∀ (a b : Fin 8) (s t : Bool),
    (((((((wordOf a.val s) >>> (16 : ℕ)) ||| (wordOf b.val t &&& 4294901760#32)) &&& 2143322048#32) + 8388736#32) >>> (6 : ℕ)) &&& 458759#32)
      ||| (((((wordOf a.val s) >>> (16 : ℕ)) ||| (wordOf b.val t &&& 4294901760#32)) &&& 2147516416#32) >>> (12 : ℕ))
      = (rawNib a.val s).setWidth 32 ||| ((rawNib b.val t).setWidth 32 <<< (16 : ℕ)) := by decide +kernel

variable [Facts]

theorem code_at (lo hi : IVec S8x128 32) (i : S8x128.Idx) (a b : Fin 8) (s t : Bool) (hlo : lo i = wordOf a.val s) (hhi : hi i = wordOf b.val t) :
    code (packed lo hi) i = (rawNib a.val s).setWidth 32 ||| ((rawNib b.val t).setWidth 32 <<< (16 : ℕ)) := by
  rw [← code_word a b s t, ← hlo, ← hhi]
  rfl

/-- A word of codes, code by code. -/
theorem codeWord_bit (y : Fin 16 → IVec S8x128 32) (K : Fin 16 → Fin 8) (S : Fin 16 → Bool) (i : S8x128.Idx) (h : ∀ v, y v i = wordOf (K v).val (S v))
    (c : Fin 2) (q : Fin 8) (j : Fin 4) :
    (codeWord y c i).getLsbD (4 * q.val + j.val)
      = (nib (K ⟨8 * c.val + q.val, by omega⟩).val (S ⟨8 * c.val + q.val, by omega⟩)).getLsbD j.val := by
  refine unsign_bit (code (pair y c 0) i ||| (code (pair y c 1) i <<< (4 : ℕ)) ||| (code (pair y c 2) i <<< (8 : ℕ)) ||| (code (pair y c 3) i <<< (12 : ℕ)))
    q _ _ (fun j => ?_) j
  have g := gather_bit (fun n => code (pair y c n) i)
    (fun n => rawNib (K ⟨8 * c.val + n.val, by omega⟩).val (S ⟨8 * c.val + n.val, by omega⟩))
    (fun n => rawNib (K ⟨8 * c.val + n.val + 4, by omega⟩).val (S ⟨8 * c.val + n.val + 4, by omega⟩))
    (fun n => code_at _ _ i _ _ _ _ (h _) (h _)) ⟨q.val % 4, by omega⟩ ⟨q.val / 4, by omega⟩ j
  have e : q.val % 4 + 4 * (q.val / 4) = q.val := by omega
  simp only [e] at g
  refine g.trans ?_
  by_cases z : q.val / 4 = 0
  · have e' : 8 * c.val + q.val % 4 = 8 * c.val + q.val := by omega
    simp only [z, if_true, e']
  · have e' : 8 * c.val + q.val % 4 + 4 = 8 * c.val + q.val := by omega
    simp only [z, if_false, e']

/-- The bytes of words, bit by bit. -/
theorem bytes_at (x : IVec S240x128 32) (p : Fin 960) (l : Fin 128) (i : ℕ) (hi : i < 8) :
    (bitcast S960x128 8 x bitcasts_S240x128_w32_S960x128_w8 (ix2 p l)).getLsbD i = (x (ix2 ⟨p.val / 4, by omega⟩ l)).getLsbD (8 * (p.val % 4) + i) := by
  refine (bitcast_getLsbD x bitcasts_S240x128_w32_S960x128_w8 (ix2 p l) i hi (by norm_num)).trans ?_
  have hr : S960x128.row (ix2 p l) = p.val := rfl
  have r0 : (p.val * 8 + i) / 32 = p.val / 4 := by omega
  have r1 : (p.val * 8 + i) % 32 = 8 * (p.val % 4) + i := by omega
  refine congrArg₂ (fun (i : S240x128.Idx) n => (x i).getLsbD n) (funext fun a => ?_) (by rw [hr]; exact r1)
  match a with
  | ⟨0, _⟩ => exact Fin.ext ((Shape.Bitcasts.srcIdx_row _ _ _ _ ⟨0, Nat.zero_lt_two⟩ rfl).trans (by rw [hr]; exact r0))
  | ⟨1, _⟩ => exact Fin.ext (Shape.Bitcasts.srcIdx_other _ _ _ _ ⟨1, Nat.one_lt_two⟩ (by show ¬ 1 + 2 = 2; omega))

/-- The byte of a pair of tokens. -/
theorem codes_at (y : Words) (K : Fin 1920 → Fin 256 → Fin 8) (S : Fin 1920 → Fin 256 → Bool) (hy : WordsHold y K S) (c : Fin 256) (p : Fin 960) :
    codesG (wordsG (F := Ideal) y) (ix2 c p) = byteOf (fun t => K t c) (fun t => S t c) p := by
  unfold byteOf
  refine eq_nibPair _ _ _ (fun e j => ?_)
  have w : (codesG (wordsG (F := Ideal) y) (ix2 c p)).getLsbD (4 * e.val + j.val)
      = (codeWord (y ⟨p.val / 4 / 16, by omega⟩ ⟨c.val / 128, by omega⟩) ⟨p.val / 4 % 2, by omega⟩
        (ix2 ⟨p.val / 4 % 16 / 2, by omega⟩ ⟨c.val % 128, by omega⟩)).getLsbD (4 * (2 * (p.val % 4) + e.val) + j.val) := by
    have l := bytes_at (fun x => (wordsG (F := Ideal) y) (ix3 ⟨c.val / 128, by omega⟩ (x 0) (x 1))) p ⟨c.val % 128, by omega⟩ (4 * e.val + j.val) (by omega)
    have r1 : 8 * (p.val % 4) + (4 * e.val + j.val) = 4 * (2 * (p.val % 4) + e.val) + j.val := by omega
    rw [r1] at l
    exact l
  rw [w]
  have b := codeWord_bit (y ⟨p.val / 4 / 16, by omega⟩ ⟨c.val / 128, by omega⟩)
    (fun v => K (token ⟨p.val / 4 / 16, by omega⟩ ⟨p.val / 4 % 16 / 2, by omega⟩ v) (lane ⟨c.val / 128, by omega⟩ ⟨c.val % 128, by omega⟩))
    (fun v => S (token ⟨p.val / 4 / 16, by omega⟩ ⟨p.val / 4 % 16 / 2, by omega⟩ v) (lane ⟨c.val / 128, by omega⟩ ⟨c.val % 128, by omega⟩))
    (ix2 ⟨p.val / 4 % 16 / 2, by omega⟩ ⟨c.val % 128, by omega⟩) (fun v => hy _ _ v _ _) ⟨p.val / 4 % 2, by omega⟩
    ⟨2 * (p.val % 4) + e.val, by omega⟩ j
  refine b.trans ?_
  have l : lane ⟨c.val / 128, by omega⟩ ⟨c.val % 128, by omega⟩ = c := Fin.ext (by simp; omega)
  have t : ∀ v, token ⟨p.val / 4 / 16, by omega⟩ ⟨p.val / 4 % 16 / 2, by omega⟩ ⟨8 * (p.val / 4 % 2) + (2 * (p.val % 4) + e.val), v⟩ = ⟨2 * p.val + e.val, by omega⟩ :=
    fun v => Fin.ext (by simp; omega)
  simp only [l, t]
  by_cases z : e.val = 0
  · simp only [z, if_true, Nat.add_zero]
  · have o : e.val = 1 := by omega
    simp only [o, if_false, one_ne_zero]

variable (signs : Vec Ideal S1x32 .f32) (sg : Fin 32 → ℝ) (x : Vec Ideal S1920x256 .bf16) (T : Fin 1920 → Fin 256 → ℝ)
variable (hs : ∀ j, signs (ix2 0 j) = (sg j : EReal)) (hx : ∀ t c, x (ix2 t c) = (T t c : EReal))
  (bs : ∀ j, |sg j| ≤ 2 ^ (60 : ℤ)) (bx : ∀ t c, |T t c| ≤ 2 ^ (60 : ℤ))

include hs hx bs bx

/-- The first operand's codes. -/
theorem codesX_at (c : Fin 256) (p : Fin 960) :
    codesX (rotation signs) x (ix2 c p) = byteOf (nearAt sg (col T c)) (negAt sg (col T c)) p :=
  codes_at _ _ _ (wordsX_hold signs sg x T hs hx bs bx) c p

/-- The second operand's codes. -/
theorem codesY_at (r : Vec Ideal S1920x256 .i8) (c : Fin 256) (p : Fin 960) :
    codesY (rotation signs) x r (ix2 c p) = byteOf (randAt sg (col T c) (fun t => r (ix2 t c))) (negAt sg (col T c)) p :=
  codes_at _ _ _ (wordsY_hold signs sg x T hs hx bs bx (randsG (F := Ideal) r) (fun t c => r (ix2 t c)) (fun k h v b l => randBits_at r k h v b l)) c p

end Cert.KernelIdeal.Body

end
-- ==== Proof.Value.Entry.lean ====
/- The windows' input blocks, read out of the arguments. -/
module

public import proofs.«01_k».proof.Proof.Run
public import Idealize.ShloMosaic.Lib.Pipeline.ValueKit.Geometry
public import Idealize.ShloMosaic.Lib.Pointwise

@[expose] public section

set_option maxRecDepth 4096

noncomputable section

namespace Cert.KernelIdeal.Run

open Idealize.ShloMosaic Idealize.ShloMosaic.TcCoe
open Cert.KernelIdeal Cert.KernelIdeal.Gen Cert.KernelIdeal.Body

variable {F : FTy → Type} [FloatOps F]
variable (m : (ℓ : Loc nD τ sig) → Buf (Elt F) ℓ)

/-- The region finds the arguments reshaped. -/
theorem V_x (c : Dev nD) : V m c main_v0 = shapeCast S1920x2048 (m ((c : Thread nD τ).loc main_arg0) : Vec F S3x640x2048 .bf16) shapeCasts_S3x640x2048_S1920x2048 := by
  dsimp only [V]
  simp only [StableHlo.after_cons, StableHlo.after_nil]
  rw [StableHlo.reshape_result_ne', StableHlo.reshape_result_ne', StableHlo.reshape_result_ne', StableHlo.reshape_result']
  all_goals first | rfl | decide

theorem V_y (c : Dev nD) : V m c main_v1 = shapeCast S1920x5632 (m ((c : Thread nD τ).loc main_arg1) : Vec F S3x640x5632 .bf16) shapeCasts_S3x640x5632_S1920x5632 := by
  dsimp only [V]
  simp only [StableHlo.after_cons, StableHlo.after_nil]
  rw [StableHlo.reshape_result_ne', StableHlo.reshape_result_ne', StableHlo.reshape_result']
  all_goals first | rfl | decide

theorem V_r (c : Dev nD) : V m c main_v2 = shapeCast S1920x5632 (m ((c : Thread nD τ).loc main_arg3) : Vec F S3x640x5632 .i8) shapeCasts_S3x640x5632_S1920x5632 := by
  dsimp only [V]
  simp only [StableHlo.after_cons, StableHlo.after_nil]
  rw [StableHlo.reshape_result_ne', StableHlo.reshape_result']
  all_goals first | rfl | decide

theorem V_s (c : Dev nD) : V m c main_v3 = shapeCast S1x32 (m ((c : Thread nD τ).loc main_arg2) : Vec F S32 .f32) shapeCasts_S32_S1x32 := by
  dsimp only [V]
  simp only [StableHlo.after_cons, StableHlo.after_nil]
  rw [StableHlo.reshape_result']
  all_goals first | rfl | decide

/-- Where each input's block lies. -/
theorem index_x : ∀ t : Fin cfg0.N, win0_0.index t = ![0, min t.val 7] := by decide +kernel
theorem index_y : ∀ t : Fin cfg0.N, win0_1.index t = ![0, t.val - 8] := by decide +kernel
theorem index_s : ∀ t : Fin cfg0.N, win0_2.index t = ![0, 0] := by decide +kernel
theorem index_r : ∀ t : Fin cfg0.N, win0_3.index t = ![0, t.val - 8] := by decide +kernel

/-- A row of tokens split by its batch. -/
theorem split_x {α : Type} (x : S3x640x2048.Idx → α) (p : Fin 1920) (q : Fin 2048) :
    shapeCast S1920x2048 x shapeCasts_S3x640x2048_S1920x2048 (ix2 p q) = x (ix3 ⟨p.val / 640, by omega⟩ ⟨p.val % 640, by omega⟩ q) := by
  pointwise

theorem split_y {α : Type} (x : S3x640x5632.Idx → α) (p : Fin 1920) (q : Fin 5632) :
    shapeCast S1920x5632 x shapeCasts_S3x640x5632_S1920x5632 (ix2 p q) = x (ix3 ⟨p.val / 640, by omega⟩ ⟨p.val % 640, by omega⟩ q) := by
  pointwise

theorem split_s {α : Type} (x : S32.Idx → α) (j : Fin 32) : shapeCast S1x32 x shapeCasts_S32_S1x32 (ix2 0 j) = x (ix1 j) := by
  pointwise

theorem lt_30 (t : Fin cfg0.N) : t.val < 30 := lt_of_lt_of_eq t.isLt (show cfg0.N = 30 from N_0)

/-- The columns of the tiles quantised for the block written back at `t`. -/
def colX (t : Fin cfg0.N) (q : Fin 256) : Fin 2048 := ⟨256 * min t.val 7 + q.val, by omega⟩
def colY (t : Fin cfg0.N) (q : Fin 256) : Fin 5632 := ⟨256 * (t.val - 8) + q.val, by have := lt_30 t; omega⟩

/-- A tile of the first operand, by the argument. -/
theorem tileX_at (c : Dev nD) (t : Fin cfg0.N) (p : Fin 1920) (q : Fin 256) :
    tileX m c t (ix2 p q) = (m ((c : Thread nD τ).loc main_arg0) : Vec F S3x640x2048 .bf16)
      (ix3 ⟨p.val / 640, by omega⟩ ⟨p.val % 640, by omega⟩ (colX t q)) := by
  refine Eq.trans (b := V m c main_v0 (ix2 p (colX t q))) ?_ ?_
  · dsimp only [tileX]
    blk_simp [iblk]
    refine congrArg (V m c main_v0) ?_
    blk_ext [index_x, colX]
  · rw [V_x]
    exact split_x _ _ _

/-- A tile of the second operand, by the argument. -/
theorem tileY_at (c : Dev nD) (t : Fin cfg0.N) (p : Fin 1920) (q : Fin 256) :
    tileY m c t (ix2 p q) = (m ((c : Thread nD τ).loc main_arg1) : Vec F S3x640x5632 .bf16)
      (ix3 ⟨p.val / 640, by omega⟩ ⟨p.val % 640, by omega⟩ (colY t q)) := by
  refine Eq.trans (b := V m c main_v1 (ix2 p (colY t q))) ?_ ?_
  · dsimp only [tileY]
    blk_simp [iblk]
    refine congrArg (V m c main_v1) ?_
    blk_ext [index_y, colY]
  · rw [V_y]
    exact split_y _ _ _

/-- A tile of the random bytes, by the argument. -/
theorem tileR_at (c : Dev nD) (t : Fin cfg0.N) (p : Fin 1920) (q : Fin 256) :
    tileR m c t (ix2 p q) = (m ((c : Thread nD τ).loc main_arg3) : Vec F S3x640x5632 .i8)
      (ix3 ⟨p.val / 640, by omega⟩ ⟨p.val % 640, by omega⟩ (colY t q)) := by
  refine Eq.trans (b := V m c main_v2 (ix2 p (colY t q))) ?_ ?_
  · dsimp only [tileR]
    blk_simp [iblk]
    refine congrArg (V m c main_v2) ?_
    blk_ext [index_r, colY]
  · rw [V_r]
    exact split_y _ _ _

/-- The signs, by the argument. -/
theorem signsAt_at (c : Dev nD) (j : Fin 32) : signsAt m c (ix2 0 j) = (m ((c : Thread nD τ).loc main_arg2) : Vec F S32 .f32) (ix1 j) := by
  refine Eq.trans (b := V m c main_v3 (ix2 0 j)) ?_ ?_
  · dsimp only [signsAt]
    blk_simp [iblk]
    refine congrArg (V m c main_v3) ?_
    blk_ext [index_s]
  · rw [V_s]
    exact split_s _ _

end Cert.KernelIdeal.Run

end
-- ==== Proof.Value.Final.lean ====
/- The kernel's results, by the arguments, on the extended reals. -/
module

public import proofs.«01_k».proof.Proof.Value.Codes
public import proofs.«01_k».proof.Proof.Value.Entry

@[expose] public section

set_option maxRecDepth 4096

noncomputable section

namespace Cert.KernelIdeal.Run

open Idealize.ShloMosaic Idealize.ShloMosaic.TcCoe Cert.Math
open Cert.KernelIdeal Cert.KernelIdeal.Gen Cert.KernelIdeal.Body

variable (m : (ℓ : Loc nD τ sig) → Buf (Elt Ideal) ℓ) (c : Dev nD)

/-- The arguments as real numbers in range: tokens by columns. -/
structure Reals (sg : Fin 32 → ℝ) (X : Fin 1920 → Fin 2048 → ℝ) (Y : Fin 1920 → Fin 5632 → ℝ) : Prop where
  s : ∀ j, (m ((c : Thread nD τ).loc main_arg2) : Vec Ideal S32 .f32) (ix1 j) = (sg j : EReal)
  x : ∀ t q, (m ((c : Thread nD τ).loc main_arg0) : Vec Ideal S3x640x2048 .bf16) (ix3 ⟨t.val / 640, by omega⟩ ⟨t.val % 640, by omega⟩ q) = (X t q : EReal)
  y : ∀ t q, (m ((c : Thread nD τ).loc main_arg1) : Vec Ideal S3x640x5632 .bf16) (ix3 ⟨t.val / 640, by omega⟩ ⟨t.val % 640, by omega⟩ q) = (Y t q : EReal)
  bs : ∀ j, |sg j| ≤ 2 ^ (60 : ℤ)
  bx : ∀ t q, |X t q| ≤ 2 ^ (60 : ℤ)
  b_y : ∀ t q, |Y t q| ≤ 2 ^ (60 : ℤ)

/-- The random byte of a token and a column. -/
def randOf (q : Fin 5632) (t : Fin 1920) : BitVec 8 :=
  (m ((c : Thread nD τ).loc main_arg3) : Vec Ideal S3x640x5632 .i8) (ix3 ⟨t.val / 640, by omega⟩ ⟨t.val % 640, by omega⟩ q)

variable {sg : Fin 32 → ℝ} {X : Fin 1920 → Fin 2048 → ℝ} {Y : Fin 1920 → Fin 5632 → ℝ}

/-- Where each output's block lies. -/
theorem index_dw : ∀ t : Fin cfg0.N, win0_4.index t = ![t.val - 8, 0] := by decide +kernel
theorem index_xc : ∀ t : Fin cfg0.N, win0_5.index t = ![min t.val 7, 0] := by decide +kernel
theorem index_xs : ∀ t : Fin cfg0.N, win0_6.index t = ![min t.val 7, 0] := by decide +kernel
theorem index_yc : ∀ t : Fin cfg0.N, win0_7.index t = ![t.val - 8, 0] := by decide +kernel
theorem index_ys : ∀ t : Fin cfg0.N, win0_8.index t = ![t.val - 8, 0] := by decide +kernel

theorem colX_ptX (t : Fin cfg0.N) (q : Fin 256) : colX (ptX t) q = colX t q := Fin.ext (by simp [colX, ptX])

/-- The blocks written back cover each result. -/
theorem covers4 : (cfg0.win 4).Covers := by decide +kernel
theorem covers5 : (cfg0.win 5).Covers := by decide +kernel
theorem covers6 : (cfg0.win 6).Covers := by decide +kernel
theorem covers7 : (cfg0.win 7).Covers := by decide +kernel
theorem covers8 : (cfg0.win 8).Covers := by decide +kernel

theorem flush_le (w : Fin cfg0.W) (hw : w.val = 4 ∨ w.val = 7 ∨ w.val = 8) (t : Fin cfg0.N) (hf : (cfg0.win w).flush t = true) : 8 ≤ t.val := by
  by_contra hn
  rw [flush_y w hw t (by omega)] at hf
  exact absurd hf (by decide)

theorem outXc_eq (t : Fin cfg0.N) : outXc m c t = codesX (rotation (signsAt m c)) (tileX m c t) := rfl
theorem outXs_eq (t : Fin cfg0.N) : outXs m c t = scalesOf (rotation (signsAt m c)) (tileX m c t) := rfl
theorem outYc_eq (t : Fin cfg0.N) : outYc m c t = codesY (rotation (signsAt m c)) (tileY m c t) (tileR m c t) := rfl
theorem outYs_eq (t : Fin cfg0.N) : outYs m c t = scalesOf (rotation (signsAt m c)) (tileY m c t) := rfl
theorem outDw_eq (t : Fin cfg0.N) : outDw m c t = productG (rowsY (rotation (signsAt m c)) (tileY m c t) (tileR m c t)) (joinSlabs (slabsX m c)) := rfl
theorem slabsX_eq (n : Fin 8) : slabsX m c n = slabG (quantX (rotation (signsAt m c)) (tileX m c (pt n.val (by omega)))) := rfl
theorem joinSlabs_at (Q : Fin 8 → Vec Ideal S1920x256 .bf16) (n : Fin 8) (q : Fin 1920) (l : Fin 256) : joinSlabs Q (ix3 n q l) = Q n (ix2 q l) := rfl

variable (h : Reals m c sg X Y)
include h

omit h in
theorem ptY_eq (t : Fin cfg0.N) (ht : 8 ≤ t.val) : ptY t = t := Fin.ext (by simp [ptY]; omega)

/-- The tiles of the operands as real numbers. -/
theorem tileX_coe (t : Fin cfg0.N) (p : Fin 1920) (q : Fin 256) : tileX m c (ptX t) (ix2 p q) = (X p (colX t q) : EReal) := by
  rw [tileX_at, colX_ptX, h.x]

theorem tileY_coe (t : Fin cfg0.N) (ht : 8 ≤ t.val) (p : Fin 1920) (q : Fin 256) : tileY m c (ptY t) (ix2 p q) = (Y p (colY t q) : EReal) := by
  rw [tileY_at, ptY_eq t ht, h.y]

omit h in
theorem tileR_coe (t : Fin cfg0.N) (ht : 8 ≤ t.val) (p : Fin 1920) (q : Fin 256) : tileR m c (ptY t) (ix2 p q) = randOf m c (colY t q) p := by
  rw [tileR_at, ptY_eq t ht]
  rfl

theorem signs_coe (j : Fin 32) : signsAt m c (ix2 0 j) = (sg j : EReal) := (signsAt_at m c j).trans (h.s j)

/-- What each point leaves. -/
theorem xs_block (t : Fin cfg0.N) (q : Fin 256) (g : Fin 60) :
    outXs m c (ptX t) (ix2 q g) = BitVec.ofNat 8 (exAt sg (fun p => X p (colX t q)) g + 1) := by
  rw [outXs_eq]
  exact scalesOf_at (signsAt m c) sg (tileX m c (ptX t)) (fun p q => X p (colX t q)) (signs_coe m c h) (tileX_coe m c h t) h.bs (fun _ _ => h.bx _ _) q g

theorem xc_block (t : Fin cfg0.N) (q : Fin 256) (g : Fin 960) :
    outXc m c (ptX t) (ix2 q g) = byteOf (nearAt sg (fun p => X p (colX t q))) (negAt sg (fun p => X p (colX t q))) g := by
  rw [outXc_eq]
  exact codesX_at (signsAt m c) sg (tileX m c (ptX t)) (fun p q => X p (colX t q)) (signs_coe m c h) (tileX_coe m c h t) h.bs (fun _ _ => h.bx _ _) q g

theorem ys_block (t : Fin cfg0.N) (ht : 8 ≤ t.val) (q : Fin 256) (g : Fin 60) :
    outYs m c (ptY t) (ix2 q g) = BitVec.ofNat 8 (exAt sg (fun p => Y p (colY t q)) g + 1) := by
  rw [outYs_eq]
  exact scalesOf_at (signsAt m c) sg (tileY m c (ptY t)) (fun p q => Y p (colY t q)) (signs_coe m c h) (tileY_coe m c h t ht) h.bs (fun _ _ => h.b_y _ _) q g

theorem yc_block (t : Fin cfg0.N) (ht : 8 ≤ t.val) (q : Fin 256) (g : Fin 960) :
    outYc m c (ptY t) (ix2 q g) = byteOf (randAt sg (fun p => Y p (colY t q)) (randOf m c (colY t q))) (negAt sg (fun p => Y p (colY t q))) g := by
  have e2 : randOf m c (colY t q) = fun p => tileR m c (ptY t) (ix2 p q) := funext fun p => (tileR_coe m c t ht p q).symm
  rw [outYc_eq, e2]
  exact codesY_at (signsAt m c) sg (tileY m c (ptY t)) (fun p q => Y p (colY t q)) (signs_coe m c h) (tileY_coe m c h t ht) h.bs (fun _ _ => h.b_y _ _)
    (tileR m c (ptY t)) q g

theorem dw_block (t : Fin cfg0.N) (ht : 8 ≤ t.val) (q : Fin 256) (g : Fin 2048) :
    outDw m c (ptY t) (ix2 q g) = (gradOf sg (fun p => X p g) (fun p => Y p (colY t q)) (randOf m c (colY t q)) : EReal) := by
  have e2 : randOf m c (colY t q) = fun p => tileR m c (ptY t) (ix2 p q) := funext fun p => (tileR_coe m c t ht p q).symm
  rw [outDw_eq, e2]
  refine productG_at _ _ q g _ _ (fun r => rows_at (signsAt m c) sg (tileY m c (ptY t)) (fun p q => Y p (colY t q)) (signs_coe m c h) (tileY_coe m c h t ht)
    h.bs (fun _ _ => h.b_y _ _) (tileR m c (ptY t)) q r) (fun r => ?_)
  have f := slab_at (signsAt m c) sg (tileX m c (pt (g.val / 256) (by omega))) (fun p q => X p (colX (pt (g.val / 256) (by omega)) q)) (signs_coe m c h)
    (fun p q => (tileX_at m c _ p q).trans (h.x _ _)) h.bs (fun _ _ => h.bx _ _) r ⟨g.val % 256, by omega⟩
  have e3 : colX (pt (g.val / 256) (by omega)) ⟨g.val % 256, by omega⟩ = g := Fin.ext (by simp [colX]; omega)
  have e4 : col (fun p q => X p (colX (pt (g.val / 256) (by omega)) q)) ⟨g.val % 256, by omega⟩ = fun p => X p g :=
    funext fun p => congrArg (X p) e3
  rw [e4] at f
  rw [joinSlabs_at, slabsX_eq]
  exact f

end Cert.KernelIdeal.Run

end
-- ==== Proof.Value.Arrays.lean ====
/- The kernel's result arrays, from the blocks each point leaves. -/
module

public import proofs.«01_k».proof.Proof.Value.Final

@[expose] public section

set_option maxRecDepth 4096

noncomputable section

namespace Cert.KernelIdeal.Run

open Idealize.ShloMosaic Idealize.ShloMosaic.TcCoe
open Cert.KernelIdeal Cert.KernelIdeal.Gen Cert.KernelIdeal.Body

variable (m : (ℓ : Loc nD τ sig) → Buf (Elt Ideal) ℓ) (c : Dev nD)

/-- The weight gradient. -/
theorem arr4 (G : S5632x2048.Idx → Elt Ideal .f32) (hG : ∀ t : Fin cfg0.N, 8 ≤ t.val → ∀ (q : Fin 256) (g : Fin 2048), outDw m c (ptY t) (ix2 q g) = G (ix2 (colY t q) g)) :
    (dats m 0 c).arrAt 4 cfg0.N = G := by
  refine (dats m 0 c).arrAt_eq_of_covers 4 _ covers4 fun t hf y => ?_
  refine (eq_of_heq (cast_heq _ _)).trans ?_
  rw [after0_4]
  have e : ∀ z : S256x2048.Idx, outDw m c (ptY t) z = G (ix2 (colY t (z 0)) (z 1)) := fun z =>
    (congrArg _ (eq_ix2 z)).trans (hG t (flush_le 4 (by decide) t hf) (z 0) (z 1))
  refine (e _).trans (congrArg G ?_)
  funext a
  match a with
  | ⟨0, _⟩ => exact Fin.ext (by blk_simp [index_dw, colY]; simp; omega)
  | ⟨1, _⟩ => exact Fin.ext (by blk_simp [index_dw]; rfl)

/-- The first operand's codes. -/
theorem arr5 (G : S2048x960.Idx → Elt Ideal .i8) (hG : ∀ t : Fin cfg0.N, ∀ (q : Fin 256) (g : Fin 960), outXc m c (ptX t) (ix2 q g) = G (ix2 (colX t q) g)) :
    (dats m 0 c).arrAt 5 cfg0.N = G := by
  refine (dats m 0 c).arrAt_eq_of_covers 5 _ covers5 fun t hf y => ?_
  refine (eq_of_heq (cast_heq _ _)).trans ?_
  rw [after0_5]
  have e : ∀ z : S256x960.Idx, outXc m c (ptX t) z = G (ix2 (colX t (z 0)) (z 1)) := fun z =>
    (congrArg _ (eq_ix2 z)).trans (hG t (z 0) (z 1))
  refine (e _).trans (congrArg G ?_)
  funext a
  match a with
  | ⟨0, _⟩ => exact Fin.ext (by blk_simp [index_xc, colX]; simp; omega)
  | ⟨1, _⟩ => exact Fin.ext (by blk_simp [index_xc]; rfl)

/-- The first operand's scales. -/
theorem arr6 (G : S2048x60.Idx → Elt Ideal .i8) (hG : ∀ t : Fin cfg0.N, ∀ (q : Fin 256) (g : Fin 60), outXs m c (ptX t) (ix2 q g) = G (ix2 (colX t q) g)) :
    (dats m 0 c).arrAt 6 cfg0.N = G := by
  refine (dats m 0 c).arrAt_eq_of_covers 6 _ covers6 fun t hf y => ?_
  refine (eq_of_heq (cast_heq _ _)).trans ?_
  rw [after0_6]
  have e : ∀ z : S256x60.Idx, outXs m c (ptX t) z = G (ix2 (colX t (z 0)) (z 1)) := fun z =>
    (congrArg _ (eq_ix2 z)).trans (hG t (z 0) (z 1))
  refine (e _).trans (congrArg G ?_)
  funext a
  match a with
  | ⟨0, _⟩ => exact Fin.ext (by blk_simp [index_xs, colX]; simp; omega)
  | ⟨1, _⟩ => exact Fin.ext (by blk_simp [index_xs]; rfl)

/-- The second operand's codes. -/
theorem arr7 (G : S5632x960.Idx → Elt Ideal .i8) (hG : ∀ t : Fin cfg0.N, 8 ≤ t.val → ∀ (q : Fin 256) (g : Fin 960), outYc m c (ptY t) (ix2 q g) = G (ix2 (colY t q) g)) :
    (dats m 0 c).arrAt 7 cfg0.N = G := by
  refine (dats m 0 c).arrAt_eq_of_covers 7 _ covers7 fun t hf y => ?_
  refine (eq_of_heq (cast_heq _ _)).trans ?_
  rw [after0_7]
  have e : ∀ z : S256x960.Idx, outYc m c (ptY t) z = G (ix2 (colY t (z 0)) (z 1)) := fun z =>
    (congrArg _ (eq_ix2 z)).trans (hG t (flush_le 7 (by decide) t hf) (z 0) (z 1))
  refine (e _).trans (congrArg G ?_)
  funext a
  match a with
  | ⟨0, _⟩ => exact Fin.ext (by blk_simp [index_yc, colY]; simp; omega)
  | ⟨1, _⟩ => exact Fin.ext (by blk_simp [index_yc]; rfl)

/-- The second operand's scales. -/
theorem arr8 (G : S5632x60.Idx → Elt Ideal .i8) (hG : ∀ t : Fin cfg0.N, 8 ≤ t.val → ∀ (q : Fin 256) (g : Fin 60), outYs m c (ptY t) (ix2 q g) = G (ix2 (colY t q) g)) :
    (dats m 0 c).arrAt 8 cfg0.N = G := by
  refine (dats m 0 c).arrAt_eq_of_covers 8 _ covers8 fun t hf y => ?_
  refine (eq_of_heq (cast_heq _ _)).trans ?_
  rw [after0_8]
  have e : ∀ z : S256x60.Idx, outYs m c (ptY t) z = G (ix2 (colY t (z 0)) (z 1)) := fun z =>
    (congrArg _ (eq_ix2 z)).trans (hG t (flush_le 8 (by decide) t hf) (z 0) (z 1))
  refine (e _).trans (congrArg G ?_)
  funext a
  match a with
  | ⟨0, _⟩ => exact Fin.ext (by blk_simp [index_ys, colY]; simp; omega)
  | ⟨1, _⟩ => exact Fin.ext (by blk_simp [index_ys]; rfl)

end Cert.KernelIdeal.Run

end
-- ==== Proof.Math.Table.lean ====
/- An array of two axes given at its coordinates. -/
module

public import Idealize.ShloMosaic.Lib.Pointwise

@[expose] public section

noncomputable section

namespace Cert.Math

open Idealize.ShloMosaic

/-- An array given at its coordinates. -/
def grid2 {a b : ℕ} {α : Type} (f : Fin a → Fin b → α) : (⟨2, ![a, b]⟩ : Shape).Idx → α := fun i => f (i 0) (i 1)

/-- An array is the one its elements give. -/
theorem eq_grid2 {a b : ℕ} {α : Type} (A : (⟨2, ![a, b]⟩ : Shape).Idx → α) (f : Fin a → Fin b → α) (h : ∀ i j, A (ix2 i j) = f i j) : A = grid2 f := by
  funext i
  have e : i = ix2 (i 0) (i 1) := by
    funext x
    match x with
    | ⟨0, _⟩ => rfl
    | ⟨1, _⟩ => rfl
  exact (congrArg A e).trans (h _ _)

end Cert.Math

end
-- ==== Proof.Value.Results.lean ====
/- The kernel's result arrays, by the arguments, on the extended reals. -/
module

public import proofs.«01_k».proof.Proof.Value.Arrays
public import proofs.«01_k».proof.Proof.Math.Table

@[expose] public section

noncomputable section

namespace Cert.KernelIdeal.Run

open Idealize.ShloMosaic Idealize.ShloMosaic.TcCoe Cert.Math
open Cert.KernelIdeal Cert.KernelIdeal.Gen Cert.KernelIdeal.Body

variable (m : (ℓ : Loc nD τ sig) → Buf (Elt Ideal) ℓ) (c : Dev nD)
variable {sg : Fin 32 → ℝ} {X : Fin 1920 → Fin 2048 → ℝ} {Y : Fin 1920 → Fin 5632 → ℝ} (h : Reals m c sg X Y)
include h

/-- The weight gradient, and the codes and scales of the two operands. -/
theorem final_dw : (dats m 0 c).arrAt 4 cfg0.N = (grid2 fun n k => (gradOf sg (fun p => X p k) (fun p => Y p n) (randOf m c n) : EReal) : S5632x2048.Idx → EReal) :=
  arr4 m c _ fun t ht q g => dw_block m c h t ht q g
theorem final_xc : (dats m 0 c).arrAt 5 cfg0.N = (grid2 fun k p => byteOf (nearAt sg fun t => X t k) (negAt sg fun t => X t k) p : S2048x960.Idx → BitVec 8) :=
  arr5 m c _ fun t q g => xc_block m c h t q g
theorem final_xs : (dats m 0 c).arrAt 6 cfg0.N = (grid2 fun k g => BitVec.ofNat 8 (exAt sg (fun t => X t k) g + 1) : S2048x60.Idx → BitVec 8) :=
  arr6 m c _ fun t q g => xs_block m c h t q g
theorem final_yc : (dats m 0 c).arrAt 7 cfg0.N = (grid2 fun n p => byteOf (randAt sg (fun t => Y t n) (randOf m c n)) (negAt sg fun t => Y t n) p : S5632x960.Idx → BitVec 8) :=
  arr7 m c _ fun t ht q g => yc_block m c h t ht q g
theorem final_ys : (dats m 0 c).arrAt 8 cfg0.N = (grid2 fun n g => BitVec.ofNat 8 (exAt sg (fun t => Y t n) g + 1) : S5632x60.Idx → BitVec 8) :=
  arr8 m c _ fun t ht q g => ys_block m c h t ht q g

end Cert.KernelIdeal.Run

end
-- ==== Proof.Math.Scale.lean ====
/- A block's rotation, largest magnitude, exponent and scaled numbers, from the words and constants they are written with. -/
module

public import proofs.«01_k».proof.Proof.Math.Column
public import Idealize.ShloMosaic.Lib.Pointwise

@[expose] public section

noncomputable section

namespace Cert.Math

open Idealize.ShloMosaic

set_option maxRecDepth 20000 in
/-- The sign of an entry of the rotation, from the number of ones two indices share. -/
theorem had_word : ∀ i j : Fin 32, IntOp.subi 1#32 (IntOp.muli 2#32 (IntOp.andi (IntOp.ctpop (IntOp.andi (BitVec.ofNat 32 i.val) (BitVec.ofNat 32 j.val))) 1#32))
    = hadW i.val j.val := by decide +kernel

/-- A rotated number, scaled. -/
theorem rot_sum (sg x : Fin 32 → ℝ) (i : Fin 32) :
    (∑ j : Fin 32, (x j : EReal) * (((((hadW i.val j.val).toInt : ℝ) : EReal) * (sg j : EReal)) * (nu : EReal))) = ((rotR sg x i * nu : ℝ) : EReal) := by
  unfold rotR had
  rw [Finset.sum_mul, coe_sum]
  refine Finset.sum_congr rfl fun j _ => ?_
  rw [← EReal.coe_mul, ← EReal.coe_mul, ← EReal.coe_mul]
  congr 1
  ring

theorem ofBits_bot : Ideal.ofBits .f32 4286578688#32 = (⊥ : EReal) := by
  simp [Ideal.ofBits, Ideal.ieee]

/-- The largest magnitude, as a fold. -/
theorem fold_max (s : Fin 32 → ℝ) :
    (Finset.univ.fold max (⊥ : EReal) fun i => ((|s i| : ℝ) : EReal)) = (maxAbs s : EReal) := by
  apply le_antisymm
  · rw [Finset.fold_max_le]
    exact ⟨bot_le, fun i _ => EReal.coe_le_coe_iff.mpr (le_maxAbs s i)⟩
  · rw [Finset.le_fold_max]
    right
    obtain ⟨i, hi, e⟩ := Finset.exists_mem_eq_sup' (s := Finset.univ) ⟨(0 : Fin 32), Finset.mem_univ _⟩ fun i => |s i|
    exact ⟨i, hi, EReal.coe_le_coe_iff.mpr (le_of_eq e)⟩

/-- Scaling a block scales its largest magnitude. -/
theorem maxAbs_mul (s : Fin 32 → ℝ) : maxAbs (fun i => s i * nu) = maxAbs s * nu := by
  symm
  refine eq_maxAbs _ _ fun b => ?_
  rw [← le_div_iff₀ nu_pos, maxAbs_le]
  refine forall_congr' fun i => ?_
  rw [le_div_iff₀ nu_pos, abs_mul, abs_of_pos nu_pos]

theorem ofBits_two : Ideal.ofBits .f32 1073741824#32 = ((2 : ℝ) : EReal) := by
  simp [Ideal.ofBits, Ideal.ieee, -EReal.coe_mul]; norm_num

/-- A power of two with an integer exponent. -/
theorem pow_word (w : BitVec 32) : Ideal.pow (Ideal.ofBits .f32 1073741824#32) ((w.toInt : ℝ) : EReal) = (((2 : ℝ) ^ w.toInt : ℝ) : EReal) := by
  rw [ofBits_two, Ideal.pow_coe_coe]
  exact congrArg _ (Real.rpow_intCast 2 w.toInt)

set_option maxRecDepth 20000 in
theorem index_toInt : ∀ k : Fin 254, (IntOp.addi 4294967170#32 (BitVec.ofNat 32 k.val)).toInt = (k.val : ℤ) - 126 := by decide +kernel

/-- The number of powers a real reaches, as a fold. -/
theorem fold_count (f : ℝ) : (Finset.univ.fold IntOp.addi 0#32 fun k : Fin 254 =>
    (Ideal.cmp .oge (f : EReal) (Ideal.pow (Ideal.ofBits .f32 1073741824#32) (((IntOp.addi 4294967170#32 (BitVec.ofNat 32 k.val)).toInt : ℝ) : EReal))).setWidth 32)
    = BitVec.ofNat 32 (expCount f) := by
  classical
  refine (IndicatorCount.fold_addi_setWidth_eq_card (w := 32) (fun k : Fin 254 => Ideal.cmp .oge (f : EReal)
    (Ideal.pow (Ideal.ofBits .f32 1073741824#32) (((IntOp.addi 4294967170#32 (BitVec.ofNat 32 k.val)).toInt : ℝ) : EReal))) Finset.univ).trans ?_
  congr 1
  rw [← card_pow2 f]
  congr 1
  ext k
  simp only [Finset.mem_filter, Finset.mem_univ, true_and]
  rw [pow_word, index_toInt]
  show BitVec.ofBool (decide (((2 : ℝ) ^ ((k.val : ℤ) - 126) : ℝ) ≤ (f : EReal))) = 1#1 ↔ _
  simp only [EReal.coe_le_coe_iff]
  unfold pow2
  by_cases q : (2 : ℝ) ^ ((k.val : ℤ) - 126) ≤ f <;> simp [q]

/-- A block's exponent. -/
theorem select_exponent (s : Fin 32 → ℝ) : Scalar.select (Ideal.cmp .oeq ((maxAbs s * nu : ℝ) : EReal) (Ideal.ofBits .f32 0#32)) 0#32
    (IntOp.subi (BitVec.ofNat 32 (expCount (maxAbs s * nu * kappa))) 126#32) = BitVec.ofNat 32 (efOf s) - 126#32 := by
  have z : Ideal.ofBits .f32 0#32 = ((0 : ℝ) : EReal) := by simp [Ideal.ofBits, Ideal.ieee]
  rw [z]
  show Scalar.select (BitVec.ofBool (decide (((maxAbs s * nu : ℝ) : EReal) = ((0 : ℝ) : EReal)))) _ _ = _
  simp only [EReal.coe_eq_coe_iff]
  unfold efOf
  by_cases h : maxAbs s = 0
  · simp [h, Scalar.select]
  · have : ¬ maxAbs s * nu = 0 := mul_ne_zero h nu_pos.ne'
    simp [h, this, Scalar.select, IntOp.subi]

set_option maxRecDepth 20000 in
theorem toInt_exponent : ∀ e : Fin 253, (BitVec.ofNat 32 e.val - 126#32).toInt = (e.val : ℤ) - 126 := by decide +kernel
set_option maxRecDepth 20000 in
theorem toInt_neg_exponent : ∀ e : Fin 253, (-(BitVec.ofNat 32 e.val - 126#32)).toInt = 126 - (e.val : ℤ) := by decide +kernel
set_option maxRecDepth 20000 in
/-- The byte a block's exponent is stored in. -/
theorem exponent_byte : ∀ e : Fin 253, BitVec.setWidth 8 (IntOp.addi (BitVec.ofNat 32 e.val - 126#32) 127#32) = BitVec.ofNat 8 (e.val + 1) := by decide +kernel

/-- A number of a block, scaled. -/
theorem scaled_word (s : Fin 32 → ℝ) (i : Fin 32) (h : efOf s ≤ 252) :
    ((s i * nu : ℝ) : EReal) * Ideal.pow (Ideal.ofBits .f32 1073741824#32) (((-(BitVec.ofNat 32 (efOf s) - 126#32)).toInt : ℝ) : EReal)
      = ((s i * nu * 2 ^ (126 - (efOf s : ℤ)) : ℝ) : EReal) := by
  rw [pow_word, toInt_neg_exponent ⟨efOf s, by omega⟩, ← EReal.coe_mul]

theorem ofBits_six : Ideal.ofBits .f32 1086324736#32 = ((6 : ℝ) : EReal) := by
  simp [Ideal.ofBits, Ideal.ieee, -EReal.coe_mul]; norm_num

/-- Its magnitude, which the limit of six does not change. -/
theorem clip_word (s : Fin 32 → ℝ) (i : Fin 32) (h : mOf s i < 6) :
    min ((|s i * nu * 2 ^ (126 - (efOf s : ℤ))| : ℝ) : EReal) (Ideal.ofBits .f32 1086324736#32) = (mOf s i : EReal) := by
  have e : |s i * nu * 2 ^ (126 - (efOf s : ℤ))| = mOf s i := by
    unfold mOf
    have q : (0 : ℝ) < 2 ^ (126 - (efOf s : ℤ)) := by positivity
    rw [abs_mul, abs_mul, abs_of_pos nu_pos, abs_of_pos q]
    ring
  rw [e, ofBits_six, ← coe_min, min_eq_left h.le]

/-- Scaling keeps the sign. -/
theorem scaled_neg (s : Fin 32 → ℝ) (i : Fin 32) : s i * nu * 2 ^ (126 - (efOf s : ℤ)) < 0 ↔ s i < 0 := by
  rw [mul_assoc]
  have q : (0 : ℝ) < nu * 2 ^ (126 - (efOf s : ℤ)) := mul_pos nu_pos (by positivity)
  constructor
  · intro h
    by_contra n
    exact absurd (mul_nonneg (not_lt.mp n) q.le) (not_le.mpr h)
  · intro h
    exact mul_neg_of_neg_of_pos h q

end Cert.Math

end
-- ==== Proof.Math.Code.lean ====
/- Codes and quantised numbers, from the words and constants they are written with. -/
module

public import proofs.«01_k».proof.Proof.Math.Scale
public import proofs.«01_k».proof.Proof.Math.Nibble

@[expose] public section

noncomputable section

namespace Cert.Math

open Idealize.ShloMosaic

theorem b025 : Ideal.ofBits .f32 1048576000#32 = ((0.25 : ℝ) : EReal) := by simp [Ideal.ofBits, Ideal.ieee, -EReal.coe_mul]; norm_num
theorem b050 : Ideal.ofBits .f32 1056964608#32 = ((0.5 : ℝ) : EReal) := by simp [Ideal.ofBits, Ideal.ieee, -EReal.coe_mul]; norm_num
theorem b075 : Ideal.ofBits .f32 1061158912#32 = ((0.75 : ℝ) : EReal) := by simp [Ideal.ofBits, Ideal.ieee, -EReal.coe_mul]; norm_num
theorem b125 : Ideal.ofBits .f32 1067450368#32 = ((1.25 : ℝ) : EReal) := by simp [Ideal.ofBits, Ideal.ieee, -EReal.coe_mul]; norm_num
theorem b150 : Ideal.ofBits .f32 1069547520#32 = ((1.5 : ℝ) : EReal) := by simp [Ideal.ofBits, Ideal.ieee, -EReal.coe_mul]; norm_num
theorem b175 : Ideal.ofBits .f32 1071644672#32 = ((1.75 : ℝ) : EReal) := by simp [Ideal.ofBits, Ideal.ieee, -EReal.coe_mul]; norm_num
theorem b250 : Ideal.ofBits .f32 1075838976#32 = ((2.5 : ℝ) : EReal) := by simp [Ideal.ofBits, Ideal.ieee, -EReal.coe_mul]; norm_num
theorem b300 : Ideal.ofBits .f32 1077936128#32 = ((3 : ℝ) : EReal) := by simp [Ideal.ofBits, Ideal.ieee, -EReal.coe_mul]; norm_num
theorem b350 : Ideal.ofBits .f32 1080033280#32 = ((3.5 : ℝ) : EReal) := by simp [Ideal.ofBits, Ideal.ieee, -EReal.coe_mul]; norm_num
theorem b400 : Ideal.ofBits .f32 1082130432#32 = ((4 : ℝ) : EReal) := by simp [Ideal.ofBits, Ideal.ieee, -EReal.coe_mul]; norm_num
theorem b500 : Ideal.ofBits .f32 1084227584#32 = ((5 : ℝ) : EReal) := by simp [Ideal.ofBits, Ideal.ieee, -EReal.coe_mul]; norm_num
theorem b256 : Ideal.ofBits .f32 998244352#32 = ((1 / 256 : ℝ) : EReal) := by simp [Ideal.ofBits, Ideal.ieee, -EReal.coe_mul]; norm_num

/-- A comparison's bit as a number. -/
theorem bit_word (p : Prop) [Decidable p] : BitVec.setWidth 32 (BitVec.ofBool (decide p)) = BitVec.ofNat 32 (if p then 1 else 0) := by
  by_cases h : p <;> simp [h]

theorem add_words (a b : ℕ) : IntOp.addi (BitVec.ofNat 32 a) (BitVec.ofNat 32 b) = BitVec.ofNat 32 (a + b) := by
  rw [BitVec.ofNat_add]
  rfl

/-- The nearest magnitude's index, from seven comparisons. -/
theorem near_count (m : ℝ) : IntOp.addi (IntOp.addi (IntOp.addi (IntOp.addi (IntOp.addi (IntOp.addi
      (BitVec.setWidth 32 (BitVec.ofBool (decide (Ideal.ofBits .f32 1048576000#32 < (m : EReal)))))
      (BitVec.setWidth 32 (BitVec.ofBool (decide (Ideal.ofBits .f32 1061158912#32 ≤ (m : EReal))))))
      (BitVec.setWidth 32 (BitVec.ofBool (decide (Ideal.ofBits .f32 1067450368#32 < (m : EReal))))))
      (BitVec.setWidth 32 (BitVec.ofBool (decide (Ideal.ofBits .f32 1071644672#32 ≤ (m : EReal))))))
      (BitVec.setWidth 32 (BitVec.ofBool (decide (Ideal.ofBits .f32 1075838976#32 < (m : EReal))))))
      (BitVec.setWidth 32 (BitVec.ofBool (decide (Ideal.ofBits .f32 1080033280#32 ≤ (m : EReal))))))
      (BitVec.setWidth 32 (BitVec.ofBool (decide (Ideal.ofBits .f32 1084227584#32 < (m : EReal)))))
    = BitVec.ofNat 32 (nearK m) := by
  simp only [bit_word, add_words, b025, b075, b125, b175, b250, b350, b500, EReal.coe_le_coe_iff, EReal.coe_lt_coe_iff]
  rfl

/-- The magnitude not above a number. -/
theorem floor_word (m : ℝ) : (if Ideal.ofBits .f32 1086324736#32 ≤ (m : EReal) then Ideal.ofBits .f32 1086324736#32
    else if Ideal.ofBits .f32 1082130432#32 ≤ (m : EReal) then Ideal.ofBits .f32 1082130432#32
    else if Ideal.ofBits .f32 1077936128#32 ≤ (m : EReal) then Ideal.ofBits .f32 1077936128#32
    else if Ideal.ofBits .f32 1073741824#32 ≤ (m : EReal) then Ideal.ofBits .f32 1073741824#32
    else if Ideal.ofBits .f32 1069547520#32 ≤ (m : EReal) then Ideal.ofBits .f32 1069547520#32
    else if 1 ≤ (m : EReal) then Ideal.ofBits .f32 1065353216#32
    else if Ideal.ofBits .f32 1056964608#32 ≤ (m : EReal) then Ideal.ofBits .f32 1056964608#32 else 0) = (floorG m : EReal) := by
  have o : (1 : EReal) ≤ (m : EReal) ↔ 1 ≤ m := by rw [← EReal.coe_one, EReal.coe_le_coe_iff]
  simp only [ofBits_six, ofBits_two, b050, b150, b300, b400, EReal.coe_le_coe_iff, o, Ideal.ofBits_one_f32]
  unfold floorG
  split_ifs <;> first | rfl | exact EReal.coe_one.symm | exact EReal.coe_zero.symm

/-- The magnitude above it. -/
theorem ceil_word (m : ℝ) : (if Ideal.ofBits .f32 1086324736#32 ≤ (m : EReal) then Ideal.ofBits .f32 1086324736#32
    else if Ideal.ofBits .f32 1082130432#32 ≤ (m : EReal) then Ideal.ofBits .f32 1086324736#32
    else if Ideal.ofBits .f32 1077936128#32 ≤ (m : EReal) then Ideal.ofBits .f32 1082130432#32
    else if Ideal.ofBits .f32 1073741824#32 ≤ (m : EReal) then Ideal.ofBits .f32 1077936128#32
    else if Ideal.ofBits .f32 1069547520#32 ≤ (m : EReal) then Ideal.ofBits .f32 1073741824#32
    else if 1 ≤ (m : EReal) then Ideal.ofBits .f32 1069547520#32
    else if Ideal.ofBits .f32 1056964608#32 ≤ (m : EReal) then Ideal.ofBits .f32 1065353216#32
    else Ideal.ofBits .f32 1056964608#32) = (ceilG m : EReal) := by
  have o : (1 : EReal) ≤ (m : EReal) ↔ 1 ≤ m := by rw [← EReal.coe_one, EReal.coe_le_coe_iff]
  simp only [ofBits_six, ofBits_two, b050, b150, b300, b400, EReal.coe_le_coe_iff, o, Ideal.ofBits_one_f32]
  unfold ceilG
  split_ifs <;> first | rfl | exact EReal.coe_one.symm

theorem byte_toInt (u : BitVec 8) : (BitVec.setWidth 32 u).toInt = (u.toNat : ℤ) := by
  have h := u.isLt
  rw [BitVec.toInt_eq_toNat_of_lt (by rw [BitVec.toNat_setWidth]; omega), BitVec.toNat_setWidth, Nat.mod_eq_of_lt (by omega)]

/-- The share of the step between two magnitudes a number lies above the lower. -/
theorem share_word (m : ℝ) : Scalar.select (BitVec.ofBool (decide ((floorG m : EReal) < (ceilG m : EReal))))
      (Ideal.div ((m : EReal) - (floorG m : EReal)) (Scalar.select (BitVec.ofBool (decide ((floorG m : EReal) < (ceilG m : EReal))))
        ((ceilG m : EReal) - (floorG m : EReal)) (Ideal.ofBits .f32 1065353216#32))) (Ideal.ofBits .f32 0#32)
    = ((if floorG m < ceilG m then (m - floorG m) / (if floorG m < ceilG m then ceilG m - floorG m else 1) else 0 : ℝ) : EReal) := by
  have z : Ideal.ofBits .f32 0#32 = ((0 : ℝ) : EReal) := by simp [Ideal.ofBits, Ideal.ieee]
  simp only [EReal.coe_lt_coe_iff]
  rw [z]
  by_cases h : floorG m < ceilG m
  · have n : ceilG m - floorG m ≠ 0 := by linarith
    simp only [h, decide_true, if_true, Scalar.select, BitVec.ofBool_true]
    rw [← EReal.coe_sub, ← EReal.coe_sub, Ideal.div_coe n, ← EReal.coe_mul]
    congr 1
    ring
  · simp [h, Scalar.select]

/-- The randomly rounded magnitude's index, from eight comparisons. -/
theorem rand_count (m : ℝ) (u : BitVec 8) : IntOp.addi (IntOp.addi (IntOp.addi (IntOp.addi (IntOp.addi (IntOp.addi (IntOp.addi (IntOp.addi (0#32)
      (BitVec.setWidth 32 (BitVec.ofBool (decide (Ideal.ofBits .f32 1056964608#32 ≤ (m : EReal))))))
      (BitVec.setWidth 32 (BitVec.ofBool (decide (1 ≤ (m : EReal))))))
      (BitVec.setWidth 32 (BitVec.ofBool (decide (Ideal.ofBits .f32 1069547520#32 ≤ (m : EReal))))))
      (BitVec.setWidth 32 (BitVec.ofBool (decide (Ideal.ofBits .f32 1073741824#32 ≤ (m : EReal))))))
      (BitVec.setWidth 32 (BitVec.ofBool (decide (Ideal.ofBits .f32 1077936128#32 ≤ (m : EReal))))))
      (BitVec.setWidth 32 (BitVec.ofBool (decide (Ideal.ofBits .f32 1082130432#32 ≤ (m : EReal))))))
      (BitVec.setWidth 32 (BitVec.ofBool (decide (Ideal.ofBits .f32 1086324736#32 ≤ (m : EReal))))))
      (BitVec.setWidth 32 (BitVec.ofBool (decide (
        ((((BitVec.setWidth 32 u).toInt : ℝ) : EReal) + Ideal.ofBits .f32 1056964608#32) * Ideal.ofBits .f32 998244352#32 <
        Scalar.select (BitVec.ofBool (decide ((floorG m : EReal) < (ceilG m : EReal))))
          (Ideal.div ((m : EReal) - (floorG m : EReal)) (Scalar.select (BitVec.ofBool (decide ((floorG m : EReal) < (ceilG m : EReal))))
            ((ceilG m : EReal) - (floorG m : EReal)) (Ideal.ofBits .f32 1065353216#32))) (Ideal.ofBits .f32 0#32)))))
    = BitVec.ofNat 32 (randK m (((u.toNat : ℝ) + 1 / 2) * (1 / 256))) := by
  have o : (1 : EReal) ≤ (m : EReal) ↔ 1 ≤ m := by rw [← EReal.coe_one, EReal.coe_le_coe_iff]
  have half : (0.5 : ℝ) = 1 / 2 := by norm_num
  rw [share_word, byte_toInt, b256, Int.cast_natCast]
  simp only [bit_word, add_words, ofBits_six, ofBits_two, b050, b150, b300, b400, ← EReal.coe_add, ← EReal.coe_mul, EReal.coe_le_coe_iff,
    EReal.coe_lt_coe_iff, zero_add, o]
  unfold randK floorK
  rw [half]

/-- A code with its sign, zero unsigned, as a word. -/
theorem nib_word : ∀ (k : Fin 8) (s : Bool), IntOp.ori (BitVec.ofNat 32 k.val) (IntOp.shli ArithUnit.host (BitVec.setWidth 32
    (IntOp.andi (BitVec.ofBool s) (IntOp.cmpi .sgt (BitVec.ofNat 32 k.val) 0#32))) 3#32) = (nib k.val s).setWidth 32 := by decide

theorem nib_index : ∀ (k j : Fin 8) (s : Bool), IntOp.cmpi .sge (IntOp.andi ((nib k.val s).setWidth 32) 7#32) (BitVec.ofNat 32 j.val)
    = BitVec.ofBool (decide (j.val ≤ k.val)) := by decide

theorem nib_sign : ∀ (k : Fin 8) (s : Bool), IntOp.cmpi .ne (IntOp.andi ((nib k.val s).setWidth 32) 8#32) 0#32
    = BitVec.ofBool (s && decide (0 < k.val)) := by decide

/-- Two codes in a byte, from their words. -/
theorem pair_word : ∀ a b : BitVec 4, BitVec.setWidth 8 (IntOp.ori (a.setWidth 32) (IntOp.shli ArithUnit.host (b.setWidth 32) 4#32)) = nibPair a b := by
  decide +kernel

theorem h600 : Ideal.ofBits .bf16 16576#16 = ((6 : ℝ) : EReal) := by simp [Ideal.ofBits, Ideal.ieee, -EReal.coe_mul]; norm_num
theorem h400 : Ideal.ofBits .bf16 16512#16 = ((4 : ℝ) : EReal) := by simp [Ideal.ofBits, Ideal.ieee, -EReal.coe_mul]; norm_num
theorem h300 : Ideal.ofBits .bf16 16448#16 = ((3 : ℝ) : EReal) := by simp [Ideal.ofBits, Ideal.ieee, -EReal.coe_mul]; norm_num
theorem h200 : Ideal.ofBits .bf16 16384#16 = ((2 : ℝ) : EReal) := by simp [Ideal.ofBits, Ideal.ieee, -EReal.coe_mul]; norm_num
theorem h150 : Ideal.ofBits .bf16 16320#16 = ((1.5 : ℝ) : EReal) := by simp [Ideal.ofBits, Ideal.ieee, -EReal.coe_mul]; norm_num
theorem h050 : Ideal.ofBits .bf16 16128#16 = ((0.5 : ℝ) : EReal) := by simp [Ideal.ofBits, Ideal.ieee, -EReal.coe_mul]; norm_num

/-- The magnitude of a code's index. -/
theorem mag_word (k : Fin 8) (s : Bool) (w : BitVec 32) (hw : w = (nib k.val s).setWidth 32) :
    Scalar.select (IntOp.cmpi .sge (IntOp.andi w 7#32) 7#32) (Ideal.ofBits .bf16 16576#16)
      (Scalar.select (IntOp.cmpi .sge (IntOp.andi w 7#32) 6#32) (Ideal.ofBits .bf16 16512#16)
      (Scalar.select (IntOp.cmpi .sge (IntOp.andi w 7#32) 5#32) (Ideal.ofBits .bf16 16448#16)
      (Scalar.select (IntOp.cmpi .sge (IntOp.andi w 7#32) 4#32) (Ideal.ofBits .bf16 16384#16)
      (Scalar.select (IntOp.cmpi .sge (IntOp.andi w 7#32) 3#32) (Ideal.ofBits .bf16 16320#16)
      (Scalar.select (IntOp.cmpi .sge (IntOp.andi w 7#32) 2#32) (1 : EReal)
      (Scalar.select (IntOp.cmpi .sge (IntOp.andi w 7#32) 1#32) (Ideal.ofBits .bf16 16128#16) 0)))))) = (grid k.val : EReal) := by
  subst hw
  have q := fun j => nib_index k j s
  have q1 := q 1; have q2 := q 2; have q3 := q 3; have q4 := q 4; have q5 := q 5; have q6 := q 6; have q7 := q 7
  clear q
  simp only [Fin.val_one, Fin.val_two, Fin.isValue] at q1 q2 q3 q4 q5 q6 q7
  erw [q1, q2, q3, q4, q5, q6, q7]
  rw [h600, h400, h300, h200, h150, h050]
  fin_cases k <;> simp [Scalar.select, grid]

/-- A quantised number, of its code's word and its block's exponent's word. -/
theorem num_word (k : Fin 8) (s : Bool) (w : BitVec 32) (hw : w = (nib k.val s).setWidth 32) (ef : ℕ) (he : ef ≤ 252) :
    Scalar.select (IntOp.cmpi .ne (IntOp.andi w 8#32) 0#32) (-(grid k.val : EReal)) (grid k.val : EReal)
      * Ideal.pow (Ideal.ofBits .f32 1073741824#32) (((BitVec.ofNat 32 ef - 126#32).toInt : ℝ) : EReal) = (numOf k.val s ef : EReal) := by
  subst hw
  rw [nib_sign, pow_word, toInt_exponent ⟨ef, by omega⟩]
  unfold numOf
  cases s
  · simp [Scalar.select]
  · by_cases h : 0 < k.val
    · simp only [h, decide_true, Bool.and_self, Scalar.select, BitVec.ofBool_true, if_true]
      rw [← EReal.coe_neg, ← EReal.coe_mul]
      congr 1
      ring
    · have : grid k.val = 0 := by unfold grid; rw [if_pos (by omega)]
      rw [this]
      simp [Scalar.select]

/-- A sum over the tokens, the even ones first. -/
theorem sum_even_odd (f : Fin 1920 → ℝ) :
    (∑ p : Fin 960, f ⟨2 * p.val, by omega⟩) + (∑ p : Fin 960, f ⟨2 * p.val + 1, by omega⟩) = ∑ t, f t := by
  rw [← Finset.sum_add_distrib, ← Equiv.sum_comp (finProdFinEquiv (m := 960) (n := 2)) f, Fintype.sum_prod_type]
  refine Finset.sum_congr rfl fun p _ => ?_
  rw [Fin.sum_univ_two]
  congr 1
  · exact congrArg f (Fin.ext (by simp [finProdFinEquiv]))
  · exact congrArg f (Fin.ext (by simp [finProdFinEquiv]; omega))

end Cert.Math

end
-- ==== Proof.Value.RefRotate.lean ====
/- The reference's rotated blocks, their largest magnitudes and exponents, on the extended reals. -/
module

public import proofs.«01_k».proof.Proof.Gen.ReferenceIdeal.Run
public import proofs.«01_k».proof.Proof.Math.Code
public import Idealize.ShloMosaic.Lib.Pointwise

@[expose] public section

set_option maxRecDepth 8192

noncomputable section

namespace Cert.ReferenceIdeal.Value

open Idealize.ShloMosaic Idealize.ShloMosaic.TcCoe Cert.Math
open Cert.ReferenceIdeal Facts₀ Facts

variable [Facts] (V0 : Valuation τ sig (Elt Ideal))

/-- The reference's arguments hold real numbers within bounds. -/
structure Reals (sg : Fin 32 → ℝ) (X : Fin 1920 → Fin 2048 → ℝ) (Y : Fin 1920 → Fin 5632 → ℝ) : Prop where
  s : ∀ j, V0 (Proc.devRef .tc main_arg2) (ix1 j) = ((sg j : ℝ) : EReal)
  x : ∀ t q, V0 (Proc.devRef .tc main_arg0) (ix3 (⟨t.val / 640, by omega⟩ : Fin 3) (⟨t.val % 640, by omega⟩ : Fin 640) q) = ((X t q : ℝ) : EReal)
  y : ∀ t q, V0 (Proc.devRef .tc main_arg1) (ix3 (⟨t.val / 640, by omega⟩ : Fin 3) (⟨t.val % 640, by omega⟩ : Fin 640) q) = ((Y t q : ℝ) : EReal)
  bs : ∀ j, |sg j| ≤ 2 ^ (60 : ℤ)
  bx : ∀ t q, |X t q| ≤ 2 ^ (60 : ℤ)
  b_y : ∀ t q, |Y t q| ≤ 2 ^ (60 : ℤ)

/-- A fold over the last axis of an array of three is a fold over its coordinate. -/
theorem fold_last {α : Type} {a b n : ℕ} (op : α → α → α) [Std.Commutative op] [Std.Associative op]
    (hr : (⟨3, ![a, b, n]⟩ : Shape).Reduces [2] ⟨2, ![a, b]⟩) (h : (⟨3, ![a, b, n]⟩ : Shape).ReducesTo [2] ⟨2, ![a, b]⟩)
    (init : α) (f : (⟨3, ![a, b, n]⟩ : Shape).Idx → α) (i : Fin a) (j : Fin b) :
    Finset.fold op init f {k | h.drop k = ix2 i j} = Finset.univ.fold op init fun k : Fin n => f (ix3 i j k) := by
  rw [Shape.ReducesTo.drop_eq_drop h hr]
  refine (Shape.Reduces.fold_filter_drop_single hr op init f (ix2 i j)).trans ?_
  refine Finset.fold_congr fun k _ => congrArg f ?_
  funext x
  match x with
  | ⟨0, _⟩ => rfl
  | ⟨1, _⟩ => rfl
  | ⟨2, _⟩ => rfl

/-- The rotation's entries. -/
theorem v18_at (sg : Fin 32 → ℝ) (hs : ∀ j, V0 (Proc.devRef .tc main_arg2) (ix1 j) = ((sg j : ℝ) : EReal)) (i j : Fin 32) :
    res_main_v18 V0 (ix2 i j) = ((((((hadW i.val j.val).toInt : ℝ) : EReal) * (sg j : EReal)) * (nu : EReal) : EReal)) := by
  pointwise [res_main_v18, res_main_v0]
  rw [hs, ofBits_nu, had_word]
  rfl

variable {V0} {sg : Fin 32 → ℝ} {X : Fin 1920 → Fin 2048 → ℝ} {Y : Fin 1920 → Fin 5632 → ℝ} (h : Reals V0 sg X Y)
include h

/-- The first operand's rotated blocks. -/
theorem v22_at (q : Fin 2048) (g : Fin 60) (i : Fin 32) :
    res_main_v22 V0 (ix3 q g i) = ((rotBlock sg (fun t => X t q) g i * nu : ℝ) : EReal) := by
  pointwise [res_main_v22]
  show @Eq EReal _ _
  refine Eq.trans ?_ (rot_sum sg (fun j => X ⟨32 * g.val + j.val, by omega⟩ q) i)
  refine Finset.sum_congr rfl fun j _ => ?_
  rw [v18_at V0 sg h.s, ← h.x]
  congr 3
  · exact Fin.ext (by simp; omega)
  · exact Fin.ext (by simp; omega)

/-- The second operand's rotated blocks. -/
theorem v101_at (q : Fin 5632) (g : Fin 60) (i : Fin 32) :
    res_main_v101 V0 (ix3 q g i) = ((rotBlock sg (fun t => Y t q) g i * nu : ℝ) : EReal) := by
  pointwise [res_main_v101]
  show @Eq EReal _ _
  refine Eq.trans ?_ (rot_sum sg (fun j => Y ⟨32 * g.val + j.val, by omega⟩ q) i)
  refine Finset.sum_congr rfl fun j _ => ?_
  rw [v18_at V0 sg h.s, ← h.y]
  congr 3
  · exact Fin.ext (by simp; omega)
  · exact Fin.ext (by simp; omega)

/-- The first operand's largest magnitudes. -/
theorem v24_at (q : Fin 2048) (g : Fin 60) : res_main_v24 V0 (ix2 q g) = ((maxAbs (rotBlock sg (fun t => X t q) g) * nu : ℝ) : EReal) := by
  pointwise [res_main_v24]
  show @Eq EReal _ _
  rw [ofBits_bot]
  refine (fold_last (max : EReal → EReal → EReal) (by decide) _ _ _ q g).trans ?_
  rw [← maxAbs_mul, ← fold_max]
  refine Finset.fold_congr fun i _ => ?_
  rw [v22_at h, coe_abs]
  rfl

/-- The second operand's largest magnitudes. -/
theorem v103_at (q : Fin 5632) (g : Fin 60) : res_main_v103 V0 (ix2 q g) = ((maxAbs (rotBlock sg (fun t => Y t q) g) * nu : ℝ) : EReal) := by
  pointwise [res_main_v103]
  show @Eq EReal _ _
  rw [ofBits_bot]
  refine (fold_last (max : EReal → EReal → EReal) (by decide) _ _ _ q g).trans ?_
  rw [← maxAbs_mul, ← fold_max]
  refine Finset.fold_congr fun i _ => ?_
  rw [v101_at h, coe_abs]
  rfl

end Cert.ReferenceIdeal.Value

end
-- ==== Proof.Value.RefExponent.lean ====
/- The reference's block exponents, on the extended reals. -/
module

public import proofs.«01_k».proof.Proof.Value.RefRotate

@[expose] public section

set_option maxRecDepth 8192

noncomputable section

namespace Cert.ReferenceIdeal.Value

open Idealize.ShloMosaic Idealize.ShloMosaic.TcCoe Cert.Math
open Cert.ReferenceIdeal Facts₀ Facts

/-- A reduction over the last axis of an array of three is a fold over its coordinate. -/
theorem reduce_last {α : Type} {a b n : ℕ} {u : Shape} (op : α → α → α) [Std.Commutative op] [Std.Associative op]
    (hr : (⟨3, ![a, b, n]⟩ : Shape).Reduces [2] ⟨2, ![a, b]⟩) (h : (⟨3, ![a, b, n]⟩ : Shape).ReducesTo [2] ⟨2, ![a, b]⟩)
    (init : u.Idx → α) (hu : 0 < u.numel) (f : (⟨3, ![a, b, n]⟩ : Shape).Idx → α) (i : Fin a) (j : Fin b) :
    Host.reduce op f init h hu (ix2 i j) = Finset.univ.fold op (init (Shape.Idx.first hu)) fun k : Fin n => f (ix3 i j k) :=
  (Host.reduce_eq_fold op f init h hu (ix2 i j)).trans (fold_last op hr h _ f i j)

/-- A choice between two words, the second less a third, at an index. -/
theorem select_sub_at {s : Shape} (M z : FVec Ideal s .f32) (a b d : s.Idx → BitVec 32) (j : s.Idx) (z' : EReal) (a' d' : BitVec 32)
    (hz : z j = z') (ha : a j = a') (hd : d j = d') :
    select (cmpf .oeq M z) a (subi b d) j = Scalar.select (Ideal.cmp .oeq (M j) z') a' (IntOp.subi (b j) d') := by
  subst hz ha hd
  rfl

variable [Facts]

/-- A comparison of the blocks' numbers with a table, at an index. -/
theorem reach_x (M c : FVec Ideal S2048x60 .f32) (T : FVec Ideal S254 .f32) (q : Fin 2048) (g : Fin 60) (k : Fin 254) :
    extui 32 (cmpf .oge (broadcastInDim S2048x60x254 ![0, 1, 2] bcast_S2048x60x1_S2048x60x254_0_1_2
      (broadcastInDim S2048x60x1 ![0, 1] bcast_S2048x60_S2048x60x1_0_1 (mulf M c)))
      (broadcastInDim S2048x60x254 ![0, 1, 2] bcast_S1x1x254_S2048x60x254_0_1_2 (broadcastInDim S1x1x254 ![2] bcast_S254_S1x1x254_2 T))) natLt_1_32 (ix3 q g k)
    = (Ideal.cmp .oge (M (ix2 q g) * c (ix2 q g)) (T (ix1 k))).setWidth 32 := by
  pointwise

/-- A comparison of the blocks' numbers with a table, at an index. -/
theorem reach_y (M c : FVec Ideal S5632x60 .f32) (T : FVec Ideal S254 .f32) (q : Fin 5632) (g : Fin 60) (k : Fin 254) :
    extui 32 (cmpf .oge (broadcastInDim S5632x60x254 ![0, 1, 2] bcast_S5632x60x1_S5632x60x254_0_1_2
      (broadcastInDim S5632x60x1 ![0, 1] bcast_S5632x60_S5632x60x1_0_1 (mulf M c)))
      (broadcastInDim S5632x60x254 ![0, 1, 2] bcast_S1x1x254_S5632x60x254_0_1_2 (broadcastInDim S1x1x254 ![2] bcast_S254_S1x1x254_2 T))) natLt_1_32 (ix3 q g k)
    = (Ideal.cmp .oge (M (ix2 q g) * c (ix2 q g)) (T (ix1 k))).setWidth 32 := by
  pointwise

/-- The table: the powers of two. -/
theorem table_at (k : Fin 254) : (Host.powf (broadcastInDim S254 ![] bcast_S_S254 (constant (F := Ideal) S_ .f32 0x40000000#32))
    (sitofp .f32 (addi (broadcastInDim S254 ![] bcast_S_S254 (constantI S_ 32 4294967170#32)) (iotaInDim S254 32 0)))) (ix1 k)
    = Ideal.pow (Ideal.ofBits .f32 1073741824#32) (((IntOp.addi 4294967170#32 (BitVec.ofNat 32 k.val)).toInt : ℝ) : EReal) := rfl

variable {V0 : Valuation τ sig (Elt Ideal)} {sg : Fin 32 → ℝ} {X : Fin 1920 → Fin 2048 → ℝ} {Y : Fin 1920 → Fin 5632 → ℝ}
  (h : Reals V0 sg X Y)
include h

/-- The first operand's exponents. -/
theorem v44_at (q : Fin 2048) (g : Fin 60) : res_main_v44 V0 (ix2 q g) = BitVec.ofNat 32 (exAt sg (fun t => X t q) g) - 126#32 := by
  have c := v24_at h q g
  unfold res_main_v44
  refine (select_sub_at _ _ _ _ _ _ (Ideal.ofBits .f32 0#32) 0#32 126#32 rfl rfl rfl).trans ?_
  rw [reduce_last IntOp.addi (by decide), c]
  refine Eq.trans ?_ (select_exponent _)
  refine congrArg (fun w => Scalar.select _ _ (IntOp.subi w 126#32)) ?_
  refine Eq.trans ?_ (fold_count _)
  refine Finset.fold_congr fun k _ => ?_
  rw [EReal.coe_mul, ← c, ← ofBits_kappa]
  refine (reach_x _ _ _ q g k).trans (congrArg (BitVec.setWidth 32) (congrArg₂ (Ideal.cmp .oge) rfl (table_at k)))

/-- The second operand's exponents. -/
theorem v123_at (q : Fin 5632) (g : Fin 60) : res_main_v123 V0 (ix2 q g) = BitVec.ofNat 32 (exAt sg (fun t => Y t q) g) - 126#32 := by
  have c := v103_at h q g
  unfold res_main_v123
  refine (select_sub_at _ _ _ _ _ _ (Ideal.ofBits .f32 0#32) 0#32 126#32 rfl rfl rfl).trans ?_
  rw [reduce_last IntOp.addi (by decide), c]
  refine Eq.trans ?_ (select_exponent _)
  refine congrArg (fun w => Scalar.select _ _ (IntOp.subi w 126#32)) ?_
  refine Eq.trans ?_ (fold_count _)
  refine Finset.fold_congr fun k _ => ?_
  rw [EReal.coe_mul, ← c, ← ofBits_kappa]
  refine (reach_y _ _ _ q g k).trans (congrArg (BitVec.setWidth 32) (congrArg₂ (Ideal.cmp .oge) rfl (table_at k)))

end Cert.ReferenceIdeal.Value

end
-- ==== Proof.Value.RefCodes.lean ====
/- The reference's codes, on the extended reals. -/
module

public import proofs.«01_k».proof.Proof.Value.RefExponent

@[expose] public section

set_option maxRecDepth 8192

noncomputable section

namespace Cert.ReferenceIdeal.Value

open Idealize.ShloMosaic Idealize.ShloMosaic.TcCoe Cert.Math
open Cert.ReferenceIdeal Facts₀ Facts

/-- Place `i` of block `g`. -/
def tok (g : Fin 60) (i : Fin 32) : Fin 1920 := ⟨32 * g.val + i.val, by omega⟩

theorem blk_tok (g : Fin 60) (i : Fin 32) : blk (tok g i) = g := Fin.ext (by unfold blk tok; simp; omega)
theorem mem_tok (g : Fin 60) (i : Fin 32) : mem (tok g i) = i := Fin.ext (by unfold mem tok; simp)

/-- A token's magnitude and sign, by its block and its place. -/
theorem magAt_tok (sg : Fin 32 → ℝ) (x : Fin 1920 → ℝ) (g : Fin 60) (i : Fin 32) : magAt sg x (tok g i) = mOf (rotBlock sg x g) i := by
  unfold magAt
  rw [blk_tok, mem_tok]
theorem negAt_tok (sg : Fin 32 → ℝ) (x : Fin 1920 → ℝ) (g : Fin 60) (i : Fin 32) : negAt sg x (tok g i) = decide (rotBlock sg x g i < 0) := by
  unfold negAt
  rw [blk_tok, mem_tok]

/-- The random bytes of a column. -/
def bytes (V0 : Valuation τ sig (Elt Ideal)) (q : Fin 5632) (t : Fin 1920) : BitVec 8 :=
  V0 (Proc.devRef .tc main_arg3) (ix3 (⟨t.val / 640, by omega⟩ : Fin 3) (⟨t.val % 640, by omega⟩ : Fin 640) q)

variable [Facts] {V0 : Valuation τ sig (Elt Ideal)} {sg : Fin 32 → ℝ} {X : Fin 1920 → Fin 2048 → ℝ} {Y : Fin 1920 → Fin 5632 → ℝ}
  (h : Reals V0 sg X Y)
include h

/-- The first operand's scaled numbers. -/
theorem v51_at (q : Fin 2048) (g : Fin 60) (i : Fin 32) : res_main_v51 V0 (ix3 q g i)
    = ((rotBlock sg (fun t => X t q) g i * nu * 2 ^ (126 - (efOf (rotBlock sg (fun t => X t q) g) : ℤ)) : ℝ) : EReal) := by
  pointwise [res_main_v51]
  rw [v22_at h, v44_at h]
  exact scaled_word _ i (exAt_le sg _ h.bs (fun t => h.bx t q) g)

/-- The second operand's scaled numbers. -/
theorem v130_at (q : Fin 5632) (g : Fin 60) (i : Fin 32) : res_main_v130 V0 (ix3 q g i)
    = ((rotBlock sg (fun t => Y t q) g i * nu * 2 ^ (126 - (efOf (rotBlock sg (fun t => Y t q) g) : ℤ)) : ℝ) : EReal) := by
  pointwise [res_main_v130]
  rw [v101_at h, v123_at h]
  exact scaled_word _ i (exAt_le sg _ h.bs (fun t => h.b_y t q) g)

/-- The first operand's magnitudes. -/
theorem v54_at (q : Fin 2048) (g : Fin 60) (i : Fin 32) : res_main_v54 V0 (ix3 q g i) = ((magAt sg (fun t => X t q) (tok g i) : ℝ) : EReal) := by
  have l := magAt_lt sg _ h.bs (fun t => h.bx t q) (tok g i)
  rw [magAt_tok] at l ⊢
  pointwise [res_main_v54]
  rw [v51_at h]
  refine Eq.trans ?_ (clip_word _ i l)
  rw [coe_abs]
  rfl

/-- The second operand's magnitudes. -/
theorem v133_at (q : Fin 5632) (g : Fin 60) (i : Fin 32) : res_main_v133 V0 (ix3 q g i) = ((magAt sg (fun t => Y t q) (tok g i) : ℝ) : EReal) := by
  have l := magAt_lt sg _ h.bs (fun t => h.b_y t q) (tok g i)
  rw [magAt_tok] at l ⊢
  pointwise [res_main_v133]
  rw [v130_at h]
  refine Eq.trans ?_ (clip_word _ i l)
  rw [coe_abs]
  rfl

/-- The first operand's indices of magnitudes. -/
theorem v81_at (q : Fin 2048) (g : Fin 60) (i : Fin 32) :
    res_main_v81 V0 (ix3 q g i) = BitVec.ofNat 32 (nearAt sg (fun t => X t q) (tok g i)).val := by
  pointwise [res_main_v81]
  rw [v54_at h]
  exact near_count (magAt sg (fun t => X t q) (tok g i))

/-- The magnitudes about a number of the second operand. -/
theorem v203_at (q : Fin 5632) (g : Fin 60) (i : Fin 32) :
    res_main_v203 V0 (ix3 q g i) = ((floorG (magAt sg (fun t => Y t q) (tok g i)) : ℝ) : EReal) := by
  pointwise [res_main_v203]
  rw [v133_at h]
  exact floor_word _
theorem v206_at (q : Fin 5632) (g : Fin 60) (i : Fin 32) :
    res_main_v206 V0 (ix3 q g i) = ((ceilG (magAt sg (fun t => Y t q) (tok g i)) : ℝ) : EReal) := by
  pointwise [res_main_v206]
  rw [v133_at h]
  exact ceil_word _

/-- Whether they differ. -/
theorem v207_at (q : Fin 5632) (g : Fin 60) (i : Fin 32) :
    res_main_v207 V0 (ix3 q g i) = BitVec.ofBool (decide (((floorG (magAt sg (fun t => Y t q) (tok g i)) : ℝ) : EReal)
      < ((ceilG (magAt sg (fun t => Y t q) (tok g i)) : ℝ) : EReal))) := by
  pointwise [res_main_v207]
  rw [v203_at h, v206_at h]

/-- The second operand's indices of magnitudes. -/
theorem v221_at (q : Fin 5632) (g : Fin 60) (i : Fin 32) :
    res_main_v221 V0 (ix3 q g i) = BitVec.ofNat 32 (randAt sg (fun t => Y t q) (bytes V0 q) (tok g i)).val := by
  have b : bytes V0 q (tok g i) = V0 (Proc.devRef .tc main_arg3) (ix3 (⟨g.val / 20, by omega⟩ : Fin 3)
      (⟨g.val % 20 * 32 + i.val, by omega⟩ : Fin 640) q) := by
    unfold bytes tok
    congr 2
    · exact Fin.ext (by simp; omega)
    · exact Fin.ext (by simp; omega)
  rw [randAt_val sg _ h.bs (fun t => h.b_y t q)]
  pointwise [res_main_v221]
  rw [v207_at h, v203_at h, v206_at h, v133_at h, ← b]
  exact rand_count (magAt sg (fun t => Y t q) (tok g i)) (bytes V0 q (tok g i))

end Cert.ReferenceIdeal.Value

end
-- ==== Proof.Value.RefWords.lean ====
/- The reference's signed codes and their magnitudes, on the extended reals. -/
module

public import proofs.«01_k».proof.Proof.Value.RefCodes

@[expose] public section

set_option maxRecDepth 8192

noncomputable section

namespace Cert.ReferenceIdeal.Value

open Idealize.ShloMosaic Idealize.ShloMosaic.TcCoe Cert.Math
open Cert.ReferenceIdeal Facts₀ Facts

/-- Token `e` of pair `p`. -/
def pairTok (p : Fin 960) (e : Fin 2) : Fin 1920 := ⟨2 * p.val + e.val, by omega⟩

theorem pairTok_eq (p : Fin 960) (e : Fin 2) : pairTok p e = tok ⟨p.val / 16, by omega⟩ ⟨p.val % 16 * 2 + e.val, by omega⟩ :=
  Fin.ext (by unfold pairTok tok; simp; omega)

/-- Scaling keeps the sign. -/
theorem neg_word (s : Fin 32 → ℝ) (i : Fin 32) :
    decide (((s i * nu * 2 ^ (126 - (efOf s : ℤ)) : ℝ) : EReal) < 0) = decide (s i < 0) := by
  rw [decide_eq_decide, ← EReal.coe_zero, EReal.coe_lt_coe_iff]
  exact scaled_neg s i

variable [Facts] {V0 : Valuation τ sig (Elt Ideal)} {sg : Fin 32 → ℝ} {X : Fin 1920 → Fin 2048 → ℝ} {Y : Fin 1920 → Fin 5632 → ℝ}
  (h : Reals V0 sg X Y)
include h

/-- The first operand's codes with their signs. -/
theorem v91_at (q : Fin 2048) (p : Fin 960) (e : Fin 2) : res_main_v91 V0 (ix3 q p e)
    = (nib (nearAt sg (fun t => X t q) (pairTok p e)).val (negAt sg (fun t => X t q) (pairTok p e))).setWidth 32 := by
  rw [pairTok_eq, ← nib_word]
  pointwise [res_main_v91]
  rw [v81_at h, v51_at h, neg_word, ← negAt_tok]

/-- The even tokens' codes and the odd ones'. -/
theorem v93_at (q : Fin 2048) (p : Fin 960) : res_main_v93 V0 (ix2 q p)
    = (nib (nearAt sg (fun t => X t q) (pairTok p 0)).val (negAt sg (fun t => X t q) (pairTok p 0))).setWidth 32 := by
  rw [← v91_at h]
  pointwise [res_main_v93]
theorem v95_at (q : Fin 2048) (p : Fin 960) : res_main_v95 V0 (ix2 q p)
    = (nib (nearAt sg (fun t => X t q) (pairTok p 1)).val (negAt sg (fun t => X t q) (pairTok p 1))).setWidth 32 := by
  rw [← v91_at h]
  pointwise [res_main_v95]

/-- Their magnitudes. -/
theorem v326_at (q : Fin 2048) (p : Fin 960) : res_main_v326 V0 (ix2 q p) = ((grid (nearAt sg (fun t => X t q) (pairTok p 0)).val : ℝ) : EReal) := by
  pointwise [res_main_v326]
  exact mag_word _ _ _ (v93_at h q p)
theorem v429_at (q : Fin 2048) (p : Fin 960) : res_main_v429 V0 (ix2 q p) = ((grid (nearAt sg (fun t => X t q) (pairTok p 1)).val : ℝ) : EReal) := by
  pointwise [res_main_v429]
  exact mag_word _ _ _ (v95_at h q p)

/-- The second operand's codes with their signs. -/
theorem v231_at (q : Fin 5632) (p : Fin 960) (e : Fin 2) : res_main_v231 V0 (ix3 q p e)
    = (nib (randAt sg (fun t => Y t q) (bytes V0 q) (pairTok p e)).val (negAt sg (fun t => Y t q) (pairTok p e))).setWidth 32 := by
  rw [pairTok_eq, ← nib_word]
  pointwise [res_main_v231]
  rw [v221_at h, v130_at h, neg_word, ← negAt_tok]

/-- The even tokens' codes and the odd ones'. -/
theorem v233_at (q : Fin 5632) (p : Fin 960) : res_main_v233 V0 (ix2 q p)
    = (nib (randAt sg (fun t => Y t q) (bytes V0 q) (pairTok p 0)).val (negAt sg (fun t => Y t q) (pairTok p 0))).setWidth 32 := by
  rw [← v231_at h]
  pointwise [res_main_v233]
theorem v235_at (q : Fin 5632) (p : Fin 960) : res_main_v235 V0 (ix2 q p)
    = (nib (randAt sg (fun t => Y t q) (bytes V0 q) (pairTok p 1)).val (negAt sg (fun t => Y t q) (pairTok p 1))).setWidth 32 := by
  rw [← v231_at h]
  pointwise [res_main_v235]

/-- Their magnitudes. -/
theorem v275_at (q : Fin 5632) (p : Fin 960) : res_main_v275 V0 (ix2 q p) = ((grid (randAt sg (fun t => Y t q) (bytes V0 q) (pairTok p 0)).val : ℝ) : EReal) := by
  pointwise [res_main_v275]
  exact mag_word _ _ _ (v233_at h q p)
theorem v378_at (q : Fin 5632) (p : Fin 960) : res_main_v378 V0 (ix2 q p) = ((grid (randAt sg (fun t => Y t q) (bytes V0 q) (pairTok p 1)).val : ℝ) : EReal) := by
  pointwise [res_main_v378]
  exact mag_word _ _ _ (v235_at h q p)

end Cert.ReferenceIdeal.Value

end
-- ==== Proof.Value.RefGrad.lean ====
/- The reference's weight gradient, on the extended reals. -/
module

public import proofs.«01_k».proof.Proof.Value.RefWords

@[expose] public section

set_option maxRecDepth 8192

noncomputable section

namespace Cert.ReferenceIdeal.Value

open Idealize.ShloMosaic Idealize.ShloMosaic.TcCoe Cert.Math
open Cert.ReferenceIdeal Facts₀ Facts

variable [Facts]

/-- The product, at an index. -/
theorem dot_at (A : FVec Ideal S5632x960 .bf16) (B : FVec Ideal S2048x960 .bf16) (n : Fin 5632) (k : Fin 2048) :
    Host.dotGeneral dot_S5632x960_S2048x960_S5632x2048_1_1_0_0_n_n none A B (ix2 n k) = ∑ p : Fin 960, A (ix2 n p) * B (ix2 k p) := by
  pointwise

theorem blk_pair (p : Fin 960) (e : Fin 2) : blk (pairTok p e) = ⟨p.val / 16, by omega⟩ := by
  rw [pairTok_eq, blk_tok]

/-- An operand of the product: the signed magnitudes times the powers of two of the blocks' exponents. -/
def operand_x (w : IVec S2048x960 32) (mag : FVec Ideal S2048x960 .bf16) (e : IVec S2048x60 32) : FVec Ideal S2048x960 .bf16 :=
  shapeCast _ (mulf (shapeCast _ (select (cmpi .ne (andi w (broadcastInDim S2048x960 ![] bcast_S_S2048x960 (constantI S_ 32 8#32))) (broadcastInDim S2048x960 ![] bcast_S_S2048x960 (constantI S_ 32 0#32))) (Host.negf mag) mag) shapeCasts_S2048x960_S2048x60x16)
    (broadcastInDim S2048x60x16 ![0, 1, 2] bcast_S2048x60x1_S2048x60x16_0_1_2 (broadcastInDim S2048x60x1 ![0, 1] bcast_S2048x60_S2048x60x1_0_1 (truncf .bf16 (Host.powf (broadcastInDim S2048x60 ![] bcast_S_S2048x60 (constant S_ .f32 0x40000000#32)) (sitofp .f32 e)) bitsLt_bf16_f32)))) shapeCasts_S2048x60x16_S2048x960

theorem operand_x_at (w : IVec S2048x960 32) (mag : FVec Ideal S2048x960 .bf16) (e : IVec S2048x60 32) (q : Fin 2048) (p : Fin 960) :
    operand_x w mag e (ix2 q p) = Scalar.select (IntOp.cmpi .ne (IntOp.andi (w (ix2 q p)) 8#32) 0#32) (-(mag (ix2 q p))) (mag (ix2 q p))
      * Ideal.pow (Ideal.ofBits .f32 1073741824#32) (FloatOps.sitofp (F := Ideal) .f32 (e (ix2 q (⟨p.val / 16, by omega⟩ : Fin 60)))) := by
  pointwise [operand_x]

/-- An operand of the product: the signed magnitudes times the powers of two of the blocks' exponents. -/
def operand_y (w : IVec S5632x960 32) (mag : FVec Ideal S5632x960 .bf16) (e : IVec S5632x60 32) : FVec Ideal S5632x960 .bf16 :=
  shapeCast _ (mulf (shapeCast _ (select (cmpi .ne (andi w (broadcastInDim S5632x960 ![] bcast_S_S5632x960 (constantI S_ 32 8#32))) (broadcastInDim S5632x960 ![] bcast_S_S5632x960 (constantI S_ 32 0#32))) (Host.negf mag) mag) shapeCasts_S5632x960_S5632x60x16)
    (broadcastInDim S5632x60x16 ![0, 1, 2] bcast_S5632x60x1_S5632x60x16_0_1_2 (broadcastInDim S5632x60x1 ![0, 1] bcast_S5632x60_S5632x60x1_0_1 (truncf .bf16 (Host.powf (broadcastInDim S5632x60 ![] bcast_S_S5632x60 (constant S_ .f32 0x40000000#32)) (sitofp .f32 e)) bitsLt_bf16_f32)))) shapeCasts_S5632x60x16_S5632x960

theorem operand_y_at (w : IVec S5632x960 32) (mag : FVec Ideal S5632x960 .bf16) (e : IVec S5632x60 32) (q : Fin 5632) (p : Fin 960) :
    operand_y w mag e (ix2 q p) = Scalar.select (IntOp.cmpi .ne (IntOp.andi (w (ix2 q p)) 8#32) 0#32) (-(mag (ix2 q p))) (mag (ix2 q p))
      * Ideal.pow (Ideal.ofBits .f32 1073741824#32) (FloatOps.sitofp (F := Ideal) .f32 (e (ix2 q (⟨p.val / 16, by omega⟩ : Fin 60)))) := by
  pointwise [operand_y]

variable {V0 : Valuation τ sig (Elt Ideal)} {sg : Fin 32 → ℝ} {X : Fin 1920 → Fin 2048 → ℝ} {Y : Fin 1920 → Fin 5632 → ℝ}
  (h : Reals V0 sg X Y)
include h

/-- The first operand's quantised numbers. -/
theorem number_x0 (q : Fin 2048) (p : Fin 960) : operand_x (res_main_v93 V0) (res_main_v326 V0) (res_main_v44 V0) (ix2 q p)
    = ((numAt sg (fun t => X t q) (nearAt sg (fun t => X t q)) (pairTok p 0) : ℝ) : EReal) := by
  rw [operand_x_at, v326_at h, v44_at h]
  unfold numAt
  rw [blk_pair]
  exact num_word _ _ _ (v93_at h q p) _ (exAt_le sg _ h.bs (fun t => h.bx t q) _)
theorem number_x1 (q : Fin 2048) (p : Fin 960) : operand_x (res_main_v95 V0) (res_main_v429 V0) (res_main_v44 V0) (ix2 q p)
    = ((numAt sg (fun t => X t q) (nearAt sg (fun t => X t q)) (pairTok p 1) : ℝ) : EReal) := by
  rw [operand_x_at, v429_at h, v44_at h]
  unfold numAt
  rw [blk_pair]
  exact num_word _ _ _ (v95_at h q p) _ (exAt_le sg _ h.bs (fun t => h.bx t q) _)

/-- The second operand's quantised numbers. -/
theorem number_y0 (q : Fin 5632) (p : Fin 960) : operand_y (res_main_v233 V0) (res_main_v275 V0) (res_main_v123 V0) (ix2 q p)
    = ((numAt sg (fun t => Y t q) (randAt sg (fun t => Y t q) (bytes V0 q)) (pairTok p 0) : ℝ) : EReal) := by
  rw [operand_y_at, v275_at h, v123_at h]
  unfold numAt
  rw [blk_pair]
  exact num_word _ _ _ (v233_at h q p) _ (exAt_le sg _ h.bs (fun t => h.b_y t q) _)
theorem number_y1 (q : Fin 5632) (p : Fin 960) : operand_y (res_main_v235 V0) (res_main_v378 V0) (res_main_v123 V0) (ix2 q p)
    = ((numAt sg (fun t => Y t q) (randAt sg (fun t => Y t q) (bytes V0 q)) (pairTok p 1) : ℝ) : EReal) := by
  rw [operand_y_at, v378_at h, v123_at h]
  unfold numAt
  rw [blk_pair]
  exact num_word _ _ _ (v235_at h q p) _ (exAt_le sg _ h.bs (fun t => h.b_y t q) _)

/-- The weight gradient. -/
theorem grad_at (n : Fin 5632) (k : Fin 2048) :
    addf (Host.dotGeneral dot_S5632x960_S2048x960_S5632x2048_1_1_0_0_n_n none
        (operand_y (res_main_v233 V0) (res_main_v275 V0) (res_main_v123 V0)) (operand_x (res_main_v93 V0) (res_main_v326 V0) (res_main_v44 V0)))
      (Host.dotGeneral dot_S5632x960_S2048x960_S5632x2048_1_1_0_0_n_n none
        (operand_y (res_main_v235 V0) (res_main_v378 V0) (res_main_v123 V0)) (operand_x (res_main_v95 V0) (res_main_v429 V0) (res_main_v44 V0))) (ix2 n k)
    = ((gradOf sg (fun t => X t k) (fun t => Y t n) (bytes V0 n) : ℝ) : EReal) := by
  refine (congrArg₂ (fun a b : EReal => a + b) (dot_at _ _ n k) (dot_at _ _ n k)).trans ?_
  unfold gradOf
  rw [← sum_even_odd, EReal.coe_add, coe_sum, coe_sum]
  refine congrArg₂ (fun a b : EReal => a + b) (Finset.sum_congr rfl fun p _ => ?_) (Finset.sum_congr rfl fun p _ => ?_)
  · rw [number_y0 h, number_x0 h, ← EReal.coe_mul]
    rfl
  · rw [number_y1 h, number_x1 h, ← EReal.coe_mul]
    rfl

end Cert.ReferenceIdeal.Value

end
-- ==== Proof.Value.RefResults.lean ====
/- The reference's result arrays, on the extended reals. -/
module

public import proofs.«01_k».proof.Proof.Value.RefGrad
public import proofs.«01_k».proof.Proof.Math.Table

@[expose] public section

set_option maxRecDepth 8192

noncomputable section

namespace Cert.ReferenceIdeal.Value

open Idealize.ShloMosaic Idealize.ShloMosaic.TcCoe Cert.Math
open Cert.ReferenceIdeal Facts₀ Facts

variable [Facts] {V0 : Valuation τ sig (Elt Ideal)} {sg : Fin 32 → ℝ} {X : Fin 1920 → Fin 2048 → ℝ} {Y : Fin 1920 → Fin 5632 → ℝ}
  (h : Reals V0 sg X Y)
include h

/-- The weight gradient. -/
theorem result_dw : addf (Host.dotGeneral dot_S5632x960_S2048x960_S5632x2048_1_1_0_0_n_n none
        (operand_y (res_main_v233 V0) (res_main_v275 V0) (res_main_v123 V0)) (operand_x (res_main_v93 V0) (res_main_v326 V0) (res_main_v44 V0)))
      (Host.dotGeneral dot_S5632x960_S2048x960_S5632x2048_1_1_0_0_n_n none
        (operand_y (res_main_v235 V0) (res_main_v378 V0) (res_main_v123 V0)) (operand_x (res_main_v95 V0) (res_main_v429 V0) (res_main_v44 V0)))
    = (grid2 fun n k => (gradOf sg (fun t => X t k) (fun t => Y t n) (bytes V0 n) : EReal) : S5632x2048.Idx → EReal) :=
  eq_grid2 _ _ fun n k => grad_at h n k

/-- The first operand's codes. -/
theorem result_xc : trunci 8 (ori (res_main_v93 V0) (Host.shli (res_main_v95 V0) (broadcastInDim S2048x960 ![] bcast_S_S2048x960 (constantI S_ 32 4#32)))) natLt_8_32
    = (grid2 fun q p => byteOf (nearAt sg (fun t => X t q)) (negAt sg (fun t => X t q)) p : S2048x960.Idx → BitVec 8) := by
  refine eq_grid2 _ _ fun q p => ?_
  refine Eq.trans ?_ (pair_word _ _)
  exact congrArg₂ (fun a b => BitVec.setWidth 8 (IntOp.ori a (IntOp.shli ArithUnit.host b 4#32))) (v93_at h q p) (v95_at h q p)

/-- Its scales. -/
theorem result_xs : trunci 8 (addi (res_main_v44 V0) (broadcastInDim S2048x60 ![] bcast_S_S2048x60 (constantI S_ 32 127#32))) natLt_8_32
    = (grid2 fun q g => BitVec.ofNat 8 (exAt sg (fun t => X t q) g + 1) : S2048x60.Idx → BitVec 8) := by
  refine eq_grid2 _ _ fun q g => ?_
  refine Eq.trans ?_ (exponent_byte ⟨_, Nat.lt_succ_of_le (exAt_le sg _ h.bs (fun t => h.bx t q) g)⟩)
  rw [← v44_at h q g]
  rfl

/-- The second operand's codes. -/
theorem result_yc : trunci 8 (ori (res_main_v233 V0) (Host.shli (res_main_v235 V0) (broadcastInDim S5632x960 ![] bcast_S_S5632x960 (constantI S_ 32 4#32)))) natLt_8_32
    = (grid2 fun q p => byteOf (randAt sg (fun t => Y t q) (bytes V0 q)) (negAt sg (fun t => Y t q)) p : S5632x960.Idx → BitVec 8) := by
  refine eq_grid2 _ _ fun q p => ?_
  refine Eq.trans ?_ (pair_word _ _)
  exact congrArg₂ (fun a b => BitVec.setWidth 8 (IntOp.ori a (IntOp.shli ArithUnit.host b 4#32))) (v233_at h q p) (v235_at h q p)

/-- Its scales. -/
theorem result_ys : trunci 8 (addi (res_main_v123 V0) (broadcastInDim S5632x60 ![] bcast_S_S5632x60 (constantI S_ 32 127#32))) natLt_8_32
    = (grid2 fun q g => BitVec.ofNat 8 (exAt sg (fun t => Y t q) g + 1) : S5632x60.Idx → BitVec 8) := by
  refine eq_grid2 _ _ fun q g => ?_
  refine Eq.trans ?_ (exponent_byte ⟨_, Nat.lt_succ_of_le (exAt_le sg _ h.bs (fun t => h.b_y t q) g)⟩)
  rw [← v123_at h q g]
  rfl

end Cert.ReferenceIdeal.Value

end
-- ==== Proof.Value.Range.lean ====
/- The precondition: every argument is a real number within bounds. -/
module

public import proofs.«01_k».proof.Proof.Gen.Pre_in_range
public import proofs.«01_k».proof.Proof.Math.Column
public import Idealize.ShloMosaic.Lib.ReduceAll
public import Idealize.ShloMosaic.Lib.Pointwise

@[expose] public section

noncomputable section

namespace Cert.Pre_in_range

open Idealize.ShloMosaic Cert.Math

/-- A number whose magnitude is at most a power of two is real. -/
theorem small (x : EReal) (h : Ideal.cmp .ole (max x (-x)) (Ideal.ofBits .f32 0x5D800000#32) = 1#1) : ∃ r : ℝ, |r| ≤ 2 ^ (60 : ℤ) ∧ x = (r : EReal) := by
  have p : (2 : ℝ) ^ (60 : ℤ) = 1152921504606846976 := by norm_num
  have b : Ideal.ofBits .f32 0x5D800000#32 = ((1152921504606846976 : ℝ) : EReal) := by
    simp [Ideal.ofBits, Ideal.ieee, -EReal.coe_mul]; norm_num
  rw [p]
  rw [b] at h
  have l : max x (-x) ≤ ((1152921504606846976 : ℝ) : EReal) := by
    by_contra n
    have : Ideal.cmp .ole (max x (-x)) ((1152921504606846976 : ℝ) : EReal) = 0#1 :=
      congrArg BitVec.ofBool (decide_eq_false n)
    rw [this] at h
    exact absurd h (by decide)
  induction x with
  | bot => exact absurd ((le_max_right _ _).trans l) (by rw [EReal.neg_bot]; exact not_le.mpr (EReal.coe_lt_top _))
  | top => exact absurd ((le_max_left _ _).trans l) (not_le.mpr (EReal.coe_lt_top _))
  | coe r => exact ⟨r, by rwa [← coe_abs, EReal.coe_le_coe_iff] at l, rfl⟩

theorem and_one : ∀ a b : BitVec 1, IntOp.andi a b = 1#1 → a = 1#1 ∧ b = 1#1 := by decide

variable [Facts]

/-- Arguments in range are real numbers within bounds. -/
theorem reals (x : FVec Ideal S3x640x2048 .bf16) (y : FVec Ideal S3x640x5632 .bf16) (s : FVec Ideal S32 .f32) (u : IVec S3x640x5632 8)
    (h : fn (F := Ideal) x y s u = fun _ => 1#1) :
    (∀ i, ∃ r : ℝ, |r| ≤ 2 ^ (60 : ℤ) ∧ x i = ((r : ℝ) : EReal)) ∧ (∀ i, ∃ r : ℝ, |r| ≤ 2 ^ (60 : ℤ) ∧ y i = ((r : ℝ) : EReal))
      ∧ ∀ i, ∃ r : ℝ, |r| ≤ 2 ^ (60 : ℤ) ∧ s i = ((r : ℝ) : EReal) := by
  have _ : Subsingleton S_.Idx := ⟨fun a b => funext fun k => k.elim0⟩
  have e := congrFun h ix0
  unfold fn at e
  obtain ⟨e, e2⟩ := and_one _ _ e
  obtain ⟨e0, e1⟩ := and_one _ _ e
  exact ⟨fun i => small _ (Host.reduce_andi_all _ _ _ _ _ e0 i), fun i => small _ (Host.reduce_andi_all _ _ _ _ _ e1 i),
    fun i => small _ (Host.reduce_andi_all _ _ _ _ _ e2 i)⟩

end Cert.Pre_in_range

end
-- ==== Proof.Value.Agree.lean ====
/- The kernel's results are the reference's, on the extended reals. -/
module

public import proofs.«01_k».proof.Defs
public import proofs.«01_k».proof.Proof.Value.Results
public import proofs.«01_k».proof.Proof.Value.RefResults
public import proofs.«01_k».proof.Proof.Value.Range

@[expose] public section

noncomputable section

namespace Cert.Agree

open Idealize.ShloMosaic Idealize.ShloMosaic.TcCoe Cert.Math

/-- The kernel's arguments, in range, as real numbers. -/
theorem kernel_reals [Cert.Pre_in_range.Facts] (m : (ℓ : Loc Cert.KernelIdeal.nD Cert.KernelIdeal.τ Cert.KernelIdeal.sig) → Buf (Elt Ideal) ℓ)
    (c : Dev Cert.KernelIdeal.nD)
    (h : Cert.Pre_in_range.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    ∃ sg X Y, Cert.KernelIdeal.Run.Reals m c sg X Y := by
  obtain ⟨hx, hy, hs⟩ := Cert.Pre_in_range.reals _ _ _ _ h
  choose x bx ex using hx
  choose y b_y ey using hy
  choose s bs es using hs
  exact ⟨fun j => s (ix1 j), fun t q => x (ix3 ⟨t.val / 640, by omega⟩ ⟨t.val % 640, by omega⟩ q),
    fun t q => y (ix3 ⟨t.val / 640, by omega⟩ ⟨t.val % 640, by omega⟩ q),
    fun _ => es _, fun _ _ => ex _, fun _ _ => ey _, fun _ => bs _, fun _ _ => bx _, fun _ _ => b_y _⟩

/-- The kernel's run: its results, and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4_0) = (Cert.KernelIdeal.Run.dats m 0 c).arrAt 4 Cert.KernelIdeal.cfg0.N
      ∧ r.2.mem ((c.tc : Thread Cert.KernelIdeal.nD Cert.KernelIdeal.τ).loc Cert.KernelIdeal.main_v4_1) = (Cert.KernelIdeal.Run.dats m 0 c).arrAt 5 Cert.KernelIdeal.cfg0.N
      ∧ r.2.mem ((c.tc : Thread Cert.KernelIdeal.nD Cert.KernelIdeal.τ).loc Cert.KernelIdeal.main_v4_2) = (Cert.KernelIdeal.Run.dats m 0 c).arrAt 6 Cert.KernelIdeal.cfg0.N
      ∧ r.2.mem ((c.tc : Thread Cert.KernelIdeal.nD Cert.KernelIdeal.τ).loc Cert.KernelIdeal.main_v4_3) = (Cert.KernelIdeal.Run.dats m 0 c).arrAt 7 Cert.KernelIdeal.cfg0.N
      ∧ r.2.mem ((c.tc : Thread Cert.KernelIdeal.nD Cert.KernelIdeal.τ).loc Cert.KernelIdeal.main_v4_4) = (Cert.KernelIdeal.Run.dats m 0 c).arrAt 8 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨(h.1 c).1 4, (h.1 c).1 5, (h.1 c).1 6, (h.1 c).1 7, (h.1 c).1 8,
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c)⟩)
    (Cert.KernelIdeal.Run.run_main m ρ)

/-- The reference's arguments are the kernel's. -/
theorem reference_reals (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    {sg : Fin 32 → ℝ} {X : Fin 1920 → Fin 2048 → ℝ} {Y : Fin 1920 → Fin 5632 → ℝ} (h : Cert.KernelIdeal.Run.Reals m c sg X Y) :
    Cert.ReferenceIdeal.Value.Reals (StableHlo.launchContents m' c) sg X Y :=
  ⟨fun j => (congrFun h2 (ix1 j)).trans (h.s j), fun t q => (congrFun h0 _).trans (h.x t q), fun t q => (congrFun h1 _).trans (h.y t q), h.bs, h.bx, h.b_y⟩

/-- The random bytes are the same. -/
theorem reference_bytes (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (n : Fin 5632) : Cert.ReferenceIdeal.Value.bytes (StableHlo.launchContents m' c) n = Cert.KernelIdeal.Run.randOf m c n :=
  funext fun _ => congrFun h3 _

/-- The reference's run: from the same arguments, in range, its results are the kernel's. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (h : Cert.Pre_KernelIdeal_in_range m) (he : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v442) = (Cert.KernelIdeal.Run.dats m 0 c).arrAt 4 Cert.KernelIdeal.cfg0.N
      ∧ r.2.mem ((c.tc : Thread Cert.ReferenceIdeal.nD Cert.ReferenceIdeal.τ).loc Cert.ReferenceIdeal.main_v446) = (Cert.KernelIdeal.Run.dats m 0 c).arrAt 5 Cert.KernelIdeal.cfg0.N
      ∧ r.2.mem ((c.tc : Thread Cert.ReferenceIdeal.nD Cert.ReferenceIdeal.τ).loc Cert.ReferenceIdeal.main_v449) = (Cert.KernelIdeal.Run.dats m 0 c).arrAt 6 Cert.KernelIdeal.cfg0.N
      ∧ r.2.mem ((c.tc : Thread Cert.ReferenceIdeal.nD Cert.ReferenceIdeal.τ).loc Cert.ReferenceIdeal.main_v453) = (Cert.KernelIdeal.Run.dats m 0 c).arrAt 7 Cert.KernelIdeal.cfg0.N
      ∧ r.2.mem ((c.tc : Thread Cert.ReferenceIdeal.nD Cert.ReferenceIdeal.τ).loc Cert.ReferenceIdeal.main_v456) = (Cert.KernelIdeal.Run.dats m 0 c).arrAt 8 Cert.KernelIdeal.cfg0.N
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun r q c => ?_) (Cert.ReferenceIdeal.Value.run m' g')
  obtain ⟨q0, q1, q2, q3, q4, qa⟩ := q c
  obtain ⟨e0, e1, e2, e3⟩ := he c
  obtain ⟨sg, X, Y, hk⟩ := kernel_reals m c (h c)
  have hr := reference_reals m m' c e0 e1 e2 hk
  have hb := reference_bytes m m' c e3
  refine ⟨q0.trans ?_, q1.trans ?_, q2.trans ?_, q3.trans ?_, q4.trans ?_, qa⟩
  · refine (Cert.ReferenceIdeal.Value.result_dw hr).trans ?_
    simp only [hb]
    exact (Cert.KernelIdeal.Run.final_dw m c hk).symm
  · exact (Cert.ReferenceIdeal.Value.result_xc hr).trans (Cert.KernelIdeal.Run.final_xc m c hk).symm
  · exact (Cert.ReferenceIdeal.Value.result_xs hr).trans (Cert.KernelIdeal.Run.final_xs m c hk).symm
  · refine (Cert.ReferenceIdeal.Value.result_yc hr).trans ?_
    simp only [hb]
    exact (Cert.KernelIdeal.Run.final_yc m c hk).symm
  · exact (Cert.ReferenceIdeal.Value.result_ys hr).trans (Cert.KernelIdeal.Run.final_ys m c hk).symm

/-- From the same arguments, in range, the kernel and the reference end with the same results. -/
theorem algebraic : Cert.algebraic_KernelIdeal_ReferenceIdeal_pre_in_range :=
  fun m g m' g' h he => ⟨_, _, _, _, _, kernel_run m g, reference_run m m' g' h he⟩

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.FrameBits
public import proofs.«01_k».proof.Proof.FrameRef
public import proofs.«01_k».proof.Proof.Run
public import proofs.«01_k».proof.Proof.Value.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.frame_kernel, fun m g _ => Cert.KernelIdeal.Run.frame m g, fun m g _ => Cert.KernelIdeal.Run.frame m g,
  Cert.frame_reference, fun m g _ => Cert.frame_reference m g trivial, trivial, Cert.Agree.algebraic⟩

end Cert.Proof

end
